-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_a_finite [hPre_a_finite : Cert.Pre_a_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_a_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9))).1 = (fun _ => 1#1)
    ∧ (Cert.Pre_a_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9))).2.1 = (fun _ => 1#1)
    ∧ (Cert.Pre_a_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9))).2.2.1 = (fun _ => 1#1)
    ∧ (Cert.Pre_a_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9))).2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_a_finite [hPre_a_finite : Cert.Pre_a_finite.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_a_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9))).1 = (fun _ => 1#1)
    ∧ (Cert.Pre_a_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9))).2.1 = (fun _ => 1#1)
    ∧ (Cert.Pre_a_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9))).2.2.1 = (fun _ => 1#1)
    ∧ (Cert.Pre_a_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9))).2.2.2 = (fun _ => 1#1)

def Pre_BKernel (m : (ℓ : Loc Cert.BKernel.nD Cert.BKernel.τ Cert.BKernel.sig) → Buf (Elt Bits) ℓ) : Prop :=
  True

def Pre_BKernelIdeal (m : (ℓ : Loc Cert.BKernelIdeal.nD Cert.BKernelIdeal.τ Cert.BKernelIdeal.sig) → Buf (Elt Ideal) ℓ) : Prop :=
  True

def Pre_BKernelIdeal_b_finite [hPre_b_finite : Cert.Pre_b_finite.Facts] (m : (ℓ : Loc Cert.BKernelIdeal.nD Cert.BKernelIdeal.τ Cert.BKernelIdeal.sig) → Buf (Elt Ideal) ℓ) : Prop :=
  ∀ c : Dev Cert.BKernelIdeal.nD,
    (Cert.Pre_b_finite.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3)) (m ((c.tc : Thread Cert.BKernelIdeal.nD Cert.BKernelIdeal.τ).loc Cert.BKernelIdeal.main_arg4)) (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6)) (m ((c.tc : Thread Cert.BKernelIdeal.nD Cert.BKernelIdeal.τ).loc Cert.BKernelIdeal.main_arg7)) (m ((c.tc : Thread Cert.BKernelIdeal.nD Cert.BKernelIdeal.τ).loc Cert.BKernelIdeal.main_arg8)) (m ((c.tc : Thread Cert.BKernelIdeal.nD Cert.BKernelIdeal.τ).loc Cert.BKernelIdeal.main_arg9)) (m ((c.tc : Thread Cert.BKernelIdeal.nD Cert.BKernelIdeal.τ).loc Cert.BKernelIdeal.main_arg10))).1 = (fun _ => 1#1)
    ∧ (Cert.Pre_b_finite.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3)) (m ((c.tc : Thread Cert.BKernelIdeal.nD Cert.BKernelIdeal.τ).loc Cert.BKernelIdeal.main_arg4)) (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6)) (m ((c.tc : Thread Cert.BKernelIdeal.nD Cert.BKernelIdeal.τ).loc Cert.BKernelIdeal.main_arg7)) (m ((c.tc : Thread Cert.BKernelIdeal.nD Cert.BKernelIdeal.τ).loc Cert.BKernelIdeal.main_arg8)) (m ((c.tc : Thread Cert.BKernelIdeal.nD Cert.BKernelIdeal.τ).loc Cert.BKernelIdeal.main_arg9)) (m ((c.tc : Thread Cert.BKernelIdeal.nD Cert.BKernelIdeal.τ).loc Cert.BKernelIdeal.main_arg10))).2.1 = (fun _ => 1#1)
    ∧ (Cert.Pre_b_finite.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3)) (m ((c.tc : Thread Cert.BKernelIdeal.nD Cert.BKernelIdeal.τ).loc Cert.BKernelIdeal.main_arg4)) (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6)) (m ((c.tc : Thread Cert.BKernelIdeal.nD Cert.BKernelIdeal.τ).loc Cert.BKernelIdeal.main_arg7)) (m ((c.tc : Thread Cert.BKernelIdeal.nD Cert.BKernelIdeal.τ).loc Cert.BKernelIdeal.main_arg8)) (m ((c.tc : Thread Cert.BKernelIdeal.nD Cert.BKernelIdeal.τ).loc Cert.BKernelIdeal.main_arg9)) (m ((c.tc : Thread Cert.BKernelIdeal.nD Cert.BKernelIdeal.τ).loc Cert.BKernelIdeal.main_arg10))).2.2 = (fun _ => 1#1)

def Pre_BReferenceIdeal (m : (ℓ : Loc Cert.BReferenceIdeal.nD Cert.BReferenceIdeal.τ Cert.BReferenceIdeal.sig) → Buf (Elt Ideal) ℓ) : Prop :=
  True

def Pre_BReferenceIdeal_b_finite [hPre_b_finite : Cert.Pre_b_finite.Facts] (m : (ℓ : Loc Cert.BReferenceIdeal.nD Cert.BReferenceIdeal.τ Cert.BReferenceIdeal.sig) → Buf (Elt Ideal) ℓ) : Prop :=
  ∀ c : Dev Cert.BReferenceIdeal.nD,
    (Cert.Pre_b_finite.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3)) (m ((c.tc : Thread Cert.BReferenceIdeal.nD Cert.BReferenceIdeal.τ).loc Cert.BReferenceIdeal.main_arg4)) (m ((c.tc : Thread Cert.BReferenceIdeal.nD Cert.BReferenceIdeal.τ).loc Cert.BReferenceIdeal.main_arg5)) (m ((c.tc : Thread Cert.BReferenceIdeal.nD Cert.BReferenceIdeal.τ).loc Cert.BReferenceIdeal.main_arg6)) (m ((c.tc : Thread Cert.BReferenceIdeal.nD Cert.BReferenceIdeal.τ).loc Cert.BReferenceIdeal.main_arg7)) (m ((c.tc : Thread Cert.BReferenceIdeal.nD Cert.BReferenceIdeal.τ).loc Cert.BReferenceIdeal.main_arg8)) (m ((c.tc : Thread Cert.BReferenceIdeal.nD Cert.BReferenceIdeal.τ).loc Cert.BReferenceIdeal.main_arg9)) (m ((c.tc : Thread Cert.BReferenceIdeal.nD Cert.BReferenceIdeal.τ).loc Cert.BReferenceIdeal.main_arg10))).1 = (fun _ => 1#1)
    ∧ (Cert.Pre_b_finite.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3)) (m ((c.tc : Thread Cert.BReferenceIdeal.nD Cert.BReferenceIdeal.τ).loc Cert.BReferenceIdeal.main_arg4)) (m ((c.tc : Thread Cert.BReferenceIdeal.nD Cert.BReferenceIdeal.τ).loc Cert.BReferenceIdeal.main_arg5)) (m ((c.tc : Thread Cert.BReferenceIdeal.nD Cert.BReferenceIdeal.τ).loc Cert.BReferenceIdeal.main_arg6)) (m ((c.tc : Thread Cert.BReferenceIdeal.nD Cert.BReferenceIdeal.τ).loc Cert.BReferenceIdeal.main_arg7)) (m ((c.tc : Thread Cert.BReferenceIdeal.nD Cert.BReferenceIdeal.τ).loc Cert.BReferenceIdeal.main_arg8)) (m ((c.tc : Thread Cert.BReferenceIdeal.nD Cert.BReferenceIdeal.τ).loc Cert.BReferenceIdeal.main_arg9)) (m ((c.tc : Thread Cert.BReferenceIdeal.nD Cert.BReferenceIdeal.τ).loc Cert.BReferenceIdeal.main_arg10))).2.1 = (fun _ => 1#1)
    ∧ (Cert.Pre_b_finite.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3)) (m ((c.tc : Thread Cert.BReferenceIdeal.nD Cert.BReferenceIdeal.τ).loc Cert.BReferenceIdeal.main_arg4)) (m ((c.tc : Thread Cert.BReferenceIdeal.nD Cert.BReferenceIdeal.τ).loc Cert.BReferenceIdeal.main_arg5)) (m ((c.tc : Thread Cert.BReferenceIdeal.nD Cert.BReferenceIdeal.τ).loc Cert.BReferenceIdeal.main_arg6)) (m ((c.tc : Thread Cert.BReferenceIdeal.nD Cert.BReferenceIdeal.τ).loc Cert.BReferenceIdeal.main_arg7)) (m ((c.tc : Thread Cert.BReferenceIdeal.nD Cert.BReferenceIdeal.τ).loc Cert.BReferenceIdeal.main_arg8)) (m ((c.tc : Thread Cert.BReferenceIdeal.nD Cert.BReferenceIdeal.τ).loc Cert.BReferenceIdeal.main_arg9)) (m ((c.tc : Thread Cert.BReferenceIdeal.nD Cert.BReferenceIdeal.τ).loc Cert.BReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8)
      ∧ r.2.mem ((c.tc : Thread Cert.InKernel.nD Cert.InKernel.τ).loc Cert.InKernel.main_arg9) = m ((c.tc : Thread Cert.InKernel.nD Cert.InKernel.τ).loc Cert.InKernel.main_arg9))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9))
      ∧ r.2.sem = fun _ => 0)

def quiescent_InKernelIdeal_pre_a_finite [hInKernelIdeal : Cert.InKernelIdeal.Facts] [hPre_a_finite : Cert.Pre_a_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_a_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9))
      ∧ r.2.sem = fun _ => 0)

def quiescent_InReferenceIdeal_pre_a_finite [hInReferenceIdeal : Cert.InReferenceIdeal.Facts] [hPre_a_finite : Cert.Pre_a_finite.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_a_finite m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9))
      ∧ r.2.sem = fun _ => 0)

def quiescent_BKernel [hBKernel : Cert.BKernel.Facts] : Prop :=
  ∀ (m : (ℓ : Loc Cert.BKernel.nD Cert.BKernel.τ Cert.BKernel.sig) → Buf (Elt Bits) ℓ) (g : Dev Cert.BKernel.nD → PrngReg), Pre_BKernel m →
    θ_run (Cert.BKernel.defs (F := Bits)) (onTc (τ := Cert.BKernel.τ) (Cert.BKernel.main (F := Bits))) ⟨m, fun _ => 0, g⟩ (fun r => (∀ c : Dev Cert.BKernel.nD,
      r.2.mem ((c.tc : Thread Cert.BKernel.nD Cert.BKernel.τ).loc Cert.BKernel.main_arg0) = m ((c.tc : Thread Cert.BKernel.nD Cert.BKernel.τ).loc Cert.BKernel.main_arg0)
      ∧ r.2.mem ((c.tc : Thread Cert.BKernel.nD Cert.BKernel.τ).loc Cert.BKernel.main_arg1) = m ((c.tc : Thread Cert.BKernel.nD Cert.BKernel.τ).loc Cert.BKernel.main_arg1)
      ∧ r.2.mem ((c.tc : Thread Cert.BKernel.nD Cert.BKernel.τ).loc Cert.BKernel.main_arg2) = m ((c.tc : Thread Cert.BKernel.nD Cert.BKernel.τ).loc Cert.BKernel.main_arg2)
      ∧ r.2.mem ((c.tc : Thread Cert.BKernel.nD Cert.BKernel.τ).loc Cert.BKernel.main_arg3) = m ((c.tc : Thread Cert.BKernel.nD Cert.BKernel.τ).loc Cert.BKernel.main_arg3)
      ∧ r.2.mem ((c.tc : Thread Cert.BKernel.nD Cert.BKernel.τ).loc Cert.BKernel.main_arg4) = m ((c.tc : Thread Cert.BKernel.nD Cert.BKernel.τ).loc Cert.BKernel.main_arg4)
      ∧ r.2.mem ((c.tc : Thread Cert.BKernel.nD Cert.BKernel.τ).loc Cert.BKernel.main_arg5) = m ((c.tc : Thread Cert.BKernel.nD Cert.BKernel.τ).loc Cert.BKernel.main_arg5)
      ∧ r.2.mem ((c.tc : Thread Cert.BKernel.nD Cert.BKernel.τ).loc Cert.BKernel.main_arg6) = m ((c.tc : Thread Cert.BKernel.nD Cert.BKernel.τ).loc Cert.BKernel.main_arg6)
      ∧ r.2.mem ((c.tc : Thread Cert.BKernel.nD Cert.BKernel.τ).loc Cert.BKernel.main_arg7) = m ((c.tc : Thread Cert.BKernel.nD Cert.BKernel.τ).loc Cert.BKernel.main_arg7)
      ∧ r.2.mem ((c.tc : Thread Cert.BKernel.nD Cert.BKernel.τ).loc Cert.BKernel.main_arg8) = m ((c.tc : Thread Cert.BKernel.nD Cert.BKernel.τ).loc Cert.BKernel.main_arg8)
      ∧ r.2.mem ((c.tc : Thread Cert.BKernel.nD Cert.BKernel.τ).loc Cert.BKernel.main_arg9) = m ((c.tc : Thread Cert.BKernel.nD Cert.BKernel.τ).loc Cert.BKernel.main_arg9)
      ∧ r.2.mem ((c.tc : Thread Cert.BKernel.nD Cert.BKernel.τ).loc Cert.BKernel.main_arg10) = m ((c.tc : Thread Cert.BKernel.nD Cert.BKernel.τ).loc Cert.BKernel.main_arg10))
      ∧ r.2.sem = fun _ => 0)

def quiescent_BKernelIdeal [hBKernelIdeal : Cert.BKernelIdeal.Facts] : Prop :=
  ∀ (m : (ℓ : Loc Cert.BKernelIdeal.nD Cert.BKernelIdeal.τ Cert.BKernelIdeal.sig) → Buf (Elt Ideal) ℓ) (g : Dev Cert.BKernelIdeal.nD → PrngReg), Pre_BKernelIdeal m →
    θ_run (Cert.BKernelIdeal.defs (F := Ideal)) (onTc (τ := Cert.BKernelIdeal.τ) (Cert.BKernelIdeal.main (F := Ideal))) ⟨m, fun _ => 0, g⟩ (fun r => (∀ c : Dev Cert.BKernelIdeal.nD,
      r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
      ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
      ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
      ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3)
      ∧ r.2.mem ((c.tc : Thread Cert.BKernelIdeal.nD Cert.BKernelIdeal.τ).loc Cert.BKernelIdeal.main_arg4) = m ((c.tc : Thread Cert.BKernelIdeal.nD Cert.BKernelIdeal.τ).loc Cert.BKernelIdeal.main_arg4)
      ∧ r.2.mem ((c.tc : Thread Cert.BKernelIdeal.nD Cert.BKernelIdeal.τ).loc Cert.BKernelIdeal.main_arg5) = m ((c.tc : Thread Cert.BKernelIdeal.nD Cert.BKernelIdeal.τ).loc Cert.BKernelIdeal.main_arg5)
      ∧ r.2.mem ((c.tc : Thread Cert.BKernelIdeal.nD Cert.BKernelIdeal.τ).loc Cert.BKernelIdeal.main_arg6) = m ((c.tc : Thread Cert.BKernelIdeal.nD Cert.BKernelIdeal.τ).loc Cert.BKernelIdeal.main_arg6)
      ∧ r.2.mem ((c.tc : Thread Cert.BKernelIdeal.nD Cert.BKernelIdeal.τ).loc Cert.BKernelIdeal.main_arg7) = m ((c.tc : Thread Cert.BKernelIdeal.nD Cert.BKernelIdeal.τ).loc Cert.BKernelIdeal.main_arg7)
      ∧ r.2.mem ((c.tc : Thread Cert.BKernelIdeal.nD Cert.BKernelIdeal.τ).loc Cert.BKernelIdeal.main_arg8) = m ((c.tc : Thread Cert.BKernelIdeal.nD Cert.BKernelIdeal.τ).loc Cert.BKernelIdeal.main_arg8)
      ∧ r.2.mem ((c.tc : Thread Cert.BKernelIdeal.nD Cert.BKernelIdeal.τ).loc Cert.BKernelIdeal.main_arg9) = m ((c.tc : Thread Cert.BKernelIdeal.nD Cert.BKernelIdeal.τ).loc Cert.BKernelIdeal.main_arg9)
      ∧ r.2.mem ((c.tc : Thread Cert.BKernelIdeal.nD Cert.BKernelIdeal.τ).loc Cert.BKernelIdeal.main_arg10) = m ((c.tc : Thread Cert.BKernelIdeal.nD Cert.BKernelIdeal.τ).loc Cert.BKernelIdeal.main_arg10))
      ∧ r.2.sem = fun _ => 0)

def quiescent_BKernelIdeal_pre_b_finite [hBKernelIdeal : Cert.BKernelIdeal.Facts] [hPre_b_finite : Cert.Pre_b_finite.Facts] : Prop :=
  ∀ (m : (ℓ : Loc Cert.BKernelIdeal.nD Cert.BKernelIdeal.τ Cert.BKernelIdeal.sig) → Buf (Elt Ideal) ℓ) (g : Dev Cert.BKernelIdeal.nD → PrngReg), Pre_BKernelIdeal_b_finite m →
    θ_run (Cert.BKernelIdeal.defs (F := Ideal)) (onTc (τ := Cert.BKernelIdeal.τ) (Cert.BKernelIdeal.main (F := Ideal))) ⟨m, fun _ => 0, g⟩ (fun r => (∀ c : Dev Cert.BKernelIdeal.nD,
      r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
      ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
      ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
      ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3)
      ∧ r.2.mem ((c.tc : Thread Cert.BKernelIdeal.nD Cert.BKernelIdeal.τ).loc Cert.BKernelIdeal.main_arg4) = m ((c.tc : Thread Cert.BKernelIdeal.nD Cert.BKernelIdeal.τ).loc Cert.BKernelIdeal.main_arg4)
      ∧ r.2.mem ((c.tc : Thread Cert.BKernelIdeal.nD Cert.BKernelIdeal.τ).loc Cert.BKernelIdeal.main_arg5) = m ((c.tc : Thread Cert.BKernelIdeal.nD Cert.BKernelIdeal.τ).loc Cert.BKernelIdeal.main_arg5)
      ∧ r.2.mem ((c.tc : Thread Cert.BKernelIdeal.nD Cert.BKernelIdeal.τ).loc Cert.BKernelIdeal.main_arg6) = m ((c.tc : Thread Cert.BKernelIdeal.nD Cert.BKernelIdeal.τ).loc Cert.BKernelIdeal.main_arg6)
      ∧ r.2.mem ((c.tc : Thread Cert.BKernelIdeal.nD Cert.BKernelIdeal.τ).loc Cert.BKernelIdeal.main_arg7) = m ((c.tc : Thread Cert.BKernelIdeal.nD Cert.BKernelIdeal.τ).loc Cert.BKernelIdeal.main_arg7)
      ∧ r.2.mem ((c.tc : Thread Cert.BKernelIdeal.nD Cert.BKernelIdeal.τ).loc Cert.BKernelIdeal.main_arg8) = m ((c.tc : Thread Cert.BKernelIdeal.nD Cert.BKernelIdeal.τ).loc Cert.BKernelIdeal.main_arg8)
      ∧ r.2.mem ((c.tc : Thread Cert.BKernelIdeal.nD Cert.BKernelIdeal.τ).loc Cert.BKernelIdeal.main_arg9) = m ((c.tc : Thread Cert.BKernelIdeal.nD Cert.BKernelIdeal.τ).loc Cert.BKernelIdeal.main_arg9)
      ∧ r.2.mem ((c.tc : Thread Cert.BKernelIdeal.nD Cert.BKernelIdeal.τ).loc Cert.BKernelIdeal.main_arg10) = m ((c.tc : Thread Cert.BKernelIdeal.nD Cert.BKernelIdeal.τ).loc Cert.BKernelIdeal.main_arg10))
      ∧ r.2.sem = fun _ => 0)

def quiescent_BReferenceIdeal [hBReferenceIdeal : Cert.BReferenceIdeal.Facts] : Prop :=
  ∀ (m : (ℓ : Loc Cert.BReferenceIdeal.nD Cert.BReferenceIdeal.τ Cert.BReferenceIdeal.sig) → Buf (Elt Ideal) ℓ) (g : Dev Cert.BReferenceIdeal.nD → PrngReg), Pre_BReferenceIdeal m →
    θ_run (Cert.BReferenceIdeal.defs (F := Ideal)) (onTc (τ := Cert.BReferenceIdeal.τ) (Cert.BReferenceIdeal.main (F := Ideal))) ⟨m, fun _ => 0, g⟩ (fun r => (∀ c : Dev Cert.BReferenceIdeal.nD,
      r.2.mem ((c.tc : Thread Cert.BReferenceIdeal.nD Cert.BReferenceIdeal.τ).loc Cert.BReferenceIdeal.main_arg0) = m ((c.tc : Thread Cert.BReferenceIdeal.nD Cert.BReferenceIdeal.τ).loc Cert.BReferenceIdeal.main_arg0)
      ∧ r.2.mem ((c.tc : Thread Cert.BReferenceIdeal.nD Cert.BReferenceIdeal.τ).loc Cert.BReferenceIdeal.main_arg1) = m ((c.tc : Thread Cert.BReferenceIdeal.nD Cert.BReferenceIdeal.τ).loc Cert.BReferenceIdeal.main_arg1)
      ∧ r.2.mem ((c.tc : Thread Cert.BReferenceIdeal.nD Cert.BReferenceIdeal.τ).loc Cert.BReferenceIdeal.main_arg2) = m ((c.tc : Thread Cert.BReferenceIdeal.nD Cert.BReferenceIdeal.τ).loc Cert.BReferenceIdeal.main_arg2)
      ∧ r.2.mem ((c.tc : Thread Cert.BReferenceIdeal.nD Cert.BReferenceIdeal.τ).loc Cert.BReferenceIdeal.main_arg3) = m ((c.tc : Thread Cert.BReferenceIdeal.nD Cert.BReferenceIdeal.τ).loc Cert.BReferenceIdeal.main_arg3)
      ∧ r.2.mem ((c.tc : Thread Cert.BReferenceIdeal.nD Cert.BReferenceIdeal.τ).loc Cert.BReferenceIdeal.main_arg4) = m ((c.tc : Thread Cert.BReferenceIdeal.nD Cert.BReferenceIdeal.τ).loc Cert.BReferenceIdeal.main_arg4)
      ∧ r.2.mem ((c.tc : Thread Cert.BReferenceIdeal.nD Cert.BReferenceIdeal.τ).loc Cert.BReferenceIdeal.main_arg5) = m ((c.tc : Thread Cert.BReferenceIdeal.nD Cert.BReferenceIdeal.τ).loc Cert.BReferenceIdeal.main_arg5)
      ∧ r.2.mem ((c.tc : Thread Cert.BReferenceIdeal.nD Cert.BReferenceIdeal.τ).loc Cert.BReferenceIdeal.main_arg6) = m ((c.tc : Thread Cert.BReferenceIdeal.nD Cert.BReferenceIdeal.τ).loc Cert.BReferenceIdeal.main_arg6)
      ∧ r.2.mem ((c.tc : Thread Cert.BReferenceIdeal.nD Cert.BReferenceIdeal.τ).loc Cert.BReferenceIdeal.main_arg7) = m ((c.tc : Thread Cert.BReferenceIdeal.nD Cert.BReferenceIdeal.τ).loc Cert.BReferenceIdeal.main_arg7)
      ∧ r.2.mem ((c.tc : Thread Cert.BReferenceIdeal.nD Cert.BReferenceIdeal.τ).loc Cert.BReferenceIdeal.main_arg8) = m ((c.tc : Thread Cert.BReferenceIdeal.nD Cert.BReferenceIdeal.τ).loc Cert.BReferenceIdeal.main_arg8)
      ∧ r.2.mem ((c.tc : Thread Cert.BReferenceIdeal.nD Cert.BReferenceIdeal.τ).loc Cert.BReferenceIdeal.main_arg9) = m ((c.tc : Thread Cert.BReferenceIdeal.nD Cert.BReferenceIdeal.τ).loc Cert.BReferenceIdeal.main_arg9)
      ∧ r.2.mem ((c.tc : Thread Cert.BReferenceIdeal.nD Cert.BReferenceIdeal.τ).loc Cert.BReferenceIdeal.main_arg10) = m ((c.tc : Thread Cert.BReferenceIdeal.nD Cert.BReferenceIdeal.τ).loc Cert.BReferenceIdeal.main_arg10))
      ∧ r.2.sem = fun _ => 0)

def quiescent_BReferenceIdeal_pre_b_finite [hBReferenceIdeal : Cert.BReferenceIdeal.Facts] [hPre_b_finite : Cert.Pre_b_finite.Facts] : Prop :=
  ∀ (m : (ℓ : Loc Cert.BReferenceIdeal.nD Cert.BReferenceIdeal.τ Cert.BReferenceIdeal.sig) → Buf (Elt Ideal) ℓ) (g : Dev Cert.BReferenceIdeal.nD → PrngReg), Pre_BReferenceIdeal_b_finite m →
    θ_run (Cert.BReferenceIdeal.defs (F := Ideal)) (onTc (τ := Cert.BReferenceIdeal.τ) (Cert.BReferenceIdeal.main (F := Ideal))) ⟨m, fun _ => 0, g⟩ (fun r => (∀ c : Dev Cert.BReferenceIdeal.nD,
      r.2.mem ((c.tc : Thread Cert.BReferenceIdeal.nD Cert.BReferenceIdeal.τ).loc Cert.BReferenceIdeal.main_arg0) = m ((c.tc : Thread Cert.BReferenceIdeal.nD Cert.BReferenceIdeal.τ).loc Cert.BReferenceIdeal.main_arg0)
      ∧ r.2.mem ((c.tc : Thread Cert.BReferenceIdeal.nD Cert.BReferenceIdeal.τ).loc Cert.BReferenceIdeal.main_arg1) = m ((c.tc : Thread Cert.BReferenceIdeal.nD Cert.BReferenceIdeal.τ).loc Cert.BReferenceIdeal.main_arg1)
      ∧ r.2.mem ((c.tc : Thread Cert.BReferenceIdeal.nD Cert.BReferenceIdeal.τ).loc Cert.BReferenceIdeal.main_arg2) = m ((c.tc : Thread Cert.BReferenceIdeal.nD Cert.BReferenceIdeal.τ).loc Cert.BReferenceIdeal.main_arg2)
      ∧ r.2.mem ((c.tc : Thread Cert.BReferenceIdeal.nD Cert.BReferenceIdeal.τ).loc Cert.BReferenceIdeal.main_arg3) = m ((c.tc : Thread Cert.BReferenceIdeal.nD Cert.BReferenceIdeal.τ).loc Cert.BReferenceIdeal.main_arg3)
      ∧ r.2.mem ((c.tc : Thread Cert.BReferenceIdeal.nD Cert.BReferenceIdeal.τ).loc Cert.BReferenceIdeal.main_arg4) = m ((c.tc : Thread Cert.BReferenceIdeal.nD Cert.BReferenceIdeal.τ).loc Cert.BReferenceIdeal.main_arg4)
      ∧ r.2.mem ((c.tc : Thread Cert.BReferenceIdeal.nD Cert.BReferenceIdeal.τ).loc Cert.BReferenceIdeal.main_arg5) = m ((c.tc : Thread Cert.BReferenceIdeal.nD Cert.BReferenceIdeal.τ).loc Cert.BReferenceIdeal.main_arg5)
      ∧ r.2.mem ((c.tc : Thread Cert.BReferenceIdeal.nD Cert.BReferenceIdeal.τ).loc Cert.BReferenceIdeal.main_arg6) = m ((c.tc : Thread Cert.BReferenceIdeal.nD Cert.BReferenceIdeal.τ).loc Cert.BReferenceIdeal.main_arg6)
      ∧ r.2.mem ((c.tc : Thread Cert.BReferenceIdeal.nD Cert.BReferenceIdeal.τ).loc Cert.BReferenceIdeal.main_arg7) = m ((c.tc : Thread Cert.BReferenceIdeal.nD Cert.BReferenceIdeal.τ).loc Cert.BReferenceIdeal.main_arg7)
      ∧ r.2.mem ((c.tc : Thread Cert.BReferenceIdeal.nD Cert.BReferenceIdeal.τ).loc Cert.BReferenceIdeal.main_arg8) = m ((c.tc : Thread Cert.BReferenceIdeal.nD Cert.BReferenceIdeal.τ).loc Cert.BReferenceIdeal.main_arg8)
      ∧ r.2.mem ((c.tc : Thread Cert.BReferenceIdeal.nD Cert.BReferenceIdeal.τ).loc Cert.BReferenceIdeal.main_arg9) = m ((c.tc : Thread Cert.BReferenceIdeal.nD Cert.BReferenceIdeal.τ).loc Cert.BReferenceIdeal.main_arg9)
      ∧ r.2.mem ((c.tc : Thread Cert.BReferenceIdeal.nD Cert.BReferenceIdeal.τ).loc Cert.BReferenceIdeal.main_arg10) = m ((c.tc : Thread Cert.BReferenceIdeal.nD Cert.BReferenceIdeal.τ).loc Cert.BReferenceIdeal.main_arg10))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v10)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v10) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v20) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_InKernel_InKernelIdeal : Prop :=
  IdealRules.named_const.Statement Cert.InKernelIdeal.κ "mem_scale" .f32 0x3E0293EE#32 (((11863283 / 134217728) * (Real.log 2)⁻¹ : ℝ) : EReal)
  ∧ IdealRules.named_const.Statement Cert.InKernelIdeal.κ "log2e" .f32 0x3FB8AA3B#32 (((Real.log 2)⁻¹ : ℝ) : EReal)

def algebraic_InKernelIdeal_InReferenceIdeal_pre_a_finite [hInKernelIdeal : Cert.InKernelIdeal.Facts] [hInReferenceIdeal : Cert.InReferenceIdeal.Facts] [hPre_a_finite : Cert.Pre_a_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_a_finite m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)
      ∧ m' ((c.tc : Thread Cert.InReferenceIdeal.nD Cert.InReferenceIdeal.τ).loc Cert.InReferenceIdeal.main_arg9) = m ((c.tc : Thread Cert.InKernelIdeal.nD Cert.InKernelIdeal.τ).loc Cert.InKernelIdeal.main_arg9)) →
    ∃ (v0 : (c : Dev Cert.InKernelIdeal.nD) → Buf (Elt Ideal) ((c.tc : Thread Cert.InKernelIdeal.nD Cert.InKernelIdeal.τ).loc Cert.InKernelIdeal.main_v15_0)) (v1 : (c : Dev Cert.InKernelIdeal.nD) → Buf (Elt Ideal) ((c.tc : Thread Cert.InKernelIdeal.nD Cert.InKernelIdeal.τ).loc Cert.InKernelIdeal.main_v15_1)) (v2 : (c : Dev Cert.InKernelIdeal.nD) → Buf (Elt Ideal) ((c.tc : Thread Cert.InKernelIdeal.nD Cert.InKernelIdeal.τ).loc Cert.InKernelIdeal.main_v15_2)) (v3 : (c : Dev Cert.InKernelIdeal.nD) → Buf (Elt Ideal) ((c.tc : Thread Cert.InKernelIdeal.nD Cert.InKernelIdeal.τ).loc Cert.InKernelIdeal.main_v15_3)) (v4 : (c : Dev Cert.InKernelIdeal.nD) → Buf (Elt Ideal) ((c.tc : Thread Cert.InKernelIdeal.nD Cert.InKernelIdeal.τ).loc Cert.InKernelIdeal.main_v15_4)) (v5 : (c : Dev Cert.InKernelIdeal.nD) → Buf (Elt Ideal) ((c.tc : Thread Cert.InKernelIdeal.nD Cert.InKernelIdeal.τ).loc Cert.InKernelIdeal.main_v15_5)) (v6 : (c : Dev Cert.InKernelIdeal.nD) → Buf (Elt Ideal) ((c.tc : Thread Cert.InKernelIdeal.nD Cert.InKernelIdeal.τ).loc Cert.InKernelIdeal.main_v15_6)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v15_0) = v0 c
          ∧ r.2.mem ((c.tc : Thread Cert.InKernelIdeal.nD Cert.InKernelIdeal.τ).loc Cert.InKernelIdeal.main_v15_1) = v1 c
          ∧ r.2.mem ((c.tc : Thread Cert.InKernelIdeal.nD Cert.InKernelIdeal.τ).loc Cert.InKernelIdeal.main_v15_2) = v2 c
          ∧ r.2.mem ((c.tc : Thread Cert.InKernelIdeal.nD Cert.InKernelIdeal.τ).loc Cert.InKernelIdeal.main_v15_3) = v3 c
          ∧ r.2.mem ((c.tc : Thread Cert.InKernelIdeal.nD Cert.InKernelIdeal.τ).loc Cert.InKernelIdeal.main_v15_4) = v4 c
          ∧ r.2.mem ((c.tc : Thread Cert.InKernelIdeal.nD Cert.InKernelIdeal.τ).loc Cert.InKernelIdeal.main_v15_5) = v5 c
          ∧ r.2.mem ((c.tc : Thread Cert.InKernelIdeal.nD Cert.InKernelIdeal.τ).loc Cert.InKernelIdeal.main_v15_6) = v6 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
          ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v118) = v0 c
          ∧ r.2.mem ((c.tc : Thread Cert.InReferenceIdeal.nD Cert.InReferenceIdeal.τ).loc Cert.InReferenceIdeal.main_v120) = v1 c
          ∧ r.2.mem ((c.tc : Thread Cert.InReferenceIdeal.nD Cert.InReferenceIdeal.τ).loc Cert.InReferenceIdeal.main_v124) = v2 c
          ∧ r.2.mem ((c.tc : Thread Cert.InReferenceIdeal.nD Cert.InReferenceIdeal.τ).loc Cert.InReferenceIdeal.main_v126) = v3 c
          ∧ r.2.mem ((c.tc : Thread Cert.InReferenceIdeal.nD Cert.InReferenceIdeal.τ).loc Cert.InReferenceIdeal.main_v128) = v4 c
          ∧ r.2.mem ((c.tc : Thread Cert.InReferenceIdeal.nD Cert.InReferenceIdeal.τ).loc Cert.InReferenceIdeal.main_v131) = v5 c
          ∧ r.2.mem ((c.tc : Thread Cert.InReferenceIdeal.nD Cert.InReferenceIdeal.τ).loc Cert.InReferenceIdeal.main_v133) = v6 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9))

def preserves_BKernel_BKernelIdeal : Prop :=
  IdealRules.named_const.Statement Cert.BKernelIdeal.κ "mem_scale" .f32 0x3E0293EE#32 (((11863283 / 134217728) * (Real.log 2)⁻¹ : ℝ) : EReal)
  ∧ IdealRules.named_const.Statement Cert.BKernelIdeal.κ "swa_scale" .f32 0x3E38AA3B#32 (((1 / 8) * (Real.log 2)⁻¹ : ℝ) : EReal)

def algebraic_BKernelIdeal_BReferenceIdeal_pre_b_finite [hBKernelIdeal : Cert.BKernelIdeal.Facts] [hBReferenceIdeal : Cert.BReferenceIdeal.Facts] [hPre_b_finite : Cert.Pre_b_finite.Facts] : Prop :=
  ∀ (m : (ℓ : Loc Cert.BKernelIdeal.nD Cert.BKernelIdeal.τ Cert.BKernelIdeal.sig) → Buf (Elt Ideal) ℓ) (g : Dev Cert.BKernelIdeal.nD → PrngReg)
    (m' : (ℓ : Loc Cert.BReferenceIdeal.nD Cert.BReferenceIdeal.τ Cert.BReferenceIdeal.sig) → Buf (Elt Ideal) ℓ) (g' : Dev Cert.BReferenceIdeal.nD → PrngReg), Pre_BKernelIdeal_b_finite m →
    (∀ c : Dev Cert.BKernelIdeal.nD,
      m' ((c.tc : Thread Cert.BReferenceIdeal.nD Cert.BReferenceIdeal.τ).loc Cert.BReferenceIdeal.main_arg0) = m ((c.tc : Thread Cert.BKernelIdeal.nD Cert.BKernelIdeal.τ).loc Cert.BKernelIdeal.main_arg0)
      ∧ m' ((c.tc : Thread Cert.BReferenceIdeal.nD Cert.BReferenceIdeal.τ).loc Cert.BReferenceIdeal.main_arg1) = m ((c.tc : Thread Cert.BKernelIdeal.nD Cert.BKernelIdeal.τ).loc Cert.BKernelIdeal.main_arg1)
      ∧ m' ((c.tc : Thread Cert.BReferenceIdeal.nD Cert.BReferenceIdeal.τ).loc Cert.BReferenceIdeal.main_arg2) = m ((c.tc : Thread Cert.BKernelIdeal.nD Cert.BKernelIdeal.τ).loc Cert.BKernelIdeal.main_arg2)
      ∧ m' ((c.tc : Thread Cert.BReferenceIdeal.nD Cert.BReferenceIdeal.τ).loc Cert.BReferenceIdeal.main_arg3) = m ((c.tc : Thread Cert.BKernelIdeal.nD Cert.BKernelIdeal.τ).loc Cert.BKernelIdeal.main_arg3)
      ∧ m' ((c.tc : Thread Cert.BReferenceIdeal.nD Cert.BReferenceIdeal.τ).loc Cert.BReferenceIdeal.main_arg4) = m ((c.tc : Thread Cert.BKernelIdeal.nD Cert.BKernelIdeal.τ).loc Cert.BKernelIdeal.main_arg4)
      ∧ m' ((c.tc : Thread Cert.BReferenceIdeal.nD Cert.BReferenceIdeal.τ).loc Cert.BReferenceIdeal.main_arg5) = m ((c.tc : Thread Cert.BKernelIdeal.nD Cert.BKernelIdeal.τ).loc Cert.BKernelIdeal.main_arg5)
      ∧ m' ((c.tc : Thread Cert.BReferenceIdeal.nD Cert.BReferenceIdeal.τ).loc Cert.BReferenceIdeal.main_arg6) = m ((c.tc : Thread Cert.BKernelIdeal.nD Cert.BKernelIdeal.τ).loc Cert.BKernelIdeal.main_arg6)
      ∧ m' ((c.tc : Thread Cert.BReferenceIdeal.nD Cert.BReferenceIdeal.τ).loc Cert.BReferenceIdeal.main_arg7) = m ((c.tc : Thread Cert.BKernelIdeal.nD Cert.BKernelIdeal.τ).loc Cert.BKernelIdeal.main_arg7)
      ∧ m' ((c.tc : Thread Cert.BReferenceIdeal.nD Cert.BReferenceIdeal.τ).loc Cert.BReferenceIdeal.main_arg8) = m ((c.tc : Thread Cert.BKernelIdeal.nD Cert.BKernelIdeal.τ).loc Cert.BKernelIdeal.main_arg8)
      ∧ m' ((c.tc : Thread Cert.BReferenceIdeal.nD Cert.BReferenceIdeal.τ).loc Cert.BReferenceIdeal.main_arg9) = m ((c.tc : Thread Cert.BKernelIdeal.nD Cert.BKernelIdeal.τ).loc Cert.BKernelIdeal.main_arg9)
      ∧ m' ((c.tc : Thread Cert.BReferenceIdeal.nD Cert.BReferenceIdeal.τ).loc Cert.BReferenceIdeal.main_arg10) = m ((c.tc : Thread Cert.BKernelIdeal.nD Cert.BKernelIdeal.τ).loc Cert.BKernelIdeal.main_arg10)) →
    ∃ (v0 : (c : Dev Cert.BKernelIdeal.nD) → Buf (Elt Ideal) ((c.tc : Thread Cert.BKernelIdeal.nD Cert.BKernelIdeal.τ).loc Cert.BKernelIdeal.main_v21_0)) (v1 : (c : Dev Cert.BKernelIdeal.nD) → Buf (Elt Ideal) ((c.tc : Thread Cert.BKernelIdeal.nD Cert.BKernelIdeal.τ).loc Cert.BKernelIdeal.main_v21_1)) (v2 : (c : Dev Cert.BKernelIdeal.nD) → Buf (Elt Ideal) ((c.tc : Thread Cert.BKernelIdeal.nD Cert.BKernelIdeal.τ).loc Cert.BKernelIdeal.main_v21_2)) (v3 : (c : Dev Cert.BKernelIdeal.nD) → Buf (Elt Ideal) ((c.tc : Thread Cert.BKernelIdeal.nD Cert.BKernelIdeal.τ).loc Cert.BKernelIdeal.main_v21_3)),
      θ_run (Cert.BKernelIdeal.defs (F := Ideal)) (onTc (τ := Cert.BKernelIdeal.τ) (Cert.BKernelIdeal.main (F := Ideal))) ⟨m, fun _ => 0, g⟩ (fun r => ∀ c : Dev Cert.BKernelIdeal.nD,
          r.2.mem ((c.tc : Thread Cert.BKernelIdeal.nD Cert.BKernelIdeal.τ).loc Cert.BKernelIdeal.main_v21_0) = v0 c
          ∧ r.2.mem ((c.tc : Thread Cert.BKernelIdeal.nD Cert.BKernelIdeal.τ).loc Cert.BKernelIdeal.main_v21_1) = v1 c
          ∧ r.2.mem ((c.tc : Thread Cert.BKernelIdeal.nD Cert.BKernelIdeal.τ).loc Cert.BKernelIdeal.main_v21_2) = v2 c
          ∧ r.2.mem ((c.tc : Thread Cert.BKernelIdeal.nD Cert.BKernelIdeal.τ).loc Cert.BKernelIdeal.main_v21_3) = v3 c
          ∧ r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
          ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
          ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
          ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3)
          ∧ r.2.mem ((c.tc : Thread Cert.BKernelIdeal.nD Cert.BKernelIdeal.τ).loc Cert.BKernelIdeal.main_arg4) = m ((c.tc : Thread Cert.BKernelIdeal.nD Cert.BKernelIdeal.τ).loc Cert.BKernelIdeal.main_arg4)
          ∧ r.2.mem ((c.tc : Thread Cert.BKernelIdeal.nD Cert.BKernelIdeal.τ).loc Cert.BKernelIdeal.main_arg5) = m ((c.tc : Thread Cert.BKernelIdeal.nD Cert.BKernelIdeal.τ).loc Cert.BKernelIdeal.main_arg5)
          ∧ r.2.mem ((c.tc : Thread Cert.BKernelIdeal.nD Cert.BKernelIdeal.τ).loc Cert.BKernelIdeal.main_arg6) = m ((c.tc : Thread Cert.BKernelIdeal.nD Cert.BKernelIdeal.τ).loc Cert.BKernelIdeal.main_arg6)
          ∧ r.2.mem ((c.tc : Thread Cert.BKernelIdeal.nD Cert.BKernelIdeal.τ).loc Cert.BKernelIdeal.main_arg7) = m ((c.tc : Thread Cert.BKernelIdeal.nD Cert.BKernelIdeal.τ).loc Cert.BKernelIdeal.main_arg7)
          ∧ r.2.mem ((c.tc : Thread Cert.BKernelIdeal.nD Cert.BKernelIdeal.τ).loc Cert.BKernelIdeal.main_arg8) = m ((c.tc : Thread Cert.BKernelIdeal.nD Cert.BKernelIdeal.τ).loc Cert.BKernelIdeal.main_arg8)
          ∧ r.2.mem ((c.tc : Thread Cert.BKernelIdeal.nD Cert.BKernelIdeal.τ).loc Cert.BKernelIdeal.main_arg9) = m ((c.tc : Thread Cert.BKernelIdeal.nD Cert.BKernelIdeal.τ).loc Cert.BKernelIdeal.main_arg9)
          ∧ r.2.mem ((c.tc : Thread Cert.BKernelIdeal.nD Cert.BKernelIdeal.τ).loc Cert.BKernelIdeal.main_arg10) = m ((c.tc : Thread Cert.BKernelIdeal.nD Cert.BKernelIdeal.τ).loc Cert.BKernelIdeal.main_arg10))
      ∧ θ_run (Cert.BReferenceIdeal.defs (F := Ideal)) (onTc (τ := Cert.BReferenceIdeal.τ) (Cert.BReferenceIdeal.main (F := Ideal))) ⟨m', fun _ => 0, g'⟩ (fun r => ∀ c : Dev Cert.BReferenceIdeal.nD,
          r.2.mem ((c.tc : Thread Cert.BReferenceIdeal.nD Cert.BReferenceIdeal.τ).loc Cert.BReferenceIdeal.main_v86) = v0 c
          ∧ r.2.mem ((c.tc : Thread Cert.BReferenceIdeal.nD Cert.BReferenceIdeal.τ).loc Cert.BReferenceIdeal.main_v92) = v1 c
          ∧ r.2.mem ((c.tc : Thread Cert.BReferenceIdeal.nD Cert.BReferenceIdeal.τ).loc Cert.BReferenceIdeal.main_v96) = v2 c
          ∧ r.2.mem ((c.tc : Thread Cert.BReferenceIdeal.nD Cert.BReferenceIdeal.τ).loc Cert.BReferenceIdeal.main_v98) = v3 c
          ∧ r.2.mem ((c.tc : Thread Cert.BReferenceIdeal.nD Cert.BReferenceIdeal.τ).loc Cert.BReferenceIdeal.main_arg0) = m' ((c.tc : Thread Cert.BReferenceIdeal.nD Cert.BReferenceIdeal.τ).loc Cert.BReferenceIdeal.main_arg0)
          ∧ r.2.mem ((c.tc : Thread Cert.BReferenceIdeal.nD Cert.BReferenceIdeal.τ).loc Cert.BReferenceIdeal.main_arg1) = m' ((c.tc : Thread Cert.BReferenceIdeal.nD Cert.BReferenceIdeal.τ).loc Cert.BReferenceIdeal.main_arg1)
          ∧ r.2.mem ((c.tc : Thread Cert.BReferenceIdeal.nD Cert.BReferenceIdeal.τ).loc Cert.BReferenceIdeal.main_arg2) = m' ((c.tc : Thread Cert.BReferenceIdeal.nD Cert.BReferenceIdeal.τ).loc Cert.BReferenceIdeal.main_arg2)
          ∧ r.2.mem ((c.tc : Thread Cert.BReferenceIdeal.nD Cert.BReferenceIdeal.τ).loc Cert.BReferenceIdeal.main_arg3) = m' ((c.tc : Thread Cert.BReferenceIdeal.nD Cert.BReferenceIdeal.τ).loc Cert.BReferenceIdeal.main_arg3)
          ∧ r.2.mem ((c.tc : Thread Cert.BReferenceIdeal.nD Cert.BReferenceIdeal.τ).loc Cert.BReferenceIdeal.main_arg4) = m' ((c.tc : Thread Cert.BReferenceIdeal.nD Cert.BReferenceIdeal.τ).loc Cert.BReferenceIdeal.main_arg4)
          ∧ r.2.mem ((c.tc : Thread Cert.BReferenceIdeal.nD Cert.BReferenceIdeal.τ).loc Cert.BReferenceIdeal.main_arg5) = m' ((c.tc : Thread Cert.BReferenceIdeal.nD Cert.BReferenceIdeal.τ).loc Cert.BReferenceIdeal.main_arg5)
          ∧ r.2.mem ((c.tc : Thread Cert.BReferenceIdeal.nD Cert.BReferenceIdeal.τ).loc Cert.BReferenceIdeal.main_arg6) = m' ((c.tc : Thread Cert.BReferenceIdeal.nD Cert.BReferenceIdeal.τ).loc Cert.BReferenceIdeal.main_arg6)
          ∧ r.2.mem ((c.tc : Thread Cert.BReferenceIdeal.nD Cert.BReferenceIdeal.τ).loc Cert.BReferenceIdeal.main_arg7) = m' ((c.tc : Thread Cert.BReferenceIdeal.nD Cert.BReferenceIdeal.τ).loc Cert.BReferenceIdeal.main_arg7)
          ∧ r.2.mem ((c.tc : Thread Cert.BReferenceIdeal.nD Cert.BReferenceIdeal.τ).loc Cert.BReferenceIdeal.main_arg8) = m' ((c.tc : Thread Cert.BReferenceIdeal.nD Cert.BReferenceIdeal.τ).loc Cert.BReferenceIdeal.main_arg8)
          ∧ r.2.mem ((c.tc : Thread Cert.BReferenceIdeal.nD Cert.BReferenceIdeal.τ).loc Cert.BReferenceIdeal.main_arg9) = m' ((c.tc : Thread Cert.BReferenceIdeal.nD Cert.BReferenceIdeal.τ).loc Cert.BReferenceIdeal.main_arg9)
          ∧ r.2.mem ((c.tc : Thread Cert.BReferenceIdeal.nD Cert.BReferenceIdeal.τ).loc Cert.BReferenceIdeal.main_arg10) = m' ((c.tc : Thread Cert.BReferenceIdeal.nD Cert.BReferenceIdeal.τ).loc Cert.BReferenceIdeal.main_arg10))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hBKernel : Cert.BKernel.Facts) (hBKernelIdeal : Cert.BKernelIdeal.Facts) (hBReferenceIdeal : Cert.BReferenceIdeal.Facts) (hPre_finite : Cert.Pre_finite.Facts) (hPre_a_finite : Cert.Pre_a_finite.Facts) (hPre_b_finite : Cert.Pre_b_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InKernelIdeal_pre_a_finite (hInKernelIdeal := hInKernelIdeal) (hPre_a_finite := hPre_a_finite)
    ∧ quiescent_InReferenceIdeal (hInReferenceIdeal := hInReferenceIdeal)
    ∧ quiescent_InReferenceIdeal_pre_a_finite (hInReferenceIdeal := hInReferenceIdeal) (hPre_a_finite := hPre_a_finite)
    ∧ quiescent_BKernel (hBKernel := hBKernel)
    ∧ quiescent_BKernelIdeal (hBKernelIdeal := hBKernelIdeal)
    ∧ quiescent_BKernelIdeal_pre_b_finite (hBKernelIdeal := hBKernelIdeal) (hPre_b_finite := hPre_b_finite)
    ∧ quiescent_BReferenceIdeal (hBReferenceIdeal := hBReferenceIdeal)
    ∧ quiescent_BReferenceIdeal_pre_b_finite (hBReferenceIdeal := hBReferenceIdeal) (hPre_b_finite := hPre_b_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal_pre_a_finite (hInKernelIdeal := hInKernelIdeal) (hInReferenceIdeal := hInReferenceIdeal) (hPre_a_finite := hPre_a_finite)
    ∧ preserves_BKernel_BKernelIdeal
    ∧ algebraic_BKernelIdeal_BReferenceIdeal_pre_b_finite (hBKernelIdeal := hBKernelIdeal) (hBReferenceIdeal := hBReferenceIdeal) (hPre_b_finite := hPre_b_finite)
-- ==== Pre_a_finite.lean ====
abbrev S8x2048x1024 : Shape := ⟨3, ![8, 2048, 1024]⟩
abbrev S8x2048x512 : Shape := ⟨3, ![8, 2048, 512]⟩
abbrev S2x1536x1024 : Shape := ⟨3, ![2, 1536, 1024]⟩
abbrev S4x1024 : Shape := ⟨2, ![4, 1024]⟩
abbrev S2x1024x5120 : Shape := ⟨3, ![2, 1024, 5120]⟩
abbrev S3x1024 : Shape := ⟨2, ![3, 1024]⟩
abbrev S4x8x256x512 : Shape := ⟨4, ![4, 8, 256, 512]⟩
abbrev S_ : Shape := ⟨0, ![]⟩

class Facts : Prop where
  bcast_S_S4x1024 : S_.BroadcastsInDim S4x1024 (![] : Fin 0 → Fin S4x1024.rank)
  bcast_S_S2x1024x5120 : S_.BroadcastsInDim S2x1024x5120 (![] : Fin 0 → Fin S2x1024x5120.rank)
  bcast_S_S3x1024 : S_.BroadcastsInDim S3x1024 (![] : Fin 0 → Fin S3x1024.rank)
  bcast_S_S4x8x256x512 : S_.BroadcastsInDim S4x8x256x512 (![] : Fin 0 → Fin S4x8x256x512.rank)

variable [Facts]

def fn {F : FTy → Type} [FloatOps F] (main_arg0 : FVec F S8x2048x1024 .f32) (main_arg1 : FVec F S8x2048x1024 .f32) (main_arg2 : FVec F S8x2048x512 .f32) (main_arg3 : FVec F S2x1536x1024 .f32) (main_arg4 : FVec F S4x1024 .f32) (main_arg5 : FVec F S4x1024 .f32) (main_arg6 : FVec F S2x1024x5120 .f32) (main_arg7 : FVec F S3x1024 .f32) (main_arg8 : FVec F S4x8x256x512 .f32) (main_arg9 : FVec F S4x8x256x512 .f32) : IVec S4x1024 1 × IVec S2x1024x5120 1 × IVec S3x1024 1 × IVec S4x8x256x512 1 :=
  let main_v0 : FVec F S4x1024 .f32 := Host.absf main_arg5
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S2x1024x5120 .f32 := Host.absf main_arg6
  let main_cst_0 : FVec F S_ .f32 := constant S_ .f32 0x7F800000#32
  let main_v4 : FVec F S2x1024x5120 .f32 := broadcastInDim S2x1024x5120 ![] bcast_S_S2x1024x5120 main_cst_0
  let main_v5 : IVec S2x1024x5120 1 := cmpf .olt main_v3 main_v4
  let main_v6 : FVec F S3x1024 .f32 := Host.absf main_arg7
  let main_cst_1 : FVec F S_ .f32 := constant S_ .f32 0x7F800000#32
  let main_v7 : FVec F S3x1024 .f32 := broadcastInDim S3x1024 ![] bcast_S_S3x1024 main_cst_1
  let main_v8 : IVec S3x1024 1 := cmpf .olt main_v6 main_v7
  let main_v9 : FVec F S4x8x256x512 .f32 := Host.absf main_arg8
  let main_cst_2 : FVec F S_ .f32 := constant S_ .f32 0x7F800000#32
  let main_v10 : FVec F S4x8x256x512 .f32 := broadcastInDim S4x8x256x512 ![] bcast_S_S4x8x256x512 main_cst_2
  let main_v11 : IVec S4x8x256x512 1 := cmpf .olt main_v9 main_v10
  (main_v2, main_v5, main_v8, main_v11)
-- ==== Pre_b_finite.lean ====
abbrev S8x2048x1024 : Shape := ⟨3, ![8, 2048, 1024]⟩
abbrev S8x2048x512 : Shape := ⟨3, ![8, 2048, 512]⟩
abbrev S2x1536x1024 : Shape := ⟨3, ![2, 1536, 1024]⟩
abbrev S4x1024 : Shape := ⟨2, ![4, 1024]⟩
abbrev S2x1024x3072 : Shape := ⟨3, ![2, 1024, 3072]⟩
abbrev S8x2048x32 : Shape := ⟨3, ![8, 2048, 32]⟩
abbrev S4x8x256x512 : Shape := ⟨4, ![4, 8, 256, 512]⟩
abbrev S_ : Shape := ⟨0, ![]⟩

class Facts : Prop where
  bcast_S_S4x1024 : S_.BroadcastsInDim S4x1024 (![] : Fin 0 → Fin S4x1024.rank)
  bcast_S_S2x1024x3072 : S_.BroadcastsInDim S2x1024x3072 (![] : Fin 0 → Fin S2x1024x3072.rank)
  bcast_S_S4x8x256x512 : S_.BroadcastsInDim S4x8x256x512 (![] : Fin 0 → Fin S4x8x256x512.rank)

variable [Facts]

def fn {F : FTy → Type} [FloatOps F] (main_arg0 : FVec F S8x2048x1024 .f32) (main_arg1 : FVec F S8x2048x1024 .f32) (main_arg2 : FVec F S8x2048x512 .f32) (main_arg3 : FVec F S2x1536x1024 .f32) (main_arg4 : FVec F S4x1024 .f32) (main_arg5 : FVec F S4x1024 .f32) (main_arg6 : FVec F S2x1024x3072 .f32) (main_arg7 : FVec F S8x2048x32 .f32) (main_arg8 : FVec F S8x2048x32 .f32) (main_arg9 : FVec F S4x8x256x512 .f32) (main_arg10 : FVec F S4x8x256x512 .f32) : IVec S4x1024 1 × IVec S2x1024x3072 1 × IVec S4x8x256x512 1 :=
  let main_v0 : FVec F S4x1024 .f32 := Host.absf main_arg5
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S2x1024x3072 .f32 := Host.absf main_arg6
  let main_cst_0 : FVec F S_ .f32 := constant S_ .f32 0x7F800000#32
  let main_v4 : FVec F S2x1024x3072 .f32 := broadcastInDim S2x1024x3072 ![] bcast_S_S2x1024x3072 main_cst_0
  let main_v5 : IVec S2x1024x3072 1 := cmpf .olt main_v3 main_v4
  let main_v6 : FVec F S4x8x256x512 .f32 := Host.absf main_arg9
  let main_cst_1 : FVec F S_ .f32 := constant S_ .f32 0x7F800000#32
  let main_v7 : FVec F S4x8x256x512 .f32 := broadcastInDim S4x8x256x512 ![] bcast_S_S4x8x256x512 main_cst_1
  let main_v8 : IVec S4x8x256x512 1 := cmpf .olt main_v6 main_v7
  (main_v2, main_v5, main_v8)
-- ==== Pre_finite.lean ====
abbrev S16 : Shape := ⟨1, ![16]⟩
abbrev S8x2048x16x64 : Shape := ⟨4, ![8, 2048, 16, 64]⟩
abbrev S8x2048x4x64 : Shape := ⟨4, ![8, 2048, 4, 64]⟩
abbrev S8x2048x1024 : Shape := ⟨3, ![8, 2048, 1024]⟩
abbrev S8x2048x4x4x64 : Shape := ⟨5, ![8, 2048, 4, 4, 64]⟩
abbrev S1x1x4x4x1 : Shape := ⟨5, ![1, 1, 4, 4, 1]⟩
abbrev S_ : Shape := ⟨0, ![]⟩
abbrev S8x2048x4x1x64 : Shape := ⟨5, ![8, 2048, 4, 1, 64]⟩

class Facts : Prop where
  shapeCasts_S8x2048x16x64_S8x2048x4x4x64 : S8x2048x16x64.ShapeCasts S8x2048x4x4x64
  shapeCasts_S16_S1x1x4x4x1 : S16.ShapeCasts S1x1x4x4x1
  bcast_S_S8x2048x4x4x64 : S_.BroadcastsInDim S8x2048x4x4x64 (![] : Fin 0 → Fin S8x2048x4x4x64.rank)
  bcast_S8x2048x4x64_S8x2048x4x1x64_0_1_2_4 : S8x2048x4x64.BroadcastsInDim S8x2048x4x1x64 (![0, 1, 2, 4] : Fin 4 → Fin S8x2048x4x1x64.rank)
  bcast_S_S8x2048x4x1x64 : S_.BroadcastsInDim S8x2048x4x1x64 (![] : Fin 0 → Fin S8x2048x4x1x64.rank)
  bcast_S8x2048x4x1x64_S8x2048x4x4x64_0_1_2_3_4 : S8x2048x4x1x64.BroadcastsInDim S8x2048x4x4x64 (![0, 1, 2, 3, 4] : Fin 5 → Fin S8x2048x4x4x64.rank)
  bcast_S_S1x1x4x4x1 : S_.BroadcastsInDim S1x1x4x4x1 (![] : Fin 0 → Fin S1x1x4x4x1.rank)
  bcast_S1x1x4x4x1_S8x2048x4x4x64_0_1_2_3_4 : S1x1x4x4x1.BroadcastsInDim S8x2048x4x4x64 (![0, 1, 2, 3, 4] : Fin 5 → Fin S8x2048x4x4x64.rank)

variable [Facts]

def fn {F : FTy → Type} [FloatOps F] (main_arg0 : FVec F S16 .f32) (main_arg1 : FVec F S8x2048x16x64 .f32) (main_arg2 : FVec F S8x2048x4x64 .f32) (main_arg3 : FVec F S8x2048x4x64 .f32) (main_arg4 : FVec F S8x2048x1024 .f32) : IVec S8x2048x4x4x64 1 :=
  let main_v0 : FVec F S8x2048x4x4x64 .f32 := shapeCast S8x2048x4x4x64 main_arg1 shapeCasts_S8x2048x16x64_S8x2048x4x4x64
  let main_v1 : FVec F S1x1x4x4x1 .f32 := shapeCast S1x1x4x4x1 main_arg0 shapeCasts_S16_S1x1x4x4x1
  let main_v2 : FVec F S8x2048x4x4x64 .f32 := Host.absf main_v0
  let main_cst : FVec F S_ .f32 := constant S_ .f32 0x7F800000#32
  let main_v3 : FVec F S8x2048x4x4x64 .f32 := broadcastInDim S8x2048x4x4x64 ![] bcast_S_S8x2048x4x4x64 main_cst
  let main_v4 : IVec S8x2048x4x4x64 1 := cmpf .olt main_v2 main_v3
  let main_v5 : FVec F S8x2048x4x64 .f32 := Host.absf main_arg2
  let main_v6 : FVec F S8x2048x4x1x64 .f32 := broadcastInDim S8x2048x4x1x64 ![0, 1, 2, 4] bcast_S8x2048x4x64_S8x2048x4x1x64_0_1_2_4 main_v5
  let main_cst_0 : FVec F S_ .f32 := constant S_ .f32 0x7F800000#32
  let main_v7 : FVec F S8x2048x4x1x64 .f32 := broadcastInDim S8x2048x4x1x64 ![] bcast_S_S8x2048x4x1x64 main_cst_0
  let main_v8 : IVec S8x2048x4x1x64 1 := cmpf .olt main_v6 main_v7
  let main_v9 : IVec S8x2048x4x4x64 1 := broadcastInDim S8x2048x4x4x64 ![0, 1, 2, 3, 4] bcast_S8x2048x4x1x64_S8x2048x4x4x64_0_1_2_3_4 main_v8
  let main_v10 : IVec S8x2048x4x4x64 1 := andi main_v4 main_v9
  let main_v11 : FVec F S1x1x4x4x1 .f32 := Host.absf main_v1
  let main_cst_1 : FVec F S_ .f32 := constant S_ .f32 0x7F800000#32
  let main_v12 : FVec F S1x1x4x4x1 .f32 := broadcastInDim S1x1x4x4x1 ![] bcast_S_S1x1x4x4x1 main_cst_1
  let main_v13 : IVec S1x1x4x4x1 1 := cmpf .olt main_v11 main_v12
  let main_v14 : IVec S8x2048x4x4x64 1 := broadcastInDim S8x2048x4x4x64 ![0, 1, 2, 3, 4] bcast_S1x1x4x4x1_S8x2048x4x4x64_0_1_2_3_4 main_v13
  let main_v15 : IVec S8x2048x4x4x64 1 := andi main_v10 main_v14
  main_v15
-- ==== Kernel.lean ====
abbrev S16 : Shape := ⟨1, ![16]⟩
abbrev S8x2048x16x64 : Shape := ⟨4, ![8, 2048, 16, 64]⟩
abbrev S8x2048x4x64 : Shape := ⟨4, ![8, 2048, 4, 64]⟩
abbrev S8x2048x1024 : Shape := ⟨3, ![8, 2048, 1024]⟩
abbrev S16384x1024 : Shape := ⟨2, ![16384, 1024]⟩
abbrev S_ : Shape := ⟨0, ![]⟩
abbrev S1024x16384 : Shape := ⟨2, ![1024, 16384]⟩
abbrev S16384x4x64 : Shape := ⟨3, ![16384, 4, 64]⟩
abbrev S4x16384x64 : Shape := ⟨3, ![4, 16384, 64]⟩
abbrev S16384x256 : Shape := ⟨2, ![16384, 256]⟩
abbrev S256x16384 : Shape := ⟨2, ![256, 16384]⟩
abbrev S1024x1024 : Shape := ⟨2, ![1024, 1024]⟩
abbrev S4x1024x64 : Shape := ⟨3, ![4, 1024, 64]⟩
abbrev S4x128x64 : Shape := ⟨3, ![4, 128, 64]⟩
abbrev S256x1024 : Shape := ⟨2, ![256, 1024]⟩
abbrev S256x128 : Shape := ⟨2, ![256, 128]⟩
abbrev S128x128 : Shape := ⟨2, ![128, 128]⟩
abbrev S1x128x64 : Shape := ⟨3, ![1, 128, 64]⟩
abbrev S128x64 : Shape := ⟨2, ![128, 64]⟩
abbrev S256x64 : Shape := ⟨2, ![256, 64]⟩
abbrev S64x128 : Shape := ⟨2, ![64, 128]⟩
abbrev S64x512 : Shape := ⟨2, ![64, 512]⟩
abbrev S256x512 : Shape := ⟨2, ![256, 512]⟩
abbrev S1x256x64 : Shape := ⟨3, ![1, 256, 64]⟩
abbrev S1 : Shape := ⟨1, ![1]⟩
abbrev S128 : Shape := ⟨1, ![128]⟩
abbrev S1x128 : Shape := ⟨2, ![1, 128]⟩
abbrev S64x256 : Shape := ⟨2, ![64, 256]⟩

abbrev nBuf : Space → Nat
  | .hbm => 25
  | .vmem => 14
  | .smem => 1
  | _ => 0

abbrev bufTy : (tb : Table) → Fin (tcTables nBuf tb) → BufTy
  | .hbm, ⟨0, _⟩ => ⟨S16, .f32⟩
  | .hbm, ⟨1, _⟩ => ⟨S8x2048x16x64, .f32⟩
  | .hbm, ⟨2, _⟩ => ⟨S8x2048x4x64, .f32⟩
  | .hbm, ⟨3, _⟩ => ⟨S8x2048x4x64, .f32⟩
  | .hbm, ⟨4, _⟩ => ⟨S8x2048x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S1024x16384, .f32⟩
  | .hbm, ⟨14, _⟩ => ⟨S1024x16384, .bf16⟩
  | .hbm, ⟨15, _⟩ => ⟨S16384x4x64, .f32⟩
  | .hbm, ⟨16, _⟩ => ⟨S4x16384x64, .f32⟩
  | .hbm, ⟨17, _⟩ => ⟨S4x16384x64, .bf16⟩
  | .hbm, ⟨18, _⟩ => ⟨S16384x256, .f32⟩
  | .hbm, ⟨19, _⟩ => ⟨S256x16384, .f32⟩
  | .hbm, ⟨20, _⟩ => ⟨S256x16384, .bf16⟩
  | .hbm, ⟨21, _⟩ => ⟨S16384x1024, .f32⟩
  | .hbm, ⟨22, _⟩ => ⟨S1024x16384, .f32⟩
  | .hbm, ⟨23, _⟩ => ⟨S1024x16384, .bf16⟩
  | .hbm, ⟨24, _⟩ => ⟨S1024x16384, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x64, .bf16⟩
  | .local _ .vmem, ⟨3, _⟩ => ⟨S4x1024x64, .bf16⟩
  | .local _ .vmem, ⟨4, _⟩ => ⟨S4x128x64, .bf16⟩
  | .local _ .vmem, ⟨5, _⟩ => ⟨S4x128x64, .bf16⟩
  | .local _ .vmem, ⟨6, _⟩ => ⟨S256x1024, .bf16⟩
  | .local _ .vmem, ⟨7, _⟩ => ⟨S256x1024, .bf16⟩
  | .local _ .vmem, ⟨8, _⟩ => ⟨S256x128, .bf16⟩
  | .local _ .vmem, ⟨9, _⟩ => ⟨S256x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![c0_i32_0.toNat, v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![c0_i32_0.toNat, v4.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16 : Shape := ⟨1, ![16]⟩
abbrev S8x2048x16x64 : Shape := ⟨4, ![8, 2048, 16, 64]⟩
abbrev S8x2048x4x64 : Shape := ⟨4, ![8, 2048, 4, 64]⟩
abbrev S8x2048x1024 : Shape := ⟨3, ![8, 2048, 1024]⟩
abbrev S8x16x128x4x4x64 : Shape := ⟨6, ![8, 16, 128, 4, 4, 64]⟩
abbrev S8x16x128x4x64 : Shape := ⟨5, ![8, 16, 128, 4, 64]⟩
abbrev S8x1x128x4x64 : Shape := ⟨5, ![8, 1, 128, 4, 64]⟩
abbrev S_ : Shape := ⟨0, ![]⟩
abbrev S8x15x128x4x64 : Shape := ⟨5, ![8, 15, 128, 4, 64]⟩
abbrev S8x16x256x4x64 : Shape := ⟨5, ![8, 16, 256, 4, 64]⟩
abbrev S8x16x4x256x128x4 : Shape := ⟨6, ![8, 16, 4, 256, 128, 4]⟩
abbrev S8x16x4x4x128x256 : Shape := ⟨6, ![8, 16, 4, 4, 128, 256]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S4x4 : Shape := ⟨2, ![4, 4]⟩
abbrev S1x1x4x4x1x1 : Shape := ⟨6, ![1, 1, 4, 4, 1, 1]⟩
abbrev S8x16x4x4x128 : Shape := ⟨5, ![8, 16, 4, 4, 128]⟩
abbrev S8x16x4x4x128x1 : Shape := ⟨6, ![8, 16, 4, 4, 128, 1]⟩
abbrev S8x16x4x64x4x128 : Shape := ⟨6, ![8, 16, 4, 64, 4, 128]⟩
abbrev S16384x1024 : Shape := ⟨2, ![16384, 1024]⟩
abbrev S1024x16384 : Shape := ⟨2, ![1024, 16384]⟩

abbrev nBuf : Space → Nat
  | .hbm => 93
  | .vmem => 0
  | .smem => 0
  | _ => 0

abbrev bufTy : (tb : Table) → Fin (tcTables nBuf tb) → BufTy
  | .hbm, ⟨0, _⟩ => ⟨S16, .f32⟩
  | .hbm, ⟨1, _⟩ => ⟨S8x2048x16x64, .f32⟩
  | .hbm, ⟨2, _⟩ => ⟨S8x2048x4x64, .f32⟩
  | .hbm, ⟨3, _⟩ => ⟨S8x2048x4x64, .f32⟩
  | .hbm, ⟨4, _⟩ => ⟨S8x2048x1024, .f32⟩
  | .hbm, ⟨5, _⟩ => ⟨S8x16x128x4x4x64, .f32⟩
  | .hbm, ⟨6, _⟩ => ⟨S8x16x128x4x64, .f32⟩
  | .hbm, ⟨7, _⟩ => ⟨S8x16x128x4x64, .f32⟩
  | .hbm, ⟨8, _⟩ => ⟨S8x1x128x4x64, .f32⟩
  | .hbm, ⟨9, _⟩ => ⟨S_, .f32⟩
  | .hbm, ⟨10, _⟩ => ⟨S8x1x128x4x64, .f32⟩
  | .hbm, ⟨11, _⟩ => ⟨S8x1x128x4x64, .f32⟩
  | .hbm, ⟨12, _⟩ => ⟨S_, .f32⟩
  | .hbm, ⟨13, _⟩ => ⟨S8x1x128x4x64, .f32⟩
  | .hbm, ⟨14, _⟩ => ⟨S8x15x128x4x64, .f32⟩
  | .hbm, ⟨15, _⟩ => ⟨S8x16x128x4x64, .f32⟩
  | .hbm, ⟨16, _⟩ => ⟨S8x16x256x4x64, .f32⟩
  | .hbm, ⟨17, _⟩ => ⟨S8x15x128x4x64, .f32⟩
  | .hbm, ⟨18, _⟩ => ⟨S8x16x128x4x64, .f32⟩
  | .hbm, ⟨19, _⟩ => ⟨S8x16x256x4x64, .f32⟩
  | .hbm, ⟨20, _⟩ => ⟨S8x16x4x256x128x4, .f32⟩
  | .hbm, ⟨21, _⟩ => ⟨S8x16x4x4x128x256, .f32⟩
  | .hbm, ⟨22, _⟩ => ⟨S_, .f32⟩
  | .hbm, ⟨23, _⟩ => ⟨S8x16x4x4x128x256, .f32⟩
  | .hbm, ⟨24, _⟩ => ⟨S8x16x4x4x128x256, .f32⟩
  | .hbm, ⟨25, _⟩ => ⟨S16, .i32⟩
  | .hbm, ⟨26, _⟩ => ⟨S16x1x1, .i32⟩
  | .hbm, ⟨27, _⟩ => ⟨S_, .i32⟩
  | .hbm, ⟨28, _⟩ => ⟨S16x1x1, .i32⟩
  | .hbm, ⟨29, _⟩ => ⟨S16x1x1, .i32⟩
  | .hbm, ⟨30, _⟩ => ⟨S128, .i32⟩
  | .hbm, ⟨31, _⟩ => ⟨S1x128x1, .i32⟩
  | .hbm, ⟨32, _⟩ => ⟨S16x128x1, .i32⟩
  | .hbm, ⟨33, _⟩ => ⟨S16x128x1, .i32⟩
  | .hbm, ⟨34, _⟩ => ⟨S16x128x1, .i32⟩
  | .hbm, ⟨35, _⟩ => ⟨S_, .i32⟩
  | .hbm, ⟨36, _⟩ => ⟨S16x1x1, .i32⟩
  | .hbm, ⟨37, _⟩ => ⟨S16x1x1, .i32⟩
  | .hbm, ⟨38, _⟩ => ⟨S_, .i32⟩
  | .hbm, ⟨39, _⟩ => ⟨S16x1x1, .i32⟩
  | .hbm, ⟨40, _⟩ => ⟨S16x1x1, .i32⟩
  | .hbm, ⟨41, _⟩ => ⟨S256, .i32⟩
  | .hbm, ⟨42, _⟩ => ⟨S1x1x256, .i32⟩
  | .hbm, ⟨43, _⟩ => ⟨S16x1x256, .i32⟩
  | .hbm, ⟨44, _⟩ => ⟨S16x1x256, .i32⟩
  | .hbm, ⟨45, _⟩ => ⟨S16x1x256, .i32⟩
  | .hbm, ⟨46, _⟩ => ⟨S16x128x256, .i32⟩
  | .hbm, ⟨47, _⟩ => ⟨S16x128x256, .i32⟩
  | .hbm, ⟨48, _⟩ => ⟨S16x128x256, .i32⟩
  | .hbm, ⟨49, _⟩ => ⟨S_, .i32⟩
  | .hbm, ⟨50, _⟩ => ⟨S16x128x256, .i32⟩
  | .hbm, ⟨51, _⟩ => ⟨S16x128x256, .i1⟩
  | .hbm, ⟨52, _⟩ => ⟨S_, .i32⟩
  | .hbm, ⟨53, _⟩ => ⟨S16x128x256, .i32⟩
  | .hbm, ⟨54, _⟩ => ⟨S16x128x256, .i1⟩
  | .hbm, ⟨55, _⟩ => ⟨S16x128x256, .i1⟩
  | .hbm, ⟨56, _⟩ => ⟨S_, .i32⟩
  | .hbm, ⟨57, _⟩ => ⟨S16x1x256, .i32⟩
  | .hbm, ⟨58, _⟩ => ⟨S16x1x256, .i1⟩
  | .hbm, ⟨59, _⟩ => ⟨S16x128x256, .i1⟩
  | .hbm, ⟨60, _⟩ => ⟨S16x128x256, .i1⟩
  | .hbm, ⟨61, _⟩ => ⟨S1x16x1x1x128x256, .i1⟩
  | .hbm, ⟨62, _⟩ => ⟨S_, .f32⟩
  | .hbm, ⟨63, _⟩ => ⟨S_, .f32⟩
  | .hbm, ⟨64, _⟩ => ⟨S8x16x4x4x128x256, .i1⟩
  | .hbm, ⟨65, _⟩ => ⟨S8x16x4x4x128x256, .f32⟩
  | .hbm, ⟨66, _⟩ => ⟨S8x16x4x4x128x256, .f32⟩
  | .hbm, ⟨67, _⟩ => ⟨S4x4, .f32⟩
  | .hbm, ⟨68, _⟩ => ⟨S1x1x4x4x1x1, .f32⟩
  | .hbm, ⟨69, _⟩ => ⟨S_, .f32⟩
  | .hbm, ⟨70, _⟩ => ⟨S8x16x4x4x128, .f32⟩
  | .hbm, ⟨71, _⟩ => ⟨S8x16x4x4x128x1, .f32⟩
  | .hbm, ⟨72, _⟩ => ⟨S8x16x4x4x128x1, .f32⟩
  | .hbm, ⟨73, _⟩ => ⟨S8x16x4x4x128x1, .f32⟩
  | .hbm, ⟨74, _⟩ => ⟨S8x16x4x4x128x256, .f32⟩
  | .hbm, ⟨75, _⟩ => ⟨S8x16x4x4x128x256, .f32⟩
  | .hbm, ⟨76, _⟩ => ⟨S8x16x4x4x128x256, .f32⟩
  | .hbm, ⟨77, _⟩ => ⟨S_, .f32⟩
  | .hbm, ⟨78, _⟩ => ⟨S8x16x4x4x128, .f32⟩
  | .hbm, ⟨79, _⟩ => ⟨S8x16x4x4x128x1, .f32⟩
  | .hbm, ⟨80, _⟩ => ⟨S8x16x4x4x128x1, .f32⟩
  | .hbm, ⟨81, _⟩ => ⟨S8x16x4x4x128x1, .f32⟩
  | .hbm, ⟨82, _⟩ => ⟨S8x16x4x4x128x1, .f32⟩
  | .hbm, ⟨83, _⟩ => ⟨S8x16x4x4x128x1, .f32⟩
  | .hbm, ⟨84, _⟩ => ⟨S8x16x4x4x128x256, .f32⟩
  | .hbm, ⟨85, _⟩ => ⟨S8x16x4x4x128x256, .f32⟩
  | .hbm, ⟨86, _⟩ => ⟨S8x16x4x64x4x128, .f32⟩
  | .hbm, ⟨87, _⟩ => ⟨S8x16x128x4x4x64, .f32⟩
  | .hbm, ⟨88, _⟩ => ⟨S8x2048x1024, .f32⟩
  | .hbm, ⟨89, _⟩ => ⟨S8x2048x1024, .f32⟩
  | .hbm, ⟨90, _⟩ => ⟨S16384x1024, .f32⟩
  | .hbm, ⟨91, _⟩ => ⟨S1024x16384, .f32⟩
  | .hbm, ⟨92, _⟩ => ⟨S1024x16384, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== OutKernel.lean ====
abbrev S8x2048x1024 : Shape := ⟨3, ![8, 2048, 1024]⟩
abbrev S8x2048x512 : Shape := ⟨3, ![8, 2048, 512]⟩
abbrev S2x1536x1024 : Shape := ⟨3, ![2, 1536, 1024]⟩
abbrev S4x1024 : Shape := ⟨2, ![4, 1024]⟩
abbrev S16384x1024 : Shape := ⟨2, ![16384, 1024]⟩
abbrev S1024x16384 : Shape := ⟨2, ![1024, 16384]⟩
abbrev S1x1024 : Shape := ⟨2, ![1, 1024]⟩
abbrev S1024 : Shape := ⟨1, ![1024]⟩
abbrev S16384x512 : Shape := ⟨2, ![16384, 512]⟩
abbrev S1024x1024 : Shape := ⟨2, ![1024, 1024]⟩
abbrev S1024x512 : Shape := ⟨2, ![1024, 512]⟩
abbrev S1x1536x1024 : Shape := ⟨3, ![1, 1536, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S1024x1 : Shape := ⟨2, ![1024, 1]⟩

abbrev nBuf : Space → Nat
  | .hbm => 16
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S2x1536x1024, .f32⟩
  | .hbm, ⟨3, _⟩ => ⟨S4x1024, .f32⟩
  | .hbm, ⟨4, _⟩ => ⟨S8x2048x1024, .f32⟩
  | .hbm, ⟨5, _⟩ => ⟨S16384x1024, .f32⟩
  | .hbm, ⟨6, _⟩ => ⟨S1024x16384, .f32⟩
  | .hbm, ⟨7, _⟩ => ⟨S1024x16384, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16384x512, .f32⟩
  | .hbm, ⟨12, _⟩ => ⟨S16384x512, .bf16⟩
  | .hbm, ⟨13, _⟩ => ⟨S2x1536x1024, .bf16⟩
  | .hbm, ⟨14, _⟩ => ⟨S16384x1024, .f32⟩
  | .hbm, ⟨15, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1536x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S8x2048x1024 : Shape := ⟨3, ![8, 2048, 1024]⟩
abbrev S8x2048x512 : Shape := ⟨3, ![8, 2048, 512]⟩
abbrev S2x1536x1024 : Shape := ⟨3, ![2, 1536, 1024]⟩
abbrev S4x1024 : Shape := ⟨2, ![4, 1024]⟩
abbrev S8x2048x1536 : Shape := ⟨3, ![8, 2048, 1536]⟩
abbrev S1x1536x1024 : Shape := ⟨3, ![1, 1536, 1024]⟩
abbrev S1536x1024 : Shape := ⟨2, ![1536, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S2x1536x1024, .f32⟩
  | .hbm, ⟨3, _⟩ => ⟨S4x1024, .f32⟩
  | .hbm, ⟨4, _⟩ => ⟨S8x2048x1024, .f32⟩
  | .hbm, ⟨5, _⟩ => ⟨S8x2048x1536, .f32⟩
  | .hbm, ⟨6, _⟩ => ⟨S1x1536x1024, .f32⟩
  | .hbm, ⟨7, _⟩ => ⟨S1536x1024, .f32⟩
  | .hbm, ⟨8, _⟩ => ⟨S8x2048x1024, .f32⟩
  | .hbm, ⟨9, _⟩ => ⟨S1x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== InKernel.lean ====
abbrev S8x2048x1024 : Shape := ⟨3, ![8, 2048, 1024]⟩
abbrev S8x2048x512 : Shape := ⟨3, ![8, 2048, 512]⟩
abbrev S2x1536x1024 : Shape := ⟨3, ![2, 1536, 1024]⟩
abbrev S4x1024 : Shape := ⟨2, ![4, 1024]⟩
abbrev S2x1024x5120 : Shape := ⟨3, ![2, 1024, 5120]⟩
abbrev S3x1024 : Shape := ⟨2, ![3, 1024]⟩
abbrev S4x8x256x512 : Shape := ⟨4, ![4, 8, 256, 512]⟩
abbrev S1x1024 : Shape := ⟨2, ![1, 1024]⟩
abbrev S1024 : Shape := ⟨1, ![1024]⟩
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S1x1536x1024 : Shape := ⟨3, ![1, 1536, 1024]⟩
abbrev S1x1024x5120 : Shape := ⟨3, ![1, 1024, 5120]⟩
abbrev S1x1x256x512 : Shape := ⟨4, ![1, 1, 256, 512]⟩
abbrev S2x1024 : Shape := ⟨2, ![2, 1024]⟩
abbrev S256x1024 : Shape := ⟨2, ![256, 1024]⟩
abbrev S1x1024x1024 : Shape := ⟨3, ![1, 1024, 1024]⟩
abbrev S1024x1024 : Shape := ⟨2, ![1024, 1024]⟩
abbrev S256x512 : Shape := ⟨2, ![256, 512]⟩
abbrev S1x512x1024 : Shape := ⟨3, ![1, 512, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x128 : Shape := ⟨2, ![256, 128]⟩
abbrev S1x1x256x128 : Shape := ⟨4, ![1, 1, 256, 128]⟩
abbrev S256x256 : Shape := ⟨2, ![256, 256]⟩

abbrev nBuf : Space → Nat
  | .hbm => 32
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x512, .f32⟩
  | .hbm, ⟨3, _⟩ => ⟨S2x1536x1024, .f32⟩
  | .hbm, ⟨4, _⟩ => ⟨S4x1024, .f32⟩
  | .hbm, ⟨5, _⟩ => ⟨S4x1024, .f32⟩
  | .hbm, ⟨6, _⟩ => ⟨S2x1024x5120, .f32⟩
  | .hbm, ⟨7, _⟩ => ⟨S3x1024, .f32⟩
  | .hbm, ⟨8, _⟩ => ⟨S4x8x256x512, .f32⟩
  | .hbm, ⟨9, _⟩ => ⟨S4x8x256x512, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .hbm, ⟨17, _⟩ => ⟨S16384x1024, .bf16⟩
  | .hbm, ⟨18, _⟩ => ⟨S16384x512, .f32⟩
  | .hbm, ⟨19, _⟩ => ⟨S16384x512, .bf16⟩
  | .hbm, ⟨20, _⟩ => ⟨S2x1536x1024, .bf16⟩
  | .hbm, ⟨21, _⟩ => ⟨S16384x1024, .f32⟩
  | .hbm, ⟨22, _⟩ => ⟨S2x1024x5120, .bf16⟩
  | .hbm, ⟨23, _⟩ => ⟨S4x8x256x512, .bf16⟩
  | .hbm, ⟨24, _⟩ => ⟨S4x8x256x512, .bf16⟩
  | .hbm, ⟨25, _⟩ => ⟨S16384x1024, .f32⟩
  | .hbm, ⟨26, _⟩ => ⟨S16384x1024, .bf16⟩
  | .hbm, ⟨27, _⟩ => ⟨S16384x1024, .f32⟩
  | .hbm, ⟨28, _⟩ => ⟨S16384x1024, .bf16⟩
  | .hbm, ⟨29, _⟩ => ⟨S16384x1024, .bf16⟩
  | .hbm, ⟨30, _⟩ => ⟨S16384x1024, .bf16⟩
  | .hbm, ⟨31, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S1x1536x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x5120, .bf16⟩
  | .local _ .vmem, ⟨10, _⟩ => ⟨S3x1024, .f32⟩
  | .local _ .vmem, ⟨11, _⟩ => ⟨S1x1x256x512, .bf16⟩
  | .local _ .vmem, ⟨12, _⟩ => ⟨S1x1x256x512, .bf16⟩
  | .local _ .vmem, ⟨13, _⟩ => ⟨S1x1x256x512, .bf16⟩
  | .local _ .vmem, ⟨14, _⟩ => ⟨S1x1x256x512, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x512, .bf16⟩
  | .local _ .vmem, ⟨28, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InKernelIdeal.lean ====
variable {F : FTy → Type} [FloatOps F] [Named F]
def κ : String → Option EReal := fun
  | "log2e" => some (((Real.log 2)⁻¹ : ℝ) : EReal)
  | "mem_scale" => some (((11863283 / 134217728) * (Real.log 2)⁻¹ : ℝ) : EReal)
  | _ => none
-- ==== InReferenceIdeal.lean ====
abbrev S8x2048x1024 : Shape := ⟨3, ![8, 2048, 1024]⟩
abbrev S8x2048x512 : Shape := ⟨3, ![8, 2048, 512]⟩
abbrev S2x1536x1024 : Shape := ⟨3, ![2, 1536, 1024]⟩
abbrev S4x1024 : Shape := ⟨2, ![4, 1024]⟩
abbrev S2x1024x5120 : Shape := ⟨3, ![2, 1024, 5120]⟩
abbrev S3x1024 : Shape := ⟨2, ![3, 1024]⟩
abbrev S4x8x256x512 : Shape := ⟨4, ![4, 8, 256, 512]⟩
abbrev S_ : Shape := ⟨0, ![]⟩
abbrev S1024 : Shape := ⟨1, ![1024]⟩
abbrev S1x1024 : Shape := ⟨2, ![1, 1024]⟩
abbrev S8x2048x1536 : Shape := ⟨3, ![8, 2048, 1536]⟩
abbrev S1x1536x1024 : Shape := ⟨3, ![1, 1536, 1024]⟩
abbrev S1536x1024 : Shape := ⟨2, ![1536, 1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5120 : Shape := ⟨3, ![1, 1024, 5120]⟩
abbrev S1024x5120 : Shape := ⟨2, ![1024, 5120]⟩
abbrev S8x2048x5120 : Shape := ⟨3, ![8, 2048, 5120]⟩
abbrev S8x2048x4x128 : Shape := ⟨4, ![8, 2048, 4, 128]⟩
abbrev S1x8x256x512 : Shape := ⟨4, ![1, 8, 256, 512]⟩
abbrev S8x256x512 : Shape := ⟨3, ![8, 256, 512]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S16384x1024 : Shape := ⟨2, ![16384, 1024]⟩
abbrev S16384x512 : Shape := ⟨2, ![16384, 512]⟩

abbrev nBuf : Space → Nat
  | .hbm => 202
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S8x2048x512, .f32⟩
  | 3 => ⟨S2x1536x1024, .f32⟩
  | 4 => ⟨S4x1024, .f32⟩
  | 5 => ⟨S4x1024, .f32⟩
  | 6 => ⟨S2x1024x5120, .f32⟩
  | 7 => ⟨S3x1024, .f32⟩
  | 8 => ⟨S4x8x256x512, .f32⟩
  | 9 => ⟨S4x8x256x512, .f32⟩
  | 10 => ⟨S_, .f32⟩
  | 11 => ⟨S1024, .f32⟩
  | 12 => ⟨S_, .f32⟩
  | 13 => ⟨S1024, .f32⟩
  | 14 => ⟨S1024, .f32⟩
  | 15 => ⟨S1x1024, .f32⟩
  | 16 => ⟨S3x1024, .f32⟩
  | 17 => ⟨S3x1024, .f32⟩
  | 18 => ⟨S3x1024, .f32⟩
  | 19 => ⟨S_, .f32⟩
  | 20 => ⟨S1024, .f32⟩
  | 21 => ⟨S1x1024, .f32⟩
  | 22 => ⟨S3x1024, .f32⟩
  | 23 => ⟨S3x1024, .f32⟩
  | 24 => ⟨S_, .f32⟩
  | 25 => ⟨S_, .f32⟩
  | 26 => ⟨S3x1024, .f32⟩
  | 27 => ⟨S8x2048x1536, .f32⟩
  | 28 => ⟨S1x1536x1024, .f32⟩
  | 29 => ⟨S1536x1024, .f32⟩
  | 30 => ⟨S8x2048x1024, .f32⟩
  | 31 => ⟨S1x1024, .f32⟩
  | 32 => ⟨S1024, .f32⟩
  | 33 => ⟨S8x2048x1024, .f32⟩
  | 34 => ⟨S_, .f32⟩
  | 35 => ⟨S8x2048, .f32⟩
  | 36 => ⟨S8x2048x1, .f32⟩
  | 37 => ⟨S_, .f32⟩
  | 38 => ⟨S8x2048x1, .f32⟩
  | 39 => ⟨S8x2048x1, .f32⟩
  | 40 => ⟨S_, .f32⟩
  | 41 => ⟨S8x2048x1, .f32⟩
  | 42 => ⟨S8x2048x1, .f32⟩
  | 43 => ⟨S8x2048x1, .f32⟩
  | 44 => ⟨S8x2048x1024, .f32⟩
  | 45 => ⟨S8x2048x1024, .f32⟩
  | 46 => ⟨S1x1x1024, .f32⟩
  | 47 => ⟨S8x2048x1024, .f32⟩
  | 48 => ⟨S8x2048x1024, .f32⟩
  | 49 => ⟨S8x2048x1024, .f32⟩
  | 50 => ⟨S1x1024, .f32⟩
  | 51 => ⟨S1024, .f32⟩
  | 52 => ⟨S8x2048x1024, .f32⟩
  | 53 => ⟨S_, .f32⟩
  | 54 => ⟨S8x2048, .f32⟩
  | 55 => ⟨S8x2048x1, .f32⟩
  | 56 => ⟨S_, .f32⟩
  | 57 => ⟨S8x2048x1, .f32⟩
  | 58 => ⟨S8x2048x1, .f32⟩
  | 59 => ⟨S_, .f32⟩
  | 60 => ⟨S8x2048x1, .f32⟩
  | 61 => ⟨S8x2048x1, .f32⟩
  | 62 => ⟨S8x2048x1, .f32⟩
  | 63 => ⟨S8x2048x1024, .f32⟩
  | 64 => ⟨S8x2048x1024, .f32⟩
  | 65 => ⟨S1x1x1024, .f32⟩
  | 66 => ⟨S8x2048x1024, .f32⟩
  | 67 => ⟨S8x2048x1024, .f32⟩
  | 68 => ⟨S1x1024x5120, .f32⟩
  | 69 => ⟨S1024x5120, .f32⟩
  | 70 => ⟨S8x2048x5120, .f32⟩
  | 71 => ⟨S8x2048x1024, .f32⟩
  | 72 => ⟨S8x2048x1024, .f32⟩
  | 73 => ⟨S8x2048x1024, .f32⟩
  | 74 => ⟨S8x2048x1024, .f32⟩
  | 75 => ⟨S8x2048x512, .f32⟩
  | 76 => ⟨S8x2048x512, .f32⟩
  | 77 => ⟨S1x1024, .f32⟩
  | 78 => ⟨S1024, .f32⟩
  | 79 => ⟨S1024, .f32⟩
  | 80 => ⟨S1024, .f32⟩
  | 81 => ⟨S1024, .f32⟩
  | 82 => ⟨S8x2048x1024, .f32⟩
  | 83 => ⟨S_, .f32⟩
  | 84 => ⟨S8x2048x1024, .f32⟩
  | 85 => ⟨S8x2048x1024, .f32⟩
  | 86 => ⟨S8x2048x1024, .f32⟩
  | 87 => ⟨S8x2048x1024, .f32⟩
  | 88 => ⟨S8x2048x1024, .i1⟩
  | 89 => ⟨S8x2048x1024, .f32⟩
  | 90 => ⟨S8x2048x1024, .f32⟩
  | 91 => ⟨S8x2048x1024, .f32⟩
  | 92 => ⟨S8x2048x1024, .f32⟩
  | 93 => ⟨S8x2048x1024, .f32⟩
  | 94 => ⟨S8x2048x1024, .f32⟩
  | 95 => ⟨S8x2048x1024, .f32⟩
  | 96 => ⟨S8x2048x1024, .f32⟩
  | 97 => ⟨S8x2048x1024, .f32⟩
  | 98 => ⟨S1x1x1024, .f32⟩
  | 99 => ⟨S8x2048x1024, .f32⟩
  | 100 => ⟨S8x2048x1024, .f32⟩
  | 101 => ⟨S1x1x1024, .f32⟩
  | 102 => ⟨S8x2048x1024, .f32⟩
  | 103 => ⟨S8x2048x1024, .f32⟩
  | 104 => ⟨S8x2048x1024, .f32⟩
  | 105 => ⟨S8x2048x1024, .f32⟩
  | 106 => ⟨S8x2048x1024, .i1⟩
  | 107 => ⟨S8x2048x1024, .f32⟩
  | 108 => ⟨S8x2048x1024, .f32⟩
  | 109 => ⟨S8x2048x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S8x2048x1024, .f32⟩
  | 115 => ⟨S_, .f32⟩
  | 116 => ⟨S1024, .f32⟩
  | 117 => ⟨S1024, .f32⟩
  | 118 => ⟨S8x2048x1024, .f32⟩
  | 119 => ⟨S8x2048x1024, .f32⟩
  | 120 => ⟨S8x2048x1024, .f32⟩
  | 121 => ⟨S_, .f32⟩
  | 122 => ⟨S8x2048x1024, .f32⟩
  | 123 => ⟨S8x2048x1024, .f32⟩
  | 124 => ⟨S_, .f32⟩
  | 125 => ⟨S8x2048x1024, .f32⟩
  | 126 => ⟨S8x2048x1024, .f32⟩
  | 127 => ⟨S1x1x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S_, .f32⟩
  | 5 => ⟨S8x2048x1024, .f32⟩
  | 6 => ⟨S8x2048x1024, .f32⟩
  | 7 => ⟨S_, .f32⟩
  | 8 => ⟨S8x2048x1024, .f32⟩
  | 9 => ⟨S8x2048x1024, .f32⟩
  | 10 => ⟨S8x2048x1024, .f32⟩
  | 11 => ⟨S8x2048x4x128, .f32⟩
  | 12 => ⟨S1x8x256x512, .f32⟩
  | 13 => ⟨S8x256x512, .f32⟩
  | 14 => ⟨S8x256x4x128, .f32⟩
  | 15 => ⟨S1x8x256x512, .f32⟩
  | 16 => ⟨S8x256x512, .f32⟩
  | 17 => ⟨S8x256x4x128, .f32⟩
  | 18 => ⟨S8x4x2048x256, .f32⟩
  | 19 => ⟨S_, .f32⟩
  | 20 => ⟨S8x4x2048x256, .f32⟩
  | 21 => ⟨S8x4x2048x256, .f32⟩
  | 22 => ⟨S_, .f32⟩
  | 23 => ⟨S8x4x2048, .f32⟩
  | 24 => ⟨S_, .f32⟩
  | 25 => ⟨S8x4x2048, .f32⟩
  | 26 => ⟨S8x4x2048, .f32⟩
  | 27 => ⟨S8x4x2048x1, .f32⟩
  | 28 => ⟨S8x4x2048x256, .f32⟩
  | 29 => ⟨S8x4x2048x256, .f32⟩
  | 30 => ⟨S8x4x2048x256, .f32⟩
  | 31 => ⟨S_, .f32⟩
  | 32 => ⟨S8x4x2048, .f32⟩
  | 33 => ⟨S8x4x2048x1, .f32⟩
  | 34 => ⟨S8x4x2048x256, .f32⟩
  | 35 => ⟨S8x4x2048x256, .f32⟩
  | 36 => ⟨S8x4x128x2048, .f32⟩
  | 37 => ⟨S8x2048x4x128, .f32⟩
  | 38 => ⟨S8x2048x512, .f32⟩
  | 39 => ⟨S8x2048x512, .f32⟩
  | 40 => ⟨S8x2048x512, .f32⟩
  | 41 => ⟨S_, .f32⟩
  | 42 => ⟨S8x2048x512, .f32⟩
  | 43 => ⟨S8x2048x512, .f32⟩
  | 44 => ⟨S_, .f32⟩
  | 45 => ⟨S8x2048x512, .f32⟩
  | 46 => ⟨S8x2048x512, .f32⟩
  | 47 => ⟨S8x2048x512, .f32⟩
  | 48 => ⟨S8x2048x512, .f32⟩
  | 49 => ⟨S16384x1024, .f32⟩
  | 50 => ⟨S16384x1024, .f32⟩
  | 51 => ⟨S16384x1024, .bf16⟩
  | 52 => ⟨S_, .f32⟩
  | 53 => ⟨S_, .f32⟩
  | 54 => ⟨S8x2048x1024, .f32⟩
  | 55 => ⟨S8x2048x1024, .f32⟩
  | 56 => ⟨S16384x1024, .f32⟩
  | 57 => ⟨S16384x1024, .f32⟩
  | 58 => ⟨S16384x1024, .bf16⟩
  | 59 => ⟨S16384x1024, .f32⟩
  | 60 => ⟨S16384x1024, .bf16⟩
  | 61 => ⟨S8x2048x1024, .f32⟩
  | 62 => ⟨S8x2048x1024, .f32⟩
  | 63 => ⟨S_, .f32⟩
  | 64 => ⟨S8x2048x1024, .f32⟩
  | 65 => ⟨S8x2048x1024, .f32⟩
  | 66 => ⟨S_, .f32⟩
  | 67 => ⟨S8x2048x1024, .f32⟩
  | 68 => ⟨S8x2048x1024, .f32⟩
  | 69 => ⟨S8x2048x1024, .f32⟩
  | 70 => ⟨S16384x1024, .f32⟩
  | 71 => ⟨S16384x1024, .bf16⟩
  | 72 => ⟨S16384x512, .f32⟩
  | 73 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_call0_cst : Ref sig .tc := ⟨.hbm, 24, rfl⟩
abbrev main_call0_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call1_v0 : Ref sig .tc := ⟨.hbm, 82, rfl⟩
abbrev main_call1_call0_cst : Ref sig .tc := ⟨.hbm, 83, rfl⟩
abbrev main_call1_call0_v0 : Ref sig .tc := ⟨.hbm, 84, rfl⟩
abbrev main_call1_call0_v1 : Ref sig .tc := ⟨.hbm, 85, rfl⟩
abbrev main_call1_call0_v2 : Ref sig .tc := ⟨.hbm, 86, rfl⟩
abbrev main_call1_call0_v3 : Ref sig .tc := ⟨.hbm, 87, rfl⟩
abbrev main_call1_call0_v4 : Ref sig .tc := ⟨.hbm, 88, rfl⟩
abbrev main_call1_call0_v5 : Ref sig .tc := ⟨.hbm, 89, rfl⟩
abbrev main_call1_call0_v6 : Ref sig .tc := ⟨.hbm, 90, rfl⟩
abbrev main_call1_call0_v7 : Ref sig .tc := ⟨.hbm, 91, rfl⟩
abbrev main_call1_call0_v8 : Ref sig .tc := ⟨.hbm, 92, rfl⟩
abbrev main_call1_call0_v9 : Ref sig .tc := ⟨.hbm, 93, rfl⟩
abbrev main_call1_call0_v10 : Ref sig .tc := ⟨.hbm, 94, rfl⟩
abbrev main_call1_call0_v11 : Ref sig .tc := ⟨.hbm, 95, rfl⟩
abbrev main_call1_v1 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_8 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_9 : Ref sig .tc := ⟨.hbm, 121, rfl⟩
abbrev main_v84 : Ref sig .tc := ⟨.hbm, 122, rfl⟩
abbrev main_v85 : Ref sig .tc := ⟨.hbm, 123, rfl⟩
abbrev main_cst_10 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call2_v0 : Ref sig .tc := ⟨.hbm, 130, rfl⟩
abbrev main_call2_v1 : Ref sig .tc := ⟨.hbm, 131, rfl⟩
abbrev main_call2_cst : Ref sig .tc := ⟨.hbm, 132, rfl⟩
abbrev main_call2_v2 : Ref sig .tc := ⟨.hbm, 133, rfl⟩
abbrev main_call2_v3 : Ref sig .tc := ⟨.hbm, 134, rfl⟩
abbrev main_call2_cst_0 : Ref sig .tc := ⟨.hbm, 135, rfl⟩
abbrev main_call2_v4 : Ref sig .tc := ⟨.hbm, 136, rfl⟩
abbrev main_call2_v5 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_11 : Ref sig .tc := ⟨.hbm, 147, rfl⟩
abbrev main_v100 : Ref sig .tc := ⟨.hbm, 148, rfl⟩
abbrev main_v101 : Ref sig .tc := ⟨.hbm, 149, rfl⟩
abbrev main_cst_12 : Ref sig .tc := ⟨.hbm, 150, rfl⟩
abbrev main_v102 : Ref sig .tc := ⟨.hbm, 151, rfl⟩
abbrev main_cst_13 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_14 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_call3_v0 : Ref sig .tc := ⟨.hbm, 167, rfl⟩
abbrev main_call3_v1 : Ref sig .tc := ⟨.hbm, 168, rfl⟩
abbrev main_call3_cst : Ref sig .tc := ⟨.hbm, 169, rfl⟩
abbrev main_call3_v2 : Ref sig .tc := ⟨.hbm, 170, rfl⟩
abbrev main_call3_v3 : Ref sig .tc := ⟨.hbm, 171, rfl⟩
abbrev main_call3_cst_0 : Ref sig .tc := ⟨.hbm, 172, rfl⟩
abbrev main_call3_v4 : Ref sig .tc := ⟨.hbm, 173, rfl⟩
abbrev main_call3_v5 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_15 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_call4_v0 : Ref sig .tc := ⟨.hbm, 189, rfl⟩
abbrev main_call4_v1 : Ref sig .tc := ⟨.hbm, 190, rfl⟩
abbrev main_call4_cst : Ref sig .tc := ⟨.hbm, 191, rfl⟩
abbrev main_call4_v2 : Ref sig .tc := ⟨.hbm, 192, rfl⟩
abbrev main_call4_v3 : Ref sig .tc := ⟨.hbm, 193, rfl⟩
abbrev main_call4_cst_0 : Ref sig .tc := ⟨.hbm, 194, rfl⟩
abbrev main_call4_v4 : Ref sig .tc := ⟨.hbm, 195, rfl⟩
abbrev main_call4_v5 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩

abbrev nD : Nat := 1
abbrev τ : Topo := Topo.v7x

variable {F : FTy → Type} [FloatOps F]
-- ==== BKernel.lean ====
abbrev S8x2048x1024 : Shape := ⟨3, ![8, 2048, 1024]⟩
abbrev S8x2048x512 : Shape := ⟨3, ![8, 2048, 512]⟩
abbrev S2x1536x1024 : Shape := ⟨3, ![2, 1536, 1024]⟩
abbrev S4x1024 : Shape := ⟨2, ![4, 1024]⟩
abbrev S2x1024x3072 : Shape := ⟨3, ![2, 1024, 3072]⟩
abbrev S8x2048x32 : Shape := ⟨3, ![8, 2048, 32]⟩
abbrev S4x8x256x512 : Shape := ⟨4, ![4, 8, 256, 512]⟩
abbrev S1x1024 : Shape := ⟨2, ![1, 1024]⟩
abbrev S1024 : Shape := ⟨1, ![1024]⟩
abbrev S16384x32 : Shape := ⟨2, ![16384, 32]⟩
abbrev S16384x1024 : Shape := ⟨2, ![16384, 1024]⟩
abbrev S16384x512 : Shape := ⟨2, ![16384, 512]⟩
abbrev S16384x128 : Shape := ⟨2, ![16384, 128]⟩
abbrev S1024x16384 : Shape := ⟨2, ![1024, 16384]⟩
abbrev S512x1024 : Shape := ⟨2, ![512, 1024]⟩
abbrev S512x512 : Shape := ⟨2, ![512, 512]⟩
abbrev S1x1536x1024 : Shape := ⟨3, ![1, 1536, 1024]⟩
abbrev S1x1024x3072 : Shape := ⟨3, ![1, 1024, 3072]⟩
abbrev S512x128 : Shape := ⟨2, ![512, 128]⟩
abbrev S1x1x256x512 : Shape := ⟨4, ![1, 1, 256, 512]⟩
abbrev S1024x512 : Shape := ⟨2, ![1024, 512]⟩
abbrev S256x128 : Shape := ⟨2, ![256, 128]⟩
abbrev S256x1024 : Shape := ⟨2, ![256, 1024]⟩
abbrev S1x1024x1024 : Shape := ⟨3, ![1, 1024, 1024]⟩
abbrev S1024x1024 : Shape := ⟨2, ![1024, 1024]⟩
abbrev S256x512 : Shape := ⟨2, ![256, 512]⟩
abbrev S1x512x1024 : Shape := ⟨3, ![1, 512, 1024]⟩
abbrev S256 : Shape := ⟨1, ![256]⟩
abbrev S256x1 : Shape := ⟨2, ![256, 1]⟩
abbrev S1x1024x512 : Shape := ⟨3, ![1, 1024, 512]⟩
abbrev S1x1x256x128 : Shape := ⟨4, ![1, 1, 256, 128]⟩
abbrev S256x256 : Shape := ⟨2, ![256, 256]⟩
abbrev S128x256 : Shape := ⟨2, ![128, 256]⟩

abbrev nBuf : Space → Nat
  | .hbm => 36
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x512, .f32⟩
  | .hbm, ⟨3, _⟩ => ⟨S2x1536x1024, .f32⟩
  | .hbm, ⟨4, _⟩ => ⟨S4x1024, .f32⟩
  | .hbm, ⟨5, _⟩ => ⟨S4x1024, .f32⟩
  | .hbm, ⟨6, _⟩ => ⟨S2x1024x3072, .f32⟩
  | .hbm, ⟨7, _⟩ => ⟨S8x2048x32, .f32⟩
  | .hbm, ⟨8, _⟩ => ⟨S8x2048x32, .f32⟩
  | .hbm, ⟨9, _⟩ => ⟨S4x8x256x512, .f32⟩
  | .hbm, ⟨10, _⟩ => ⟨S4x8x256x512, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x32, .f32⟩
  | .hbm, ⟨18, _⟩ => ⟨S16384x32, .f32⟩
  | .hbm, ⟨19, _⟩ => ⟨S16384x1024, .f32⟩
  | .hbm, ⟨20, _⟩ => ⟨S16384x1024, .bf16⟩
  | .hbm, ⟨21, _⟩ => ⟨S16384x512, .f32⟩
  | .hbm, ⟨22, _⟩ => ⟨S16384x512, .bf16⟩
  | .hbm, ⟨23, _⟩ => ⟨S2x1536x1024, .bf16⟩
  | .hbm, ⟨24, _⟩ => ⟨S16384x1024, .f32⟩
  | .hbm, ⟨25, _⟩ => ⟨S2x1024x3072, .bf16⟩
  | .hbm, ⟨26, _⟩ => ⟨S16384x128, .f32⟩
  | .hbm, ⟨27, _⟩ => ⟨S16384x32, .f32⟩
  | .hbm, ⟨28, _⟩ => ⟨S16384x32, .f32⟩
  | .hbm, ⟨29, _⟩ => ⟨S16384x128, .f32⟩
  | .hbm, ⟨30, _⟩ => ⟨S4x8x256x512, .bf16⟩
  | .hbm, ⟨31, _⟩ => ⟨S4x8x256x512, .bf16⟩
  | .hbm, ⟨32, _⟩ => ⟨S16384x1024, .f32⟩
  | .hbm, ⟨33, _⟩ => ⟨S1024x16384, .bf16⟩
  | .hbm, ⟨34, _⟩ => ⟨S1024x16384, .bf16⟩
  | .hbm, ⟨35, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S1x1536x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x3072, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x1x256x512, .bf16⟩
  | .local _ .vmem, ⟨15, _⟩ => ⟨S1x1x256x512, .bf16⟩
  | .local _ .vmem, ⟨16, _⟩ => ⟨S1x1x256x512, .bf16⟩
  | .local _ .vmem, ⟨17, _⟩ => ⟨S1x1x256x512, .bf16⟩
  | .local _ .vmem, ⟨18, _⟩ => ⟨S512x1024, .f32⟩
  | .local _ .vmem, ⟨19, _⟩ => ⟨S512x1024, .f32⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S512x512, .bf16⟩
  | .local _ .vmem, ⟨25, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![c2_i32.toNat, v16.toNat, c0_i32_4.toNat, c0_i32_5.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![c2_i32.toNat, v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== BKernelIdeal.lean ====
variable {F : FTy → Type} [FloatOps F] [Named F]
def κ : String → Option EReal := fun
  | "mem_scale" => some (((11863283 / 134217728) * (Real.log 2)⁻¹ : ℝ) : EReal)
  | "swa_scale" => some (((1 / 8) * (Real.log 2)⁻¹ : ℝ) : EReal)
  | _ => none
-- ==== BReferenceIdeal.lean ====
abbrev S8x2048x1024 : Shape := ⟨3, ![8, 2048, 1024]⟩
abbrev S8x2048x512 : Shape := ⟨3, ![8, 2048, 512]⟩
abbrev S2x1536x1024 : Shape := ⟨3, ![2, 1536, 1024]⟩
abbrev S4x1024 : Shape := ⟨2, ![4, 1024]⟩
abbrev S2x1024x3072 : Shape := ⟨3, ![2, 1024, 3072]⟩
abbrev S8x2048x32 : Shape := ⟨3, ![8, 2048, 32]⟩
abbrev S4x8x256x512 : Shape := ⟨4, ![4, 8, 256, 512]⟩
abbrev S8x2048x1536 : Shape := ⟨3, ![8, 2048, 1536]⟩
abbrev S1x1536x1024 : Shape := ⟨3, ![1, 1536, 1024]⟩
abbrev S1536x1024 : Shape := ⟨2, ![1536, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S8x2048x3072 : Shape := ⟨3, ![8, 2048, 3072]⟩
abbrev S8x2048x16x64 : Shape := ⟨4, ![8, 2048, 16, 64]⟩
abbrev S8x2048x16x32 : Shape := ⟨4, ![8, 2048, 16, 32]⟩
abbrev S8x2048x1x32 : Shape := ⟨4, ![8, 2048, 1, 32]⟩
abbrev S8x2048x4x128 : Shape := ⟨4, ![8, 2048, 4, 128]⟩
abbrev S1x8x256x512 : Shape := ⟨4, ![1, 8, 256, 512]⟩
abbrev S8x256x512 : Shape := ⟨3, ![8, 256, 512]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S16384x1024 : Shape := ⟨2, ![16384, 1024]⟩
abbrev S1024x16384 : Shape := ⟨2, ![1024, 16384]⟩
abbrev S16384x512 : Shape := ⟨2, ![16384, 512]⟩

abbrev nBuf : Space → Nat
  | .hbm => 138
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S8x2048x512, .f32⟩
  | 3 => ⟨S2x1536x1024, .f32⟩
  | 4 => ⟨S4x1024, .f32⟩
  | 5 => ⟨S4x1024, .f32⟩
  | 6 => ⟨S2x1024x3072, .f32⟩
  | 7 => ⟨S8x2048x32, .f32⟩
  | 8 => ⟨S8x2048x32, .f32⟩
  | 9 => ⟨S4x8x256x512, .f32⟩
  | 10 => ⟨S4x8x256x512, .f32⟩
  | 11 => ⟨S8x2048x1536, .f32⟩
  | 12 => ⟨S1x1536x1024, .f32⟩
  | 13 => ⟨S1536x1024, .f32⟩
  | 14 => ⟨S8x2048x1024, .f32⟩
  | 15 => ⟨S1x1024, .f32⟩
  | 16 => ⟨S1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S8x2048x1024, .f32⟩
  | 34 => ⟨S1x1024, .f32⟩
  | 35 => ⟨S1024, .f32⟩
  | 36 => ⟨S8x2048x1024, .f32⟩
  | 37 => ⟨S_, .f32⟩
  | 38 => ⟨S8x2048, .f32⟩
  | 39 => ⟨S8x2048x1, .f32⟩
  | 40 => ⟨S_, .f32⟩
  | 41 => ⟨S8x2048x1, .f32⟩
  | 42 => ⟨S8x2048x1, .f32⟩
  | 43 => ⟨S_, .f32⟩
  | 44 => ⟨S8x2048x1, .f32⟩
  | 45 => ⟨S8x2048x1, .f32⟩
  | 46 => ⟨S8x2048x1, .f32⟩
  | 47 => ⟨S8x2048x1024, .f32⟩
  | 48 => ⟨S8x2048x1024, .f32⟩
  | 49 => ⟨S1x1x1024, .f32⟩
  | 50 => ⟨S8x2048x1024, .f32⟩
  | 51 => ⟨S8x2048x1024, .f32⟩
  | 52 => ⟨S1x1024x3072, .f32⟩
  | 53 => ⟨S1024x3072, .f32⟩
  | 54 => ⟨S8x2048x3072, .f32⟩
  | 55 => ⟨S8x2048x1024, .f32⟩
  | 56 => ⟨S8x2048x1024, .f32⟩
  | 57 => ⟨S8x2048x512, .f32⟩
  | 58 => ⟨S8x2048x512, .f32⟩
  | 59 => ⟨S8x2048x16x64, .f32⟩
  | 60 => ⟨S8x2048x16x32, .f32⟩
  | 61 => ⟨S8x2048x16x32, .f32⟩
  | 62 => ⟨S8x2048x1x32, .f32⟩
  | 63 => ⟨S8x2048x1x32, .f32⟩
  | 64 => ⟨S8x2048x16x32, .f32⟩
  | 65 => ⟨S8x2048x16x32, .f32⟩
  | 66 => ⟨S8x2048x16x32, .f32⟩
  | 67 => ⟨S8x2048x16x32, .f32⟩
  | 68 => ⟨S8x2048x16x32, .f32⟩
  | 69 => ⟨S8x2048x16x32, .f32⟩
  | 70 => ⟨S8x2048x16x32, .f32⟩
  | 71 => ⟨S8x2048x16x32, .f32⟩
  | 72 => ⟨S8x2048x16x32, .f32⟩
  | 73 => ⟨S8x2048x16x32, .f32⟩
  | 74 => ⟨S8x2048x16x64, .f32⟩
  | 75 => ⟨S_, .f32⟩
  | 76 => ⟨S8x2048x16x64, .f32⟩
  | 77 => ⟨S8x2048x16x64, .f32⟩
  | 78 => ⟨S8x2048x4x128, .f32⟩
  | 79 => ⟨S1x8x256x512, .f32⟩
  | 80 => ⟨S8x256x512, .f32⟩
  | 81 => ⟨S8x256x4x128, .f32⟩
  | 82 => ⟨S1x8x256x512, .f32⟩
  | 83 => ⟨S8x256x512, .f32⟩
  | 84 => ⟨S8x256x4x128, .f32⟩
  | 85 => ⟨S8x4x2048x256, .f32⟩
  | 86 => ⟨S_, .f32⟩
  | 87 => ⟨S8x4x2048x256, .f32⟩
  | 88 => ⟨S8x4x2048x256, .f32⟩
  | 89 => ⟨S_, .f32⟩
  | 90 => ⟨S8x4x2048, .f32⟩
  | 91 => ⟨S_, .f32⟩
  | 92 => ⟨S8x4x2048, .f32⟩
  | 93 => ⟨S8x4x2048, .f32⟩
  | 94 => ⟨S8x4x2048x1, .f32⟩
  | 95 => ⟨S8x4x2048x256, .f32⟩
  | 96 => ⟨S8x4x2048x256, .f32⟩
  | 97 => ⟨S8x4x2048x256, .f32⟩
  | 98 => ⟨S_, .f32⟩
  | 99 => ⟨S8x4x2048, .f32⟩
  | 100 => ⟨S8x4x2048x1, .f32⟩
  | 101 => ⟨S8x4x2048x256, .f32⟩
  | 102 => ⟨S8x4x2048x256, .f32⟩
  | 103 => ⟨S8x4x128x2048, .f32⟩
  | 104 => ⟨S8x2048x4x128, .f32⟩
  | 105 => ⟨S8x2048x512, .f32⟩
  | 106 => ⟨S8x2048x512, .f32⟩
  | 107 => ⟨S8x2048x512, .f32⟩
  | 108 => ⟨S_, .f32⟩
  | 109 => ⟨S8x2048x512, .f32⟩
  | 110 => ⟨S8x2048x512, .f32⟩
  | 111 => ⟨S_, .f32⟩
  | 112 => ⟨S8x2048x512, .f32⟩
  | 113 => ⟨S8x2048x512, .f32⟩
  | 114 => ⟨S8x2048x512, .f32⟩
  | 115 => ⟨S8x2048x512, .f32⟩
  | 116 => ⟨S16384x1024, .f32⟩
  | 117 => ⟨S_, .f32⟩
  | 118 => ⟨S_, .f32⟩
  | 119 => ⟨S8x2048x16x64, .f32⟩
  | 120 => ⟨S8x2048x16x64, .f32⟩
  | 121 => ⟨S16384x1024, .f32⟩
  | 122 => ⟨S1024x16384, .f32⟩
  | 123 => ⟨S1024x16384, .bf16⟩
  | 124 => ⟨S8x2048x1024, .f32⟩
  | 125 => ⟨S8x2048x1024, .f32⟩
  | 126 => ⟨S_, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S_, .f32⟩
  | 2 => ⟨S8x2048x1024, .f32⟩
  | 3 => ⟨S8x2048x1024, .f32⟩
  | 4 => ⟨S8x2048x1024, .f32⟩
  | 5 => ⟨S16384x1024, .f32⟩
  | 6 => ⟨S1024x16384, .f32⟩
  | 7 => ⟨S1024x16384, .bf16⟩
  | 8 => ⟨S16384x512, .f32⟩
  | 9 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_6 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_cst_8 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_9 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_10 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_v0 : Ref sig .tc := ⟨.hbm, 124, rfl⟩
abbrev main_call1_v1 : Ref sig .tc := ⟨.hbm, 125, rfl⟩
abbrev main_call1_cst : Ref sig .tc := ⟨.hbm, 126, rfl⟩
abbrev main_call1_v2 : Ref sig .tc := ⟨.hbm, 127, rfl⟩
abbrev main_call1_v3 : Ref sig .tc := ⟨.hbm, 128, rfl⟩
abbrev main_call1_cst_0 : Ref sig .tc := ⟨.hbm, 129, rfl⟩
abbrev main_call1_v4 : Ref sig .tc := ⟨.hbm, 130, rfl⟩
abbrev main_call1_v5 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩

abbrev nD : Nat := 1
abbrev τ : Topo := Topo.v7x

variable {F : FTy → Type} [FloatOps F]
-- ==== Proof.Swa.Operands.lean ====
/- The arrays the kernel's call takes, as functions of the arguments. -/
module

public import proofs.«01_k».proof.Proof.Gen.KernelIdeal.Value
public import Idealize.ShloMosaic.Lib.Pointwise

@[expose] public section

noncomputable section

namespace Cert.KernelIdeal.Swa

open Cert.KernelIdeal Cert.KernelIdeal.Gen Idealize.ShloMosaic Idealize.ShloMosaic.TcCoe Idealize.SL.Sem

variable {F : FTy → Type} [FloatOps F] [Named F] (m : (ℓ : Loc nD τ sig) → Buf (Elt F) ℓ) (c : Dev nD)

theorem operand_keys : V m c main_v10
    = (truncf .bf16 (transpose S4x16384x64 [1, 0, 2] (shapeCast S16384x4x64 (m ((c.tc : Thread nD τ).loc main_arg2))
        shapeCasts_S8x2048x4x64_S16384x4x64) transposes_S16384x4x64_S4x16384x64_1_0_2) bitsLt_bf16_f32
        : FVec F S4x16384x64 .bf16) := by
  with_unfolding_all rfl

theorem operand_queries : V m c main_v7
    = (truncf .bf16 (transpose S1024x16384 [1, 0]
        (Host.divf (mulf (shapeCast S16384x1024 (m ((c.tc : Thread nD τ).loc main_arg1)) shapeCasts_S8x2048x16x64_S16384x1024)
            (broadcastInDim S16384x1024 ![] bcast_S_S16384x1024 (constant S_ .f32 0x3E000000#32)))
          (broadcastInDim S16384x1024 ![] bcast_S_S16384x1024 (Host.log (constant S_ .f32 0x40000000#32))))
        transposes_S16384x1024_S1024x16384_1_0) bitsLt_bf16_f32 : FVec F S1024x16384 .bf16) := by
  with_unfolding_all rfl

theorem operand_values : V m c main_v13
    = (truncf .bf16 (transpose S256x16384 [1, 0] (shapeCast S16384x256 (m ((c.tc : Thread nD τ).loc main_arg3))
        shapeCasts_S8x2048x4x64_S16384x256) transposes_S16384x256_S256x16384_1_0) bitsLt_bf16_f32
        : FVec F S256x16384 .bf16) := by
  with_unfolding_all rfl

theorem operand_gate : V m c main_v16
    = (truncf .bf16 (transpose S1024x16384 [1, 0] (shapeCast S16384x1024 (m ((c.tc : Thread nD τ).loc main_arg4))
        shapeCasts_S8x2048x1024_S16384x1024) transposes_S16384x1024_S1024x16384_1_0) bitsLt_bf16_f32
        : FVec F S1024x16384 .bf16) := by
  with_unfolding_all rfl

end Cert.KernelIdeal.Swa

end
-- ==== Proof.Swa.Tile.lean ====
/- One tile of the sliding-window attention as vector operations.

   The kernel's body is unrolled over eight 128-token blocks, four key heads and four query heads of each. What it
   stores for one of them is named here by one function of those three numbers; `Pieces.lean` says that the stores of
   the body are these, and `TileRead.lean` reads one of them at an index. -/
module

public import proofs.«01_k».proof.Proof.Gen.KernelIdeal.Value

@[expose] public section

noncomputable section

namespace Cert.KernelIdeal.Swa

open Cert.KernelIdeal Cert.KernelIdeal.Gen Idealize.ShloMosaic Idealize.ShloMosaic.TcCoe Idealize.SL.Sem

variable {F : FTy → Type} [FloatOps F] [Named F]

/-- Query head `j` of key head `g`. -/
def head (g j : Fin 4) : Fin 16 := ⟨4 * g + j, by omega⟩

/-- Block `n + 1` of a tile, for `n` below seven. -/
def after (n : Fin 7) : Fin 8 := ⟨n + 1, by omega⟩

theorem inb_rows (sb : Fin 8) (h : Fin 16) (a : Fin 2) :
    (![64 * h, 128 * sb] : Fin 2 → Nat) a + S64x128.size a ≤ S1024x1024.size a := by
  fin_cases a
  · show 64 * h.val + 64 ≤ 1024; omega
  · show 128 * sb.val + 128 ≤ 1024; omega

theorem inb_key1 (g : Fin 4) (a : Fin 3) :
    (![g, 0, 0] : Fin 3 → Nat) a + S1x128x64.size a ≤ S4x1024x64.size a := by
  fin_cases a
  · show g.val + 1 ≤ 4; omega
  · show 0 + 128 ≤ 1024; omega
  · show 0 + 64 ≤ 64; omega

theorem inb_prev1 (g : Fin 4) (a : Fin 3) :
    (![g, 0, 0] : Fin 3 → Nat) a + S1x128x64.size a ≤ S4x128x64.size a := by
  fin_cases a
  · show g.val + 1 ≤ 4; omega
  · show 0 + 128 ≤ 128; omega
  · show 0 + 64 ≤ 64; omega

theorem inb_key2 (n : Fin 7) (g : Fin 4) (a : Fin 3) :
    (![g, 128 * n, 0] : Fin 3 → Nat) a + S1x256x64.size a ≤ S4x1024x64.size a := by
  fin_cases a
  · show g.val + 1 ≤ 4; omega
  · show 128 * n.val + 256 ≤ 1024; omega
  · show 0 + 64 ≤ 64; omega

theorem inb_val1 (g : Fin 4) (a : Fin 2) :
    (![64 * g, 0] : Fin 2 → Nat) a + S64x128.size a ≤ S256x1024.size a := by
  fin_cases a
  · show 64 * g.val + 64 ≤ 256; omega
  · show 0 + 128 ≤ 1024; omega

theorem inb_vprev (g : Fin 4) (a : Fin 2) :
    (![64 * g, 0] : Fin 2 → Nat) a + S64x128.size a ≤ S256x128.size a := by
  fin_cases a
  · show 64 * g.val + 64 ≤ 256; omega
  · show 0 + 128 ≤ 128; omega

theorem inb_val2 (n : Fin 7) (g : Fin 4) (a : Fin 2) :
    (![64 * g, 128 * n] : Fin 2 → Nat) a + S64x256.size a ≤ S256x1024.size a := by
  fin_cases a
  · show 64 * g.val + 64 ≤ 256; omega
  · show 128 * n.val + 256 ≤ 1024; omega

theorem inb_sink (h : Fin 16) (a : Fin 1) : (![h] : Fin 1 → Nat) a + S1.size a ≤ S16.size a := by
  fin_cases a
  show h.val + 1 ≤ 16; omega

theorem slices_scores (r : Fin 2) (j : Fin 4) : S256x512.Slices ![128 * r.val, 128 * j.val] S128x128 :=
  ⟨rfl, fun a => by
    fin_cases a
    · show 128 * r.val + 128 ≤ 256; omega
    · show 128 * j.val + 128 ≤ 512; omega⟩

theorem slices_outs (j : Fin 4) : S64x512.Slices ![0, 128 * j.val] S64x128 :=
  ⟨rfl, fun a => by
    fin_cases a
    · show 0 + 64 ≤ 64; omega
    · show 128 * j.val + 128 ≤ 512; omega⟩

/-- The rows of head `h` in block `sb`'s columns. -/
def rows (x : Vec F S1024x1024 .bf16) (sb : Fin 8) (h : Fin 16) : FVec F S64x128 .bf16 :=
  shapeCast S64x128 (View.ld x (Rect.unit (s := S1024x1024) ![64 * h, 128 * sb] S64x128.size (inb_rows sb h)))
    shapeCasts_S64x128_S64x128

/-- The keys block 0 attends over: the 128 before the tile, then its own. -/
def keysFirst (x2 : Vec F S4x1024x64 .bf16) (x3 : Vec F S4x128x64 .bf16) (g : Fin 4) : FVec F S256x64 .bf16 :=
  concatenate S256x64 0
    [⟨S128x64, shapeCast S128x64 (View.ld x3 (Rect.unit (s := S4x128x64) ![g, 0, 0] S1x128x64.size (inb_prev1 g)))
        shapeCasts_S1x128x64_S128x64⟩,
     ⟨S128x64, shapeCast S128x64 (View.ld x2 (Rect.unit (s := S4x1024x64) ![g, 0, 0] S1x128x64.size (inb_key1 g)))
        shapeCasts_S1x128x64_S128x64⟩]
    concatenates_S128x64_S128x64_S256x64_d0

/-- The keys block `n + 1` attends over: block `n`'s, then its own. -/
def keysNext (x2 : Vec F S4x1024x64 .bf16) (n : Fin 7) (g : Fin 4) : FVec F S256x64 .bf16 :=
  shapeCast S256x64 (View.ld x2 (Rect.unit (s := S4x1024x64) ![g, 128 * n, 0] S1x256x64.size (inb_key2 n g)))
    shapeCasts_S1x256x64_S256x64

/-- The values block 0 attends over, transposed. -/
def valsFirst (x4 : Vec F S256x1024 .bf16) (x5 : Vec F S256x128 .bf16) (g : Fin 4) : FVec F S64x256 .bf16 :=
  concatenate S64x256 1
    [⟨S64x128, shapeCast S64x128 (View.ld x5 (Rect.unit (s := S256x128) ![64 * g, 0] S64x128.size (inb_vprev g)))
        shapeCasts_S64x128_S64x128⟩,
     ⟨S64x128, shapeCast S64x128 (View.ld x4 (Rect.unit (s := S256x1024) ![64 * g, 0] S64x128.size (inb_val1 g)))
        shapeCasts_S64x128_S64x128⟩]
    concatenates_S64x128_S64x128_S64x256_d1

/-- The values block `n + 1` attends over, transposed. -/
def valsNext (x4 : Vec F S256x1024 .bf16) (n : Fin 7) (g : Fin 4) : FVec F S64x256 .bf16 :=
  shapeCast S64x256 (View.ld x4 (Rect.unit (s := S256x1024) ![64 * g, 128 * n] S64x256.size (inb_val2 n g)))
    shapeCasts_S64x256_S64x256

/-- The scores of the four query heads of `g`, side by side: 256 keys by 128 queries each. -/
def scores (k2 : FVec F S256x64 .bf16) (x1 : Vec F S1024x1024 .bf16) (sb : Fin 8) (g : Fin 4) : FVec F S256x512 .f32 :=
  matmul dot_S256x64_S64x512_S256x512_1_0_0_1_n_n none k2
    (concatenate S64x512 1
      [⟨S64x128, rows x1 sb (head g 0)⟩, ⟨S64x128, rows x1 sb (head g 1)⟩, ⟨S64x128, rows x1 sb (head g 2)⟩,
       ⟨S64x128, rows x1 sb (head g 3)⟩]
      concatenates_S64x128_S64x128_S64x128_S64x128_S64x512_d1)
    (constant S256x512 .f32 0x00000000#32)

/-- Query head `j`'s scores against the previous (`r = 0`) or the current (`r = 1`) block of keys. -/
def scoresOf (st : FVec F S256x512 .f32) (r : Fin 2) (j : Fin 4) : FVec F S128x128 .f32 :=
  extractStridedSlice S128x128 ![128 * r.val, 128 * j.val] st (slices_scores r j)

/-- The scores query by query inside the window, where the previous block's carry the bias `b`. -/
def windowFirst (st : FVec F S256x512 .f32) (b : F .f32) (j : Fin 4) : FVec F S128x128 .f32 :=
  select k0_pay4 (addf (scoresOf st 0 j) (broadcast S128x128 b)) (scoresOf st 1 j)

/-- The scores query by query inside the window. -/
def windowNext (st : FVec F S256x512 .f32) (j : Fin 4) : FVec F S128x128 .f32 :=
  select k0_pay4 (scoresOf st 0 j) (scoresOf st 1 j)

/-- Head `h`'s sink, in base two. -/
def sink (x0 : Vec F S16 .f32) (h : Fin 16) : F .f32 :=
  Scalar.mulf (View.ld x0 (Rect.unit (s := S16) ![h] S1.size (inb_sink h)) (Shape.Idx.first (numel1_S1.symm ▸ Nat.one_pos)))
    (Named.named κ "log2e" 0x3FB8AA3B#32)

/-- The largest score of each query, the sink counted. -/
def largest (s : FVec F S128x128 .f32) (k : F .f32) : FVec F S1x128 .f32 :=
  maximumf (shapeCast S1x128 (multiReduction .maximumf [0] S128 s 0xFF800000#32 reduces_S128x128_S128 (.inl rfl) rfl)
    shapeCasts_S128_S1x128) (broadcast S1x128 k)

/-- The unnormalised weights. -/
def weights (s : FVec F S128x128 .f32) (k : F .f32) : FVec F S128x128 .f32 :=
  exp2 (subf s (broadcastTo S128x128 (largest s k) broadcasts_S1x128_S128x128))

/-- One over each query's sum of weights, the sink's counted. -/
def norm (s : FVec F S128x128 .f32) (k : F .f32) : FVec F S1x128 .f32 :=
  divf (broadcast S1x128 (Scalar.ofBits .f32 0x3F800000#32))
    (addf (shapeCast S1x128 (multiReduction .add [0] S128 (weights s k) 0x00000000#32 reduces_S128x128_S128 (.inl rfl) rfl)
      shapeCasts_S128_S1x128) (exp2 (subf (broadcast S1x128 k) (largest s k))))

/-- The weights sorted onto the 256 keys: those of the previous block, then those of the current one. -/
def spread (s : FVec F S128x128 .f32) (k : F .f32) : FVec F S256x128 .bf16 :=
  concatenate S256x128 0
    [⟨S128x128, mulf (truncf .bf16 (weights s k) bitsLt_bf16_f32) k0_pay5⟩,
     ⟨S128x128, subf (truncf .bf16 (weights s k) bitsLt_bf16_f32)
        (mulf (truncf .bf16 (weights s k) bitsLt_bf16_f32) k0_pay5)⟩]
    concatenates_S128x128_S128x128_S256x128_d0

/-- The values weighted, the four query heads side by side. -/
def mixed (v2 : FVec F S64x256 .bf16) (p0 p1 p2 p3 : FVec F S256x128 .bf16) : FVec F S64x512 .f32 :=
  matmul dot_S64x256_S256x512_S64x512_1_0_0_1_n_n none v2
    (concatenate S256x512 1 [⟨S256x128, p0⟩, ⟨S256x128, p1⟩, ⟨S256x128, p2⟩, ⟨S256x128, p3⟩]
      concatenates_S256x128_S256x128_S256x128_S256x128_S256x512_d1)
    (constant S64x512 .f32 0x00000000#32)

/-- One head's rows of the result: normalised, gated and rounded. -/
def gated (o : FVec F S64x512 .f32) (j : Fin 4) (inv : FVec F S1x128 .f32) (gm : FVec F S64x128 .bf16) : FVec F S64x128 .bf16 :=
  truncf .bf16 (mulf (mulf (extractStridedSlice S64x128 ![0, 128 * j.val] o (slices_outs j))
    (broadcastTo S64x128 inv broadcasts_S1x128_S64x128)) (extf .f32 gm bitsLt_bf16_f32)) bitsLt_bf16_f32

/-- What is stored for query head `j` of key head `g`, given what the four heads of `g` score (`w`), the values and the
    gate. -/
def stored (x0 : Vec F S16 .f32) (w : Fin 4 → FVec F S128x128 .f32) (v2 : FVec F S64x256 .bf16) (g j : Fin 4)
    (gm : FVec F S64x128 .bf16) : FVec F S64x128 .bf16 :=
  gated (mixed v2 (spread (w 0) (sink x0 (head g 0))) (spread (w 1) (sink x0 (head g 1)))
      (spread (w 2) (sink x0 (head g 2))) (spread (w 3) (sink x0 (head g 3)))) j
    (norm (w j) (sink x0 (head g j))) gm

/-- The store for block 0. -/
def storedFirst (i : grid0.Coords) (x0 : Vec F S16 .f32) (x1 : Vec F S1024x1024 .bf16) (x2 : Vec F S4x1024x64 .bf16)
    (x3 : Vec F S4x128x64 .bf16) (x4 : Vec F S256x1024 .bf16) (x5 : Vec F S256x128 .bf16) (x6 : Vec F S1024x1024 .bf16)
    (g j : Fin 4) : FVec F S64x128 .bf16 :=
  stored x0 (windowFirst (scores (keysFirst x2 x3 g) x1 0 g) (k0_pay6 i)) (valsFirst x4 x5 g) g j (rows x6 0 (head g j))

/-- The store for block `n + 1`. -/
def storedNext (x0 : Vec F S16 .f32) (x1 : Vec F S1024x1024 .bf16) (x2 : Vec F S4x1024x64 .bf16)
    (x4 : Vec F S256x1024 .bf16) (x6 : Vec F S1024x1024 .bf16) (n : Fin 7) (g j : Fin 4) : FVec F S64x128 .bf16 :=
  stored x0 (windowNext (scores (keysNext x2 n g) x1 (after n) g)) (valsNext x4 n g) g j (rows x6 (after n) (head g j))

/-- The store for block 0, with where it goes. -/
def pieceFirst (i : grid0.Coords) (x0 : Vec F S16 .f32) (x1 : Vec F S1024x1024 .bf16) (x2 : Vec F S4x1024x64 .bf16)
    (x3 : Vec F S4x128x64 .bf16) (x4 : Vec F S256x1024 .bf16) (x5 : Vec F S256x128 .bf16) (x6 : Vec F S1024x1024 .bf16)
    (g j : Fin 4) : View.Piece (Elt F) S1024x1024 .bf16 :=
  ⟨Rect.unit (s := S1024x1024) ![64 * (head g j), 128 * (0 : Fin 8)] S64x128.size (inb_rows 0 (head g j)),
    storedFirst i x0 x1 x2 x3 x4 x5 x6 g j⟩

/-- The store for block `n + 1`, with where it goes. -/
def pieceNext (x0 : Vec F S16 .f32) (x1 : Vec F S1024x1024 .bf16) (x2 : Vec F S4x1024x64 .bf16)
    (x4 : Vec F S256x1024 .bf16) (x6 : Vec F S1024x1024 .bf16) (n : Fin 7) (g j : Fin 4) :
    View.Piece (Elt F) S1024x1024 .bf16 :=
  ⟨Rect.unit (s := S1024x1024) ![64 * (head g j), 128 * (after n)] S64x128.size (inb_rows (after n) (head g j)),
    storedNext x0 x1 x2 x4 x6 n g j⟩

end Cert.KernelIdeal.Swa

end
-- ==== Proof.Swa.Pieces.lean ====
/- The stores of the kernel's body are the tile's stores of `Tile.lean`. -/
module

public import proofs.«01_k».proof.Proof.Swa.Tile

@[expose] public section

set_option maxRecDepth 100000

noncomputable section

namespace Cert.KernelIdeal.Swa

open Cert.KernelIdeal Cert.KernelIdeal.Gen Idealize.ShloMosaic Idealize.ShloMosaic.TcCoe Idealize.SL.Sem

variable {F : FTy → Type} [FloatOps F] [Named F]

/-- The stores for block 0, the last first. -/
def firstPieces (p : Fin 4 → Fin 4 → View.Piece (Elt F) S1024x1024 .bf16) : List (View.Piece (Elt F) S1024x1024 .bf16) :=
  [p 3 3, p 3 2, p 3 1, p 3 0, p 2 3, p 2 2, p 2 1, p 2 0, p 1 3, p 1 2, p 1 1, p 1 0, p 0 3, p 0 2, p 0 1, p 0 0]

/-- The stores of the body, the last first. -/
def pieces (i : grid0.Coords) (x0 : Vec F S16 .f32) (x1 : Vec F S1024x1024 .bf16) (x2 : Vec F S4x1024x64 .bf16)
    (x3 : Vec F S4x128x64 .bf16) (x4 : Vec F S256x1024 .bf16) (x5 : Vec F S256x128 .bf16) (x6 : Vec F S1024x1024 .bf16) :
    List (View.Piece (Elt F) S1024x1024 .bf16) :=
  firstPieces (pieceNext x0 x1 x2 x4 x6 6) ++ (firstPieces (pieceNext x0 x1 x2 x4 x6 5) ++
    (firstPieces (pieceNext x0 x1 x2 x4 x6 4) ++ (firstPieces (pieceNext x0 x1 x2 x4 x6 3) ++
      (firstPieces (pieceNext x0 x1 x2 x4 x6 2) ++ (firstPieces (pieceNext x0 x1 x2 x4 x6 1) ++
        (firstPieces (pieceNext x0 x1 x2 x4 x6 0) ++ firstPieces (pieceFirst i x0 x1 x2 x3 x4 x5 x6)))))))

theorem run_pieces (c : Dev nD) (i : grid0.Coords) (arg2 : Memref sig .tc .smem S16 .f32) (harg2 : arg2.IsWhole)
    (arg3 : Memref sig .tc .vmem S1024x1024 .bf16) (harg3 : arg3.IsWhole)
    (arg4 : Memref sig .tc .vmem S4x1024x64 .bf16) (harg4 : arg4.IsWhole)
    (arg5 : Memref sig .tc .vmem S4x128x64 .bf16) (harg5 : arg5.IsWhole)
    (arg6 : Memref sig .tc .vmem S256x1024 .bf16) (harg6 : arg6.IsWhole)
    (arg7 : Memref sig .tc .vmem S256x128 .bf16) (harg7 : arg7.IsWhole)
    (arg8 : Memref sig .tc .vmem S1024x1024 .bf16) (harg8 : arg8.IsWhole)
    (arg9 : Memref sig .tc .vmem S1024x1024 .bf16) (harg9 : arg9.IsWhole)
    (x0 : Vec F S16 .f32) (x1 : Vec F S1024x1024 .bf16) (x2 : Vec F S4x1024x64 .bf16)
    (x3 : Vec F S4x128x64 .bf16) (x4 : Vec F S256x1024 .bf16) (x5 : Vec F S256x128 .bf16) (x6 : Vec F S1024x1024 .bf16) :
    (kernelRun0_A (F := F) c i arg2 harg2 arg3 harg3 arg4 harg4 arg5 harg5 arg6 harg6 arg7 harg7 arg8 harg8 arg9 harg9
      x0 x1 x2 x3 x4 x5 x6).1
    = pieces i (arg2.view.read (Elt F) (harg2.unread x0)) (arg3.view.read (Elt F) (harg3.unread x1))
        (arg4.view.read (Elt F) (harg4.unread x2)) (arg5.view.read (Elt F) (harg5.unread x3))
        (arg6.view.read (Elt F) (harg6.unread x4)) (arg7.view.read (Elt F) (harg7.unread x5))
        (arg8.view.read (Elt F) (harg8.unread x6)) := by
  with_unfolding_all rfl

end Cert.KernelIdeal.Swa

end
-- ==== Proof.Swa.TileRead.lean ====
/- A tile's store of `Tile.lean`, read at an index. -/
module

public import proofs.«01_k».proof.Proof.Swa.Tile
public import Idealize.ShloMosaic.Lib.Pointwise
public import Idealize.ShloMosaic.Lib.Pipeline.ValueKit

@[expose] public section

noncomputable section

namespace Cert.KernelIdeal.Swa

open Cert.KernelIdeal Cert.KernelIdeal.Gen Idealize.ShloMosaic Idealize.ShloMosaic.TcCoe Idealize.SL.Sem

/-- Row `d` of head `h` among 1024. -/
def rowOf (h : Fin 16) (d : Fin 64) : Fin 1024 := ⟨64 * h + d, by omega⟩

/-- Query `q` of block `sb` among a tile's 1024. -/
def colOf (sb : Fin 8) (q : Fin 128) : Fin 1024 := ⟨128 * sb + q, by omega⟩

/-- Key `k` of the previous (`r = 0`) or the current (`r = 1`) block among 256. -/
def keyOf (r : Fin 2) (k : Fin 128) : Fin 256 := ⟨128 * r + k, by omega⟩

/-- Row `d` of key head `g` among 256. -/
def valOf (g : Fin 4) (d : Fin 64) : Fin 256 := ⟨64 * g + d, by omega⟩

/-- Column `q` of query head `j` among 512. -/
def sideOf (j : Fin 4) (q : Fin 128) : Fin 512 := ⟨128 * j + q, by omega⟩

/-- Key `k` of 256, counted from block `n`. -/
def wideOf (n : Fin 7) (k : Fin 256) : Fin 1024 := ⟨128 * n + k, by omega⟩

theorem rows_apply (x : Vec Ideal S1024x1024 .bf16) (sb : Fin 8) (h : Fin 16) (d : Fin 64) (q : Fin 128) :
    rows x sb h (ix2 d q) = x (ix2 (rowOf h d) (colOf sb q)) := by
  pointwise [rows]
  rfl

theorem keysNext_apply (x2 : Vec Ideal S4x1024x64 .bf16) (n : Fin 7) (g : Fin 4) (k : Fin 256) (d : Fin 64) :
    keysNext x2 n g (ix2 k d) = x2 (ix3 g (wideOf n k) d) := by
  unfold keysNext
  rw [shapeCast_dropUnit_apply]
  exact View.ld_unit_apply_of x2 _ _ _ _ _ fun a => by fin_cases a <;> simp [wideOf] <;> rfl

theorem stack_prev (a b : FVec Ideal S128x64 .bf16) (k : Fin 128) (d : Fin 64) :
    concatenate S256x64 0 [⟨S128x64, a⟩, ⟨S128x64, b⟩] concatenates_S128x64_S128x64_S256x64_d0 (ix2 (keyOf 0 k) d) = a (ix2 k d) := by
  have e : ((keyOf 0 k : Fin 256) : Nat) = k := by simp [keyOf]
  pointwise
  rw [dif_pos (by omega)]
  simp only [e]

theorem stack_cur (a b : FVec Ideal S128x64 .bf16) (k : Fin 128) (d : Fin 64) :
    concatenate S256x64 0 [⟨S128x64, a⟩, ⟨S128x64, b⟩] concatenates_S128x64_S128x64_S256x64_d0 (ix2 (keyOf 1 k) d) = b (ix2 k d) := by
  have e : ((keyOf 1 k : Fin 256) : Nat) = 128 + k := by simp [keyOf]
  pointwise
  rw [dif_neg (by omega)]
  simp only [e, Nat.add_sub_cancel_left]

theorem keysFirst_prev (x2 : Vec Ideal S4x1024x64 .bf16) (x3 : Vec Ideal S4x128x64 .bf16) (g : Fin 4) (k : Fin 128) (d : Fin 64) :
    keysFirst x2 x3 g (ix2 (keyOf 0 k) d) = x3 (ix3 g k d) := by
  unfold keysFirst
  rw [stack_prev, shapeCast_dropUnit_apply]
  exact View.ld_unit_apply_of x3 _ _ _ _ _ fun a => by fin_cases a <;> simp <;> rfl

theorem keysFirst_cur (x2 : Vec Ideal S4x1024x64 .bf16) (x3 : Vec Ideal S4x128x64 .bf16) (g : Fin 4) (k : Fin 128) (d : Fin 64) :
    keysFirst x2 x3 g (ix2 (keyOf 1 k) d) = x2 (ix3 g (colOf 0 k) d) := by
  unfold keysFirst
  rw [stack_cur, shapeCast_dropUnit_apply]
  exact View.ld_unit_apply_of x2 _ _ _ _ _ fun a => by fin_cases a <;> simp [colOf] <;> rfl

theorem valsNext_apply (x4 : Vec Ideal S256x1024 .bf16) (n : Fin 7) (g : Fin 4) (k : Fin 256) (d : Fin 64) :
    valsNext x4 n g (ix2 d k) = x4 (ix2 (valOf g d) (wideOf n k)) := by
  pointwise [valsNext]
  rfl

theorem valsFirst_prev (x4 : Vec Ideal S256x1024 .bf16) (x5 : Vec Ideal S256x128 .bf16) (g : Fin 4) (k : Fin 128) (d : Fin 64) :
    valsFirst x4 x5 g (ix2 d (keyOf 0 k)) = x5 (ix2 (valOf g d) k) := by
  have e : ((keyOf 0 k : Fin 256) : Nat) = k := by simp [keyOf]
  pointwise [valsFirst]
  rw [dif_pos (by omega)]
  simp only [e]
  rfl

theorem valsFirst_cur (x4 : Vec Ideal S256x1024 .bf16) (x5 : Vec Ideal S256x128 .bf16) (g : Fin 4) (k : Fin 128) (d : Fin 64) :
    valsFirst x4 x5 g (ix2 d (keyOf 1 k)) = x4 (ix2 (valOf g d) (colOf 0 k)) := by
  have e : ((keyOf 1 k : Fin 256) : Nat) = 128 + k := by simp [keyOf]
  have e' : colOf 0 k = ⟨k, by omega⟩ := by simp [colOf]
  pointwise [valsFirst]
  rw [dif_neg (by omega)]
  simp only [e, e', Nat.add_sub_cancel_left]
  rfl

theorem scoresOf_apply (st : FVec Ideal S256x512 .f32) (r : Fin 2) (j : Fin 4) (k q : Fin 128) :
    scoresOf st r j (ix2 k q) = st (ix2 (keyOf r k) (sideOf j q)) := by
  pointwise [scoresOf]
  rfl

theorem sink_apply (x0 : Vec Ideal S16 .f32) (h : Fin 16) :
    sink x0 h = x0 (ix1 h) * Named.named (F := Ideal) (φ := .f32) κ "log2e" 0x3FB8AA3B#32 := by
  pointwise [sink]

theorem largest_apply (s : FVec Ideal S128x128 .f32) (k : Ideal .f32) (q : Fin 128) :
    largest s k (ix2 0 q) = max (Finset.univ.fold max ⊥ fun i : Fin 128 => s (ix2 i q)) k := by
  pointwise [largest]
  rw [show Ideal.ofBits FTy.f32 4286578688#32 = ⊥ by simp [Ideal.ofBits, Ideal.ieee]]

theorem norm_apply (s : FVec Ideal S128x128 .f32) (k : Ideal .f32) (q : Fin 128) :
    norm s k (ix2 0 q) = Ideal.div 1 ((∑ i : Fin 128, weights s k (ix2 i q)) + Ideal.exp2 (k - largest s k (ix2 0 q))) := by
  pointwise [norm]
  rfl

theorem weights_apply (s : FVec Ideal S128x128 .f32) (k : Ideal .f32) (i q : Fin 128) :
    weights s k (ix2 i q) = Ideal.exp2 (s (ix2 i q) - largest s k (ix2 0 q)) := by
  pointwise [weights]
  rfl

theorem cmp_apply (i q : Fin 128) : k0_pay4 (ix2 i q) = if q < i then 1#1 else 0#1 := by
  pointwise [k0_pay4]
  have : ∀ i q : Fin 128, IntOp.cmpi .sgt (BitVec.ofNat 32 i.val) (BitVec.ofNat 32 q.val) = if q < i then 1#1 else 0#1 := by
    decide +kernel
  exact this i q

theorem mask_apply (i q : Fin 128) : (k0_pay5 (ix2 i q) : Ideal .bf16) = if q < i then 1 else 0 := by
  pointwise [k0_pay5]
  rw [cmp_apply]
  show (((BitVec.setWidth 32 (if q < i then 1#1 else 0#1)).toInt : ℝ) : EReal) = _
  split <;> simp

theorem gated_apply (o : FVec Ideal S64x512 .f32) (j : Fin 4) (inv : FVec Ideal S1x128 .f32) (gm : FVec Ideal S64x128 .bf16)
    (d : Fin 64) (q : Fin 128) : gated o j inv gm (ix2 d q) = o (ix2 d (sideOf j q)) * inv (ix2 0 q) * gm (ix2 d q) := by
  pointwise [gated]
  rfl

theorem sideOf_val (j : Fin 4) (q : Fin 128) : (sideOf j q : Nat) = 128 * j + q := rfl

/-- Four arrays of 64 rows side by side, read in one of them. -/
theorem side_apply (x : Fin 4 → FVec Ideal S64x128 .bf16) (d : Fin 64) (j : Fin 4) (q : Fin 128) :
    concatenate S64x512 1 [⟨S64x128, x 0⟩, ⟨S64x128, x 1⟩, ⟨S64x128, x 2⟩, ⟨S64x128, x 3⟩]
      concatenates_S64x128_S64x128_S64x128_S64x128_S64x512_d1 (ix2 d (sideOf j q)) = x j (ix2 d q) := by
  have e := sideOf_val j q
  pointwise
  obtain rfl | rfl | rfl | rfl : j = 0 ∨ j = 1 ∨ j = 2 ∨ j = 3 := by omega
  · replace e : (sideOf 0 q : Nat) = q := by simpa using e
    rw [dif_pos (by omega)]
    exact congrArg (fun c => x 0 (ix2 d c)) (Fin.ext e)
  · replace e : (sideOf 1 q : Nat) = 128 + q := by simpa using e
    rw [dif_neg (by omega), dif_pos (by omega)]
    exact congrArg (fun c => x 1 (ix2 d c)) (Fin.ext (by show (sideOf 1 q : Nat) - 128 = q; omega))
  · replace e : (sideOf 2 q : Nat) = 256 + q := by simpa using e
    rw [dif_neg (by omega), dif_neg (by omega), dif_pos (by omega)]
    exact congrArg (fun c => x 2 (ix2 d c)) (Fin.ext (by show (sideOf 2 q : Nat) - 128 - 128 = q; omega))
  · replace e : (sideOf 3 q : Nat) = 384 + q := by simpa using e
    rw [dif_neg (by omega), dif_neg (by omega), dif_neg (by omega)]
    exact congrArg (fun c => x 3 (ix2 d c)) (Fin.ext (by show (sideOf 3 q : Nat) - 128 - 128 - 128 = q; omega))

/-- Four arrays of 256 rows side by side, read in one of them. -/
theorem side_apply' (x : Fin 4 → FVec Ideal S256x128 .bf16) (k : Fin 256) (j : Fin 4) (q : Fin 128) :
    concatenate S256x512 1 [⟨S256x128, x 0⟩, ⟨S256x128, x 1⟩, ⟨S256x128, x 2⟩, ⟨S256x128, x 3⟩]
      concatenates_S256x128_S256x128_S256x128_S256x128_S256x512_d1 (ix2 k (sideOf j q)) = x j (ix2 k q) := by
  have e := sideOf_val j q
  pointwise
  obtain rfl | rfl | rfl | rfl : j = 0 ∨ j = 1 ∨ j = 2 ∨ j = 3 := by omega
  · replace e : (sideOf 0 q : Nat) = q := by simpa using e
    rw [dif_pos (by omega)]
    exact congrArg (fun c => x 0 (ix2 k c)) (Fin.ext e)
  · replace e : (sideOf 1 q : Nat) = 128 + q := by simpa using e
    rw [dif_neg (by omega), dif_pos (by omega)]
    exact congrArg (fun c => x 1 (ix2 k c)) (Fin.ext (by show (sideOf 1 q : Nat) - 128 = q; omega))
  · replace e : (sideOf 2 q : Nat) = 256 + q := by simpa using e
    rw [dif_neg (by omega), dif_neg (by omega), dif_pos (by omega)]
    exact congrArg (fun c => x 2 (ix2 k c)) (Fin.ext (by show (sideOf 2 q : Nat) - 128 - 128 = q; omega))
  · replace e : (sideOf 3 q : Nat) = 384 + q := by simpa using e
    rw [dif_neg (by omega), dif_neg (by omega), dif_neg (by omega)]
    exact congrArg (fun c => x 3 (ix2 k c)) (Fin.ext (by show (sideOf 3 q : Nat) - 128 - 128 - 128 = q; omega))

theorem dot_scores (a : FVec Ideal S256x64 .bf16) (b : FVec Ideal S64x512 .bf16) (k : Fin 256) (c : Fin 512) :
    matmul dot_S256x64_S64x512_S256x512_1_0_0_1_n_n none a b (constant S256x512 .f32 0x00000000#32) (ix2 k c)
      = ∑ d : Fin 64, a (ix2 k d) * b (ix2 d c) := by
  pointwise

theorem dot_mixed (a : FVec Ideal S64x256 .bf16) (b : FVec Ideal S256x512 .bf16) (d : Fin 64) (c : Fin 512) :
    matmul dot_S64x256_S256x512_S64x512_1_0_0_1_n_n none a b (constant S64x512 .f32 0x00000000#32) (ix2 d c)
      = ∑ k : Fin 256, a (ix2 d k) * b (ix2 k c) := by
  pointwise

theorem scores_apply (k2 : FVec Ideal S256x64 .bf16) (x1 : Vec Ideal S1024x1024 .bf16) (sb : Fin 8) (g j : Fin 4)
    (k : Fin 256) (q : Fin 128) :
    scores k2 x1 sb g (ix2 k (sideOf j q))
      = ∑ d : Fin 64, k2 (ix2 k d) * x1 (ix2 (rowOf (head g j) d) (colOf sb q)) := by
  unfold scores
  rw [dot_scores]
  refine Finset.sum_congr rfl fun d _ => congrArg _ ?_
  rw [side_apply (fun j => rows x1 sb (head g j)), rows_apply]

theorem mixed_apply (v2 : FVec Ideal S64x256 .bf16) (p : Fin 4 → FVec Ideal S256x128 .bf16) (j : Fin 4) (d : Fin 64) (q : Fin 128) :
    mixed v2 (p 0) (p 1) (p 2) (p 3) (ix2 d (sideOf j q)) = ∑ k : Fin 256, v2 (ix2 d k) * p j (ix2 k q) := by
  unfold mixed
  rw [dot_mixed]
  refine Finset.sum_congr rfl fun k _ => congrArg _ (side_apply' p k j q)

theorem spread_prev (s : FVec Ideal S128x128 .f32) (b : Ideal .f32) (k q : Fin 128) :
    spread s b (ix2 (keyOf 0 k) q) = weights s b (ix2 k q) * if q < k then 1 else 0 := by
  have e : ((keyOf 0 k : Fin 256) : Nat) = k := by simp [keyOf]
  pointwise [spread]
  rw [dif_pos (by omega)]
  simp only [e, mask_apply]

theorem spread_cur (s : FVec Ideal S128x128 .f32) (b : Ideal .f32) (k q : Fin 128) :
    spread s b (ix2 (keyOf 1 k) q)
      = weights s b (ix2 k q) - weights s b (ix2 k q) * if q < k then 1 else 0 := by
  have e : ((keyOf 1 k : Fin 256) : Nat) = 128 + k := by simp [keyOf]
  pointwise [spread]
  rw [dif_neg (by omega)]
  simp only [e, Nat.add_sub_cancel_left, mask_apply]

theorem windowFirst_apply (st : FVec Ideal S256x512 .f32) (b : Ideal .f32) (j : Fin 4) (k q : Fin 128) :
    windowFirst st b j (ix2 k q)
      = if q < k then st (ix2 (keyOf 0 k) (sideOf j q)) + b else st (ix2 (keyOf 1 k) (sideOf j q)) := by
  pointwise [windowFirst]
  rw [cmp_apply, scoresOf_apply, scoresOf_apply]
  by_cases h : q < k <;> simp only [h, if_true, if_false] <;> rfl

theorem windowNext_apply (st : FVec Ideal S256x512 .f32) (j : Fin 4) (k q : Fin 128) :
    windowNext st j (ix2 k q)
      = if q < k then st (ix2 (keyOf 0 k) (sideOf j q)) else st (ix2 (keyOf 1 k) (sideOf j q)) := by
  pointwise [windowNext]
  rw [cmp_apply, scoresOf_apply, scoresOf_apply]
  by_cases h : q < k <;> simp only [h, if_true, if_false] <;> rfl

end Cert.KernelIdeal.Swa

end
-- ==== Proof.Swa.Cell.lean ====
/- One query's attention over its window of 256 keys, as the kernel and as the reference compute it, and why the two agree.

   Of the 256 keys exactly 128 lie inside a query's window: key `k` of the previous block where `k` is above the query,
   else key `k` of the current block. The kernel works on those 128 scores in base two, and multiplies by one over the
   sum of weights at the end; the reference masks 256 scores in base e, and divides each weight. -/
module

public import Idealize.ShloMosaic.Lib.Pointwise

@[expose] public section

noncomputable section

namespace Cert.Swa

open Idealize.ShloMosaic

/-- The largest of the scores and the sink. -/
def largest (s : Fin 128 → EReal) (t : EReal) : EReal := max (Finset.univ.fold max ⊥ s) t

/-- The kernel's scores inside the window. -/
def window (q : Fin 128) (sp sc : Fin 128 → EReal) (b : EReal) (k : Fin 128) : EReal := if q < k then sp k + b else sc k

/-- The kernel's weight of a score. -/
def weight (s : Fin 128 → EReal) (t : EReal) (k : Fin 128) : EReal := Ideal.exp2 (s k - largest s t)

/-- The kernel's result for the query `q` of a block. -/
def kernelCell (q : Fin 128) (vp vc s : Fin 128 → EReal) (t gm : EReal) : EReal :=
  ((∑ k, vp k * (weight s t k * if q < k then 1 else 0))
    + ∑ k, vc k * (weight s t k - weight s t k * if q < k then 1 else 0))
  * Ideal.div 1 ((∑ k, weight s t k) + Ideal.exp2 (t - largest s t)) * gm

/-- The reference's masked scores of the previous block. -/
def maskedPrev (q : Fin 128) (first : Prop) [Decidable first] (up : Fin 128 → EReal) (k : Fin 128) : EReal :=
  if q < k ∧ ¬ first then up k else ⊥

/-- The reference's masked scores of the current block. -/
def maskedCur (q : Fin 128) (uc : Fin 128 → EReal) (k : Fin 128) : EReal := if q < k then ⊥ else uc k

/-- The largest of the two blocks' masked scores and the sink. -/
def largest2 (sp sc : Fin 128 → EReal) (t : EReal) : EReal :=
  max (max (Finset.univ.fold max ⊥ sp) (Finset.univ.fold max ⊥ sc)) t

/-- The sum of the reference's weights, the sink's counted. -/
def total (sp sc : Fin 128 → EReal) (t : EReal) : EReal :=
  ((∑ k, Ideal.exp (sp k - largest2 sp sc t)) + ∑ k, Ideal.exp (sc k - largest2 sp sc t))
    + Ideal.exp (t - largest2 sp sc t)

/-- The reference's result for a query, given its masked scores. -/
def refCell (vp vc sp sc : Fin 128 → EReal) (t gm : EReal) : EReal :=
  ((∑ k, vp k * Ideal.div (Ideal.exp (sp k - largest2 sp sc t)) (total sp sc t))
    + ∑ k, vc k * Ideal.div (Ideal.exp (sc k - largest2 sp sc t)) (total sp sc t)) * gm

/-- One over the logarithm of two. -/
def log2e : ℝ := (Real.log 2)⁻¹

theorem log2e_pos : 0 < log2e := inv_pos.mpr (Real.log_pos one_lt_two)

theorem exp2_mul_log2e (x : ℝ) : Real.rpow 2 (x * log2e) = Real.exp x := by
  have h : Real.log 2 ≠ 0 := (Real.log_pos one_lt_two).ne'
  show (2 : ℝ) ^ (x * log2e) = _
  rw [Real.rpow_def_of_pos two_pos]
  congr 1
  unfold log2e
  field_simp

/-- The 128 scores inside the window, in base e. -/
def inside (q : Fin 128) (first : Prop) [Decidable first] (up uc : Fin 128 → ℝ) (k : Fin 128) : EReal :=
  if q < k then (if first then ⊥ else (up k : EReal)) else (uc k : EReal)

theorem mul_log2e_mono : Monotone fun x : EReal => x * (log2e : EReal) := fun _ _ h =>
  mul_le_mul_of_nonneg_right h (by exact_mod_cast log2e_pos.le)

theorem bot_mul_log2e : (⊥ : EReal) * (log2e : EReal) = ⊥ := EReal.bot_mul_coe_of_pos log2e_pos

theorem largest_mul_log2e (s : Fin 128 → EReal) (t : EReal) :
    largest (fun k => s k * (log2e : EReal)) (t * (log2e : EReal)) = largest s t * (log2e : EReal) := by
  have h := Finset.fold_hom (op := (max : EReal → EReal → EReal)) (op' := max) (b := ⊥) (f := s) (s := Finset.univ)
    (m := fun x : EReal => x * (log2e : EReal)) (fun x y => mul_log2e_mono.map_max)
  unfold largest
  rw [mul_log2e_mono.map_max, ← h]
  simp only [bot_mul_log2e]

/-- The largest of scores none of which is infinite above, and a real sink, is real. -/
theorem largest_real (s : Fin 128 → EReal) (t : ℝ) (hs : ∀ k, s k < ⊤) : ∃ M : ℝ, largest s t = (M : EReal) := by
  have h1 : largest s t ≠ ⊥ := fun h => by
    have : (t : EReal) ≤ ⊥ := h ▸ le_max_right _ _
    exact EReal.coe_ne_bot t (le_bot_iff.mp this)
  have h2 : largest s t ≠ ⊤ :=
    (max_lt (Finset.fold_max_lt _ |>.mpr ⟨bot_lt_top, fun k _ => hs k⟩) (EReal.coe_lt_top t)).ne
  exact ⟨(largest s t).toReal, (EReal.coe_toReal h2 h1).symm⟩

theorem fold_max_split (q : Fin 128) (first : Prop) [Decidable first] (up uc : Fin 128 → ℝ) (t : EReal) :
    largest2 (maskedPrev q first fun k => up k) (maskedCur q fun k => uc k) t = largest (inside q first up uc) t := by
  unfold largest2 largest
  congr 1
  rw [← Finset.fold_op_distrib (op := (max : EReal → EReal → EReal)), max_self]
  refine Finset.fold_congr fun k _ => ?_
  unfold maskedPrev maskedCur inside
  by_cases h : q < k <;> by_cases f : first <;> simp [h, f]

theorem inside_lt_top (q : Fin 128) (first : Prop) [Decidable first] (up uc : Fin 128 → ℝ) (k : Fin 128) :
    inside q first up uc k < ⊤ := by
  unfold inside
  split_ifs
  · exact bot_lt_top
  · exact EReal.coe_lt_top _
  · exact EReal.coe_lt_top _

/-- A key's weight, a real number: zero for the keys before a sequence. -/
def weightR (q : Fin 128) (first : Prop) [Decidable first] (up uc : Fin 128 → ℝ) (M : ℝ) (k : Fin 128) : ℝ :=
  if q < k then (if first then 0 else Real.exp (up k - M)) else Real.exp (uc k - M)

theorem weightR_nonneg (q : Fin 128) (first : Prop) [Decidable first] (up uc : Fin 128 → ℝ) (M : ℝ) (k : Fin 128) :
    0 ≤ weightR q first up uc M k := by
  unfold weightR
  split_ifs <;> first | exact le_rfl | exact (Real.exp_pos _).le

theorem exp2_scaled (x M : ℝ) :
    Ideal.exp2 ((x : EReal) * (log2e : EReal) - (M : EReal) * (log2e : EReal)) = (Real.exp (x - M) : EReal) := by
  rw [← EReal.coe_mul, ← EReal.coe_mul, ← EReal.coe_sub, Ideal.exp2_coe, ← sub_mul, exp2_mul_log2e]

theorem weight_eq (q : Fin 128) (first : Prop) [Decidable first] (up uc : Fin 128 → ℝ) (t M : ℝ)
    (hM : largest (inside q first up uc) t = (M : EReal)) (k : Fin 128) :
    weight (fun k => inside q first up uc k * (log2e : EReal)) ((t : EReal) * (log2e : EReal)) k
      = (weightR q first up uc M k : EReal) := by
  unfold weight
  rw [largest_mul_log2e, hM]
  unfold inside weightR
  by_cases h : q < k
  · by_cases f : first
    · simp only [h, f, if_true]
      rw [bot_mul_log2e, ← EReal.coe_mul]
      simp
    · simp only [h, f, if_true, if_false]
      exact exp2_scaled _ _
  · simp only [h, if_false]
    exact exp2_scaled _ _

theorem exp_sub_coe (x M : ℝ) : Ideal.exp ((x : EReal) - (M : EReal)) = (Real.exp (x - M) : EReal) := by
  rw [← EReal.coe_sub, Ideal.exp_coe]

theorem exp_maskedPrev (q : Fin 128) (first : Prop) [Decidable first] (up uc : Fin 128 → ℝ) (M : ℝ) (k : Fin 128) :
    Ideal.exp (maskedPrev q first (fun k => up k) k - (M : EReal))
      = ((if q < k then weightR q first up uc M k else 0 : ℝ) : EReal) := by
  unfold maskedPrev weightR
  by_cases h : q < k <;> by_cases f : first <;> simp [h, f, exp_sub_coe]

theorem exp_maskedCur (q : Fin 128) (first : Prop) [Decidable first] (up uc : Fin 128 → ℝ) (M : ℝ) (k : Fin 128) :
    Ideal.exp (maskedCur q (fun k => uc k) k - (M : EReal))
      = ((if q < k then 0 else weightR q first up uc M k : ℝ) : EReal) := by
  unfold maskedCur weightR
  by_cases h : q < k <;> simp [h, exp_sub_coe]

theorem coe_sum {ι : Type} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

/-- A sum times a nonnegative real is the sum of the products, whatever the terms. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s h ih =>
    rw [Finset.sum_insert h, Finset.sum_insert h, ← ih,
      EReal.right_distrib_of_nonneg_of_ne_top (by exact_mod_cast hc) (EReal.coe_ne_top c)]

/-- THE LAYER'S IDEA: both compute the same, where the kernel's scores are the reference's in base two. The values of the
    previous block need to agree only where there is one. -/
theorem kernelCell_eq_refCell (q : Fin 128) (first : Prop) [Decidable first] (up uc : Fin 128 → ℝ) (t : ℝ)
    (vp vp' vc : Fin 128 → EReal) (gm : EReal) (hv : ¬ first → vp = vp') :
    kernelCell q vp vc (fun k => inside q first up uc k * (log2e : EReal)) ((t : EReal) * (log2e : EReal)) gm
      = refCell vp' vc (maskedPrev q first fun k => up k) (maskedCur q fun k => uc k) t gm := by
  obtain ⟨M, hM⟩ := largest_real (inside q first up uc) t (inside_lt_top q first up uc)
  have hD : total (maskedPrev q first fun k => up k) (maskedCur q fun k => uc k) t
      = ((∑ k, weightR q first up uc M k) + Real.exp (t - M) : ℝ) := by
    unfold total
    rw [fold_max_split, hM]
    simp only [exp_maskedPrev q first up uc, exp_maskedCur q first up uc, exp_sub_coe]
    rw [coe_sum, coe_sum, ← EReal.coe_add, ← EReal.coe_add, ← Finset.sum_add_distrib]
    refine congrArg (fun x : ℝ => ((x + Real.exp (t - M) : ℝ) : EReal)) (Finset.sum_congr rfl fun k _ => ?_)
    split_ifs <;> simp
  set D : ℝ := (∑ k, weightR q first up uc M k) + Real.exp (t - M) with hDdef
  have hDpos : 0 < D := add_pos_of_nonneg_of_pos (Finset.sum_nonneg fun k _ => weightR_nonneg q first up uc M k)
    (Real.exp_pos _)
  have hc : 0 ≤ 1 / D := (one_div_pos.mpr hDpos).le
  unfold refCell kernelCell
  rw [hD, fold_max_split, hM, largest_mul_log2e, hM, exp2_scaled]
  simp only [weight_eq q first up uc t M hM, exp_maskedPrev q first up uc, exp_maskedCur q first up uc,
    Ideal.div_coe hDpos.ne', coe_sum]
  rw [← EReal.coe_add, ← hDdef, Ideal.div_coe hDpos.ne', one_mul,
    EReal.right_distrib_of_nonneg_of_ne_top (by exact_mod_cast hc) (EReal.coe_ne_top _), sum_mul_coe _ _ _ hc,
    sum_mul_coe _ _ _ hc]
  refine congrArg (· * gm) (congrArg₂ (· + ·) ?_ ?_)
  · refine Finset.sum_congr rfl fun k _ => ?_
    rw [mul_assoc]
    by_cases h : q < k
    · by_cases f : first
      · simp [h, f, weightR]
      · simp [h, hv f]
    · simp [h]
  · refine Finset.sum_congr rfl fun k _ => ?_
    rw [mul_assoc]
    by_cases h : q < k
    · simp only [h, if_true, mul_one, ← EReal.coe_sub, sub_self]
    · simp only [h, if_false, mul_zero, sub_zero]

end Cert.Swa

end
-- ==== Proof.Swa.Block.lean ====
/- What the kernel's body leaves in the output block, at an index. -/
module

public import proofs.«01_k».proof.Proof.Swa.Pieces
public import proofs.«01_k».proof.Proof.Swa.TileRead
public import proofs.«01_k».proof.Proof.Swa.Cell

@[expose] public section

noncomputable section

namespace Cert.KernelIdeal.Swa

open Cert.KernelIdeal Cert.KernelIdeal.Gen Idealize.ShloMosaic Idealize.ShloMosaic.TcCoe Idealize.SL.Sem

theorem sum_keys (f : Fin 256 → EReal) :
    ∑ k : Fin 256, f k = (∑ k : Fin 128, f (keyOf 0 k)) + ∑ k : Fin 128, f (keyOf 1 k) := by
  rw [show (∑ k : Fin 256, f k) = ∑ k : Fin (128 + 128), f k from rfl, Fin.sum_univ_add]
  refine congrArg₂ (· + ·) (Finset.sum_congr rfl fun k _ => congrArg f (Fin.ext ?_))
    (Finset.sum_congr rfl fun k _ => congrArg f (Fin.ext ?_))
  · simp [keyOf]
  · simp [keyOf, Nat.add_comm]

/-- One stored piece at an index: the kernel's attention of one query. -/
theorem stored_apply (x0 : Vec Ideal S16 .f32) (w : Fin 4 → FVec Ideal S128x128 .f32) (v2 : FVec Ideal S64x256 .bf16)
    (g j : Fin 4) (gm : FVec Ideal S64x128 .bf16) (d : Fin 64) (q : Fin 128) :
    stored x0 w v2 g j gm (ix2 d q)
      = Cert.Swa.kernelCell q (fun k => v2 (ix2 d (keyOf 0 k))) (fun k => v2 (ix2 d (keyOf 1 k))) (fun k => w j (ix2 k q))
          (sink x0 (head g j)) (gm (ix2 d q)) := by
  unfold stored
  rw [gated_apply, norm_apply, mixed_apply _ (fun j => spread (w j) (sink x0 (head g j))), sum_keys]
  simp only [spread_prev, spread_cur, weights_apply, largest_apply]
  rfl

/-- The column of key `k` of the block before block `sb`, for `sb` not zero. -/
def colBefore (sb : Fin 8) (k : Fin 128) : Fin 1024 := ⟨128 * (sb - 1) + k, by omega⟩

/-- A key of the previous block, at `d`. -/
def prevKey (x2 : Vec Ideal S4x1024x64 .bf16) (x3 : Vec Ideal S4x128x64 .bf16) (sb : Fin 8) (g : Fin 4) (k : Fin 128)
    (d : Fin 64) : EReal :=
  if sb = 0 then x3 (ix3 g k d) else x2 (ix3 g (colBefore sb k) d)

/-- A value of the previous block, at `d`. -/
def prevVal (x4 : Vec Ideal S256x1024 .bf16) (x5 : Vec Ideal S256x128 .bf16) (sb : Fin 8) (g : Fin 4) (k : Fin 128)
    (d : Fin 64) : EReal :=
  if sb = 0 then x5 (ix2 (valOf g d) k) else x4 (ix2 (valOf g d) (colBefore sb k))

/-- The bias of the previous block's scores. -/
def bias (i : grid0.Coords) (sb : Fin 8) : EReal := if sb = 0 ∧ (i 1).val = 0 then ⊥ else 0

theorem mask_bot : Named.named (F := Ideal) (φ := .f32) κ "mask" 0xF149F2CA#32 = ⊥ :=
  IdealRules.named_const.ideal_named_scalar _ _ _ _ rfl

theorem bias_first (i : grid0.Coords) : (k0_pay6 i : Ideal .f32) = bias i 0 := by
  have h : (i 1).val = 0 ∨ (i 1).val = 1 := by have := (i 1).isLt; simp at this; omega
  unfold k0_pay6 bias
  rw [mask_bot]
  obtain h | h := h
  · rw [h]; dsimp only
    rw [show Scalar.cmpi .sgt 0#32 0#32 = 0#1 by decide]
    simp [Scalar.select]
  · rw [h]; dsimp only
    rw [show Scalar.cmpi .sgt 1#32 0#32 = 1#1 by decide]
    simp only [one_ne_zero, and_false, if_false]
    exact Ideal.ofBits_zero_f32

/-- What the body stores at row `d` of head `4 g + j`, column `q` of block `sb`. -/
def blockCell (i : grid0.Coords) (x0 : Vec Ideal S16 .f32) (x1 : Vec Ideal S1024x1024 .bf16) (x2 : Vec Ideal S4x1024x64 .bf16)
    (x3 : Vec Ideal S4x128x64 .bf16) (x4 : Vec Ideal S256x1024 .bf16) (x5 : Vec Ideal S256x128 .bf16)
    (x6 : Vec Ideal S1024x1024 .bf16) (sb : Fin 8) (g j : Fin 4) (d : Fin 64) (q : Fin 128) : EReal :=
  Cert.Swa.kernelCell q (fun k => prevVal x4 x5 sb g k d) (fun k => x4 (ix2 (valOf g d) (colOf sb k)))
    (Cert.Swa.window q
      (fun k => ∑ e : Fin 64, prevKey x2 x3 sb g k e * x1 (ix2 (rowOf (head g j) e) (colOf sb q)))
      (fun k => ∑ e : Fin 64, x2 (ix3 g (colOf sb k) e) * x1 (ix2 (rowOf (head g j) e) (colOf sb q)))
      (bias i sb))
    (x0 (ix1 (head g j)) * Named.named (F := Ideal) (φ := .f32) κ "log2e" 0x3FB8AA3B#32)
    (x6 (ix2 (rowOf (head g j) d) (colOf sb q)))

theorem storedFirst_apply (i : grid0.Coords) (x0 : Vec Ideal S16 .f32) (x1 : Vec Ideal S1024x1024 .bf16)
    (x2 : Vec Ideal S4x1024x64 .bf16) (x3 : Vec Ideal S4x128x64 .bf16) (x4 : Vec Ideal S256x1024 .bf16)
    (x5 : Vec Ideal S256x128 .bf16) (x6 : Vec Ideal S1024x1024 .bf16) (g j : Fin 4) (d : Fin 64) (q : Fin 128) :
    storedFirst i x0 x1 x2 x3 x4 x5 x6 g j (ix2 d q) = blockCell i x0 x1 x2 x3 x4 x5 x6 0 g j d q := by
  unfold storedFirst
  rw [stored_apply]
  simp only [valsFirst_prev, valsFirst_cur, windowFirst_apply, scores_apply, keysFirst_prev, keysFirst_cur, sink_apply,
    rows_apply, bias_first]
  rfl

theorem wideOf_prev (n : Fin 7) (k : Fin 128) : wideOf n (keyOf 0 k) = colBefore (after n) k :=
  Fin.ext (by simp [wideOf, keyOf, colBefore, after])

theorem wideOf_cur (n : Fin 7) (k : Fin 128) : wideOf n (keyOf 1 k) = colOf (after n) k :=
  Fin.ext (by simp [wideOf, keyOf, colOf, after]; omega)

theorem after_ne (n : Fin 7) : after n ≠ 0 := fun h => by simpa [after] using congrArg Fin.val h

theorem storedNext_apply (i : grid0.Coords) (x0 : Vec Ideal S16 .f32) (x1 : Vec Ideal S1024x1024 .bf16)
    (x2 : Vec Ideal S4x1024x64 .bf16) (x3 : Vec Ideal S4x128x64 .bf16) (x4 : Vec Ideal S256x1024 .bf16)
    (x5 : Vec Ideal S256x128 .bf16) (x6 : Vec Ideal S1024x1024 .bf16) (n : Fin 7) (g j : Fin 4) (d : Fin 64) (q : Fin 128) :
    storedNext x0 x1 x2 x4 x6 n g j (ix2 d q) = blockCell i x0 x1 x2 x3 x4 x5 x6 (after n) g j d q := by
  unfold storedNext blockCell Cert.Swa.window prevVal prevKey bias
  rw [stored_apply]
  simp only [valsNext_apply, windowNext_apply, scores_apply, keysNext_apply, sink_apply, rows_apply, wideOf_prev, wideOf_cur,
    after_ne, false_and, if_false, add_zero]

/-- A list of a block's sixteen stores holds `v` at `y` where each of the sixteen does. -/
theorem allAt_block {y : S1024x1024.Idx} {v : Ideal .bf16} (p : Fin 4 → Fin 4 → View.Piece (Elt Ideal) S1024x1024 .bf16)
    (h : ∀ g j, ∀ x : (p g j).1.shape.Idx, (p g j).1.emb x = y → (p g j).2 x = v) : View.AllAt (firstPieces p) y v := by
  intro pc hpc
  simp only [firstPieces, List.mem_cons, List.not_mem_nil, or_false] at hpc
  rcases hpc with h | h | h | h | h | h | h | h | h | h | h | h | h | h | h | h <;> subst h <;> exact h _ _

theorem emb_piece {sb sb' : Fin 8} {h h' : Fin 16} {d : Fin 64} {q : Fin 128}
    (x : (Rect.unit (s := S1024x1024) ![64 * h', 128 * sb'] S64x128.size (inb_rows sb' h')).shape.Idx)
    (hx : (Rect.unit (s := S1024x1024) ![64 * h', 128 * sb'] S64x128.size (inb_rows sb' h')).emb x
      = ix2 (rowOf h d) (colOf sb q)) : h' = h ∧ sb' = sb ∧ x = ix2 d q := by
  have h0 : 64 * h'.val + (x 0).val = 64 * h.val + d.val := by
    simpa [rowOf] using congrArg (fun i : S1024x1024.Idx => (i 0).val) hx
  have h1 : 128 * sb'.val + (x 1).val = 128 * sb.val + q.val := by
    simpa [colOf] using congrArg (fun i : S1024x1024.Idx => (i 1).val) hx
  have l0 : (x 0).val < 64 := (x 0).isLt
  have l1 : (x 1).val < 128 := (x 1).isLt
  refine ⟨by omega, by omega, funext fun a => ?_⟩
  fin_cases a
  · exact Fin.ext (by show (x 0).val = d.val; omega)
  · exact Fin.ext (by show (x 1).val = q.val; omega)

theorem head_inj {g g' j j' : Fin 4} (h : head g' j' = head g j) : g' = g ∧ j' = j := by
  have := congrArg Fin.val h
  simp only [head] at this
  omega

section
variable (i : grid0.Coords) (x0 : Vec Ideal S16 .f32) (x1 : Vec Ideal S1024x1024 .bf16) (x2 : Vec Ideal S4x1024x64 .bf16)
  (x3 : Vec Ideal S4x128x64 .bf16) (x4 : Vec Ideal S256x1024 .bf16) (x5 : Vec Ideal S256x128 .bf16)
  (x6 : Vec Ideal S1024x1024 .bf16) (sb : Fin 8) (g j : Fin 4) (d : Fin 64) (q : Fin 128)

theorem allAt_first : View.AllAt (firstPieces (pieceFirst i x0 x1 x2 x3 x4 x5 x6)) (ix2 (rowOf (head g j) d) (colOf sb q))
    (blockCell i x0 x1 x2 x3 x4 x5 x6 sb g j d q : Ideal .bf16) :=
  allAt_block _ fun g' j' x hx => by
    obtain ⟨hh, rfl, rfl⟩ := emb_piece x hx
    obtain ⟨rfl, rfl⟩ := head_inj hh
    exact storedFirst_apply i x0 x1 x2 x3 x4 x5 x6 g' j' d q

theorem allAt_next (n : Fin 7) : View.AllAt (firstPieces (pieceNext x0 x1 x2 x4 x6 n)) (ix2 (rowOf (head g j) d) (colOf sb q))
    (blockCell i x0 x1 x2 x3 x4 x5 x6 sb g j d q : Ideal .bf16) :=
  allAt_block _ fun g' j' x hx => by
    obtain ⟨hh, rfl, rfl⟩ := emb_piece x hx
    obtain ⟨rfl, rfl⟩ := head_inj hh
    exact storedNext_apply i x0 x1 x2 x3 x4 x5 x6 n g' j' d q

theorem allAt_append {y : S1024x1024.Idx} {v : Ideal .bf16} {L L' : List (View.Piece (Elt Ideal) S1024x1024 .bf16)}
    (h : View.AllAt L y v) (h' : View.AllAt L' y v) : View.AllAt (L ++ L') y v :=
  fun p hp => (List.mem_append.mp hp).elim (h p) (h' p)

theorem allAt_pieces : View.AllAt (pieces i x0 x1 x2 x3 x4 x5 x6) (ix2 (rowOf (head g j) d) (colOf sb q))
    (blockCell i x0 x1 x2 x3 x4 x5 x6 sb g j d q : Ideal .bf16) := by
  unfold pieces
  iterate 7 refine allAt_append (allAt_next i x0 x1 x2 x3 x4 x5 x6 sb g j d q _) ?_
  exact allAt_first i x0 x1 x2 x3 x4 x5 x6 sb g j d q

end

/-- WHAT THE BODY LEAVES in the output block. -/
theorem out_apply (c : Dev nD) (i : grid0.Coords) (arg2 : Memref sig .tc .smem S16 .f32) (harg2 : arg2.IsWhole)
    (arg3 : Memref sig .tc .vmem S1024x1024 .bf16) (harg3 : arg3.IsWhole)
    (arg4 : Memref sig .tc .vmem S4x1024x64 .bf16) (harg4 : arg4.IsWhole)
    (arg5 : Memref sig .tc .vmem S4x128x64 .bf16) (harg5 : arg5.IsWhole)
    (arg6 : Memref sig .tc .vmem S256x1024 .bf16) (harg6 : arg6.IsWhole)
    (arg7 : Memref sig .tc .vmem S256x128 .bf16) (harg7 : arg7.IsWhole)
    (arg8 : Memref sig .tc .vmem S1024x1024 .bf16) (harg8 : arg8.IsWhole)
    (arg9 : Memref sig .tc .vmem S1024x1024 .bf16) (harg9 : arg9.IsWhole)
    (x0 : Vec Ideal S16 .f32) (x1 : Vec Ideal S1024x1024 .bf16) (x2 : Vec Ideal S4x1024x64 .bf16)
    (x3 : Vec Ideal S4x128x64 .bf16) (x4 : Vec Ideal S256x1024 .bf16) (x5 : Vec Ideal S256x128 .bf16)
    (x6 : Vec Ideal S1024x1024 .bf16) (sb : Fin 8) (g j : Fin 4) (d : Fin 64) (q : Fin 128) :
    out0_A_7 (F := Ideal) c i arg2 harg2 arg3 harg3 arg4 harg4 arg5 harg5 arg6 harg6 arg7 harg7 arg8 harg8 arg9 harg9
      x0 x1 x2 x3 x4 x5 x6 (ix2 (rowOf (head g j) d) (colOf sb q)) = blockCell i x0 x1 x2 x3 x4 x5 x6 sb g j d q := by
  unfold out0_A_7
  rw [View.read_writes_eq_canon _ _ _ (cover0_A_7 (F := Ideal) c i arg2 harg2 arg3 harg3 arg4 harg4 arg5 harg5 arg6 harg6 arg7 harg7
    arg8 harg8 arg9 harg9 x0 x1 x2 x3 x4 x5 x6)]
  refine View.canon_eq_of_allAt _ _ _ (cover0_A_7 (F := Ideal) c i arg2 harg2 arg3 harg3 arg4 harg4 arg5 harg5 arg6 harg6 arg7 harg7
    arg8 harg8 arg9 harg9 x0 x1 x2 x3 x4 x5 x6 _) ?_
  rw [run_pieces, harg2.read_unread, harg3.read_unread, harg4.read_unread, harg5.read_unread, harg6.read_unread,
    harg7.read_unread, harg8.read_unread]
  exact allAt_pieces i x0 x1 x2 x3 x4 x5 x6 sb g j d q

end Cert.KernelIdeal.Swa

end
-- ==== Proof.Swa.Array.lean ====
/- The kernel's result array, from its blocks. -/
module

public import proofs.«01_k».proof.Proof.Swa.Block
public import Idealize.ShloMosaic.Lib.Pipeline.ValueKit

@[expose] public section

noncomputable section

namespace Cert.KernelIdeal.Swa

open Cert.KernelIdeal Cert.KernelIdeal.Gen Idealize.ShloMosaic Idealize.ShloMosaic.TcCoe Idealize.SL.Sem

/-- Token `q` of block `N`. -/
def tok (N q : Fin 128) : Fin 16384 := ⟨128 * N + q, by omega⟩

/-- Token `k` of the block before block `N` (of block 0 itself, for block 0). -/
def tokBefore (N k : Fin 128) : Fin 16384 := ⟨128 * (N - 1) + k, by omega⟩

/-- The kernel's attention of token `q` of block `N`, from the arrays its call takes. -/
def arrayCell (s : Vec Ideal S16 .f32) (Q : Vec Ideal S1024x16384 .bf16) (K : Vec Ideal S4x16384x64 .bf16)
    (W : Vec Ideal S256x16384 .bf16) (G : Vec Ideal S1024x16384 .bf16) (g j : Fin 4) (d : Fin 64) (N q : Fin 128) : EReal :=
  Cert.Swa.kernelCell q (fun k => W (ix2 (valOf g d) (tokBefore N k))) (fun k => W (ix2 (valOf g d) (tok N k)))
    (Cert.Swa.window q
      (fun k => ∑ e : Fin 64, K (ix3 g (tokBefore N k) e) * Q (ix2 (rowOf (head g j) e) (tok N q)))
      (fun k => ∑ e : Fin 64, K (ix3 g (tok N k) e) * Q (ix2 (rowOf (head g j) e) (tok N q)))
      (if N.val % 16 = 0 then ⊥ else 0))
    (s (ix1 (head g j)) * Named.named (F := Ideal) (φ := .f32) κ "log2e" 0x3FB8AA3B#32)
    (G (ix2 (rowOf (head g j) d) (tok N q)))

/-- The kernel's result, from the arrays its call takes. -/
def arrayOut (s : Vec Ideal S16 .f32) (Q : Vec Ideal S1024x16384 .bf16) (K : Vec Ideal S4x16384x64 .bf16)
    (W : Vec Ideal S256x16384 .bf16) (G : Vec Ideal S1024x16384 .bf16) : Vec Ideal S1024x16384 .bf16 := fun y =>
  arrayCell s Q K W G ⟨(y 0).val / 256, by have := (y 0).isLt; simp at this; omega⟩ ⟨(y 0).val / 64 % 4, by omega⟩
    ⟨(y 0).val % 64, by omega⟩ ⟨(y 1).val / 128, by have := (y 1).isLt; simp at this; omega⟩ ⟨(y 1).val % 128, by omega⟩

theorem arrayOut_apply (s : Vec Ideal S16 .f32) (Q : Vec Ideal S1024x16384 .bf16) (K : Vec Ideal S4x16384x64 .bf16)
    (W : Vec Ideal S256x16384 .bf16) (G : Vec Ideal S1024x16384 .bf16) (g j : Fin 4) (d : Fin 64) (N q : Fin 128) :
    arrayOut s Q K W G (ix2 (rowOf (head g j) d) (tok N q)) = arrayCell s Q K W G g j d N q := by
  have h0 : ((ix2 (rowOf (head g j) d) (tok N q) : S1024x16384.Idx) 0).val = 64 * (4 * g + j) + d := rfl
  have h1 : ((ix2 (rowOf (head g j) d) (tok N q) : S1024x16384.Idx) 1).val = 128 * N + q := rfl
  unfold arrayOut
  congr 1 <;> apply Fin.ext <;> simp only [h0, h1] <;> omega

/-- Every index of a block is row `d` of a head, query `q` of a block of 128. -/
theorem block_index (y : S1024x1024.Idx) : ∃ (sb : Fin 8) (g j : Fin 4) (d : Fin 64) (q : Fin 128),
    y = ix2 (rowOf (head g j) d) (colOf sb q) := by
  have h0 : (y 0).val < 1024 := (y 0).isLt
  have h1 : (y 1).val < 1024 := (y 1).isLt
  refine ⟨⟨(y 1).val / 128, by omega⟩, ⟨(y 0).val / 256, by omega⟩, ⟨(y 0).val / 64 % 4, by omega⟩, ⟨(y 0).val % 64, by omega⟩,
    ⟨(y 1).val % 128, by omega⟩, funext fun a => ?_⟩
  fin_cases a
  · exact Fin.ext (by show (y 0).val = 64 * (4 * ((y 0).val / 256) + (y 0).val / 64 % 4) + (y 0).val % 64; omega)
  · exact Fin.ext (by show (y 1).val = 128 * ((y 1).val / 128) + (y 1).val % 128; omega)

/-- The block of 128 tokens that block `sb` of tile `t` is. -/
def blockOf (t : Fin grid0.N) (sb : Fin 8) : Fin 128 := ⟨8 * t + sb, by have : t.val < 16 := t.isLt; omega⟩

theorem coord_tile : ∀ t : Fin grid0.N, (grid0.coords t 1).val = t.val % 2 := by decide +kernel

theorem idx1 : ∀ t : Fin grid0.N, win0_1.index t = ![0, t.val] := by decide +kernel
theorem idx2 : ∀ t : Fin grid0.N, win0_2.index t = ![0, t.val, 0] := by decide +kernel
theorem idx3 : ∀ t : Fin grid0.N, win0_3.index t = ![0, 8 * t.val - 1, 0] := by decide +kernel
theorem idx4 : ∀ t : Fin grid0.N, win0_4.index t = ![0, t.val] := by decide +kernel
theorem idx5 : ∀ t : Fin grid0.N, win0_5.index t = ![0, 8 * t.val - 1] := by decide +kernel
theorem idx6 : ∀ t : Fin grid0.N, win0_6.index t = ![0, t.val] := by decide +kernel
theorem idx7 : ∀ t : Fin grid0.N, win0_7.index t = ![0, t.val] := by decide +kernel
theorem idx0 : ∀ t : Fin grid0.N, win0_0.index t = ![0] := by decide +kernel

variable (m : (ℓ : Loc nD τ sig) → Buf (Elt Ideal) ℓ) (c : Dev nD) (t : Fin cfg0.N)

theorem blk0 (h : Fin 16) : iblk m c 0 t (ix1 h) = (V m c main_arg0 : Vec Ideal S16 .f32) (ix1 h) := by
  blk_simp [iblk]
  refine congrArg (V m c main_arg0 : Vec Ideal S16 .f32) ?_
  blk_ext [idx0]

theorem blk1 (r : Fin 1024) (sb : Fin 8) (q : Fin 128) : iblk m c 1 t (ix2 r (colOf sb q))
    = (V m c main_v7 : Vec Ideal S1024x16384 .bf16) (ix2 r (tok (blockOf t sb) q)) := by
  blk_simp [iblk]
  refine congrArg (V m c main_v7 : Vec Ideal S1024x16384 .bf16) ?_
  blk_ext [idx1, blockOf, tok, colOf]

theorem blk2 (g : Fin 4) (sb : Fin 8) (k : Fin 128) (d : Fin 64) : iblk m c 2 t (ix3 g (colOf sb k) d)
    = (V m c main_v10 : Vec Ideal S4x16384x64 .bf16) (ix3 g (tok (blockOf t sb) k) d) := by
  blk_simp [iblk]
  refine congrArg (V m c main_v10 : Vec Ideal S4x16384x64 .bf16) ?_
  blk_ext [idx2, blockOf, tok, colOf]

theorem blk2_before (g : Fin 4) (sb : Fin 8) (h : sb ≠ 0) (k : Fin 128) (d : Fin 64) :
    iblk m c 2 t (ix3 g (colBefore sb k) d)
      = (V m c main_v10 : Vec Ideal S4x16384x64 .bf16) (ix3 g (tokBefore (blockOf t sb) k) d) := by
  have h' : sb.val ≠ 0 := fun e => h (Fin.ext e)
  blk_simp [iblk]
  refine congrArg (V m c main_v10 : Vec Ideal S4x16384x64 .bf16) ?_
  blk_ext [idx2, blockOf, tokBefore, colBefore]

theorem blk3 (g : Fin 4) (k : Fin 128) (d : Fin 64) : iblk m c 3 t (ix3 g k d)
    = (V m c main_v10 : Vec Ideal S4x16384x64 .bf16) (ix3 g (tokBefore (blockOf t 0) k) d) := by
  blk_simp [iblk]
  refine congrArg (V m c main_v10 : Vec Ideal S4x16384x64 .bf16) ?_
  blk_ext [idx3, blockOf, tokBefore]

theorem blk4 (r : Fin 256) (sb : Fin 8) (q : Fin 128) : iblk m c 4 t (ix2 r (colOf sb q))
    = (V m c main_v13 : Vec Ideal S256x16384 .bf16) (ix2 r (tok (blockOf t sb) q)) := by
  blk_simp [iblk]
  refine congrArg (V m c main_v13 : Vec Ideal S256x16384 .bf16) ?_
  blk_ext [idx4, blockOf, tok, colOf]

theorem blk4_before (r : Fin 256) (sb : Fin 8) (h : sb ≠ 0) (q : Fin 128) : iblk m c 4 t (ix2 r (colBefore sb q))
    = (V m c main_v13 : Vec Ideal S256x16384 .bf16) (ix2 r (tokBefore (blockOf t sb) q)) := by
  have h' : sb.val ≠ 0 := fun e => h (Fin.ext e)
  blk_simp [iblk]
  refine congrArg (V m c main_v13 : Vec Ideal S256x16384 .bf16) ?_
  blk_ext [idx4, blockOf, tokBefore, colBefore]

theorem blk5 (r : Fin 256) (k : Fin 128) : iblk m c 5 t (ix2 r k)
    = (V m c main_v13 : Vec Ideal S256x16384 .bf16) (ix2 r (tokBefore (blockOf t 0) k)) := by
  blk_simp [iblk]
  refine congrArg (V m c main_v13 : Vec Ideal S256x16384 .bf16) ?_
  blk_ext [idx5, blockOf, tokBefore]

theorem blk6 (r : Fin 1024) (sb : Fin 8) (q : Fin 128) : iblk m c 6 t (ix2 r (colOf sb q))
    = (V m c main_v16 : Vec Ideal S1024x16384 .bf16) (ix2 r (tok (blockOf t sb) q)) := by
  blk_simp [iblk]
  refine congrArg (V m c main_v16 : Vec Ideal S1024x16384 .bf16) ?_
  blk_ext [idx6, blockOf, tok, colOf]

theorem emb_out (r : Fin 1024) (sb : Fin 8) (q : Fin 128) :
    ((win0_7.blk t).view.emb (ix2 r (colOf sb q)) : S1024x16384.Idx) = ix2 r (tok (blockOf t sb) q) := by
  blk_ext [idx7, blockOf, tok, colOf]

theorem prevKey_blk (g : Fin 4) (sb : Fin 8) (k : Fin 128) (d : Fin 64) : prevKey (iblk m c 2 t) (iblk m c 3 t) sb g k d
    = (V m c main_v10 : Vec Ideal S4x16384x64 .bf16) (ix3 g (tokBefore (blockOf t sb) k) d) := by
  unfold prevKey
  split
  · rename_i h; subst h; exact blk3 m c t g k d
  · rename_i h; exact blk2_before m c t g sb h k d

theorem prevVal_blk (g : Fin 4) (sb : Fin 8) (k : Fin 128) (d : Fin 64) : prevVal (iblk m c 4 t) (iblk m c 5 t) sb g k d
    = (V m c main_v13 : Vec Ideal S256x16384 .bf16) (ix2 (valOf g d) (tokBefore (blockOf t sb) k)) := by
  unfold prevVal
  split
  · rename_i h; subst h; exact blk5 m c t (valOf g d) k
  · rename_i h; exact blk4_before m c t (valOf g d) sb h k

theorem bias_blk (sb : Fin 8) : bias (grid0.coords t) sb = if (blockOf t sb).val % 16 = 0 then ⊥ else 0 := by
  unfold bias
  refine if_congr ?_ rfl rfl
  rw [coord_tile t, Fin.ext_iff]
  show sb.val = 0 ∧ t.val % 2 = 0 ↔ (8 * t.val + sb.val) % 16 = 0
  omega

/-- THE ARRAY THE KERNEL LEAVES. -/
theorem array_eq : (Gen.dats m 0 c).arrAt 7 cfg0.N = arrayOut (V m c main_arg0) (V m c main_v7) (V m c main_v10) (V m c main_v13)
    (V m c main_v16) := by
  refine (dats m 0 c).arrAt_eq_of_covers 7 _ (by decide +kernel) fun t hf y => ?_
  blk_simp
  rw [after0_7]
  unfold outsAt0
  obtain ⟨sb, g, j, d, q, rfl⟩ := block_index y
  rw [emb_out, arrayOut_apply, out_apply]
  unfold blockCell arrayCell
  simp only [prevKey_blk, prevVal_blk, bias_blk, blk0, blk1, blk2, blk4, blk6]

end Cert.KernelIdeal.Swa

end
-- ==== Proof.Swa.OperandsRead.lean ====
/- The arrays the kernel's call takes, read at an element. -/
module

public import proofs.«01_k».proof.Proof.Swa.Operands
public import proofs.«01_k».proof.Proof.Swa.Array
public import Idealize.ShloMosaic.Lib.Pointwise

@[expose] public section

noncomputable section

namespace Cert.KernelIdeal.Swa

open Cert.KernelIdeal Cert.KernelIdeal.Gen Idealize.ShloMosaic Idealize.ShloMosaic.TcCoe Idealize.SL.Sem

/-- The sequence of token `T`. -/
def seqOf (T : Fin 16384) : Fin 8 := ⟨T / 2048, by omega⟩

/-- The position of token `T` in its sequence. -/
def posOf (T : Fin 16384) : Fin 2048 := ⟨T % 2048, by omega⟩

variable (m : (ℓ : Loc nD τ sig) → Buf (Elt Ideal) ℓ) (c : Dev nD)

theorem keys_apply (x : FVec Ideal S8x2048x4x64 .f32) (g : Fin 4) (T : Fin 16384) (d : Fin 64) :
    (truncf .bf16 (transpose S4x16384x64 [1, 0, 2] (shapeCast S16384x4x64 x shapeCasts_S8x2048x4x64_S16384x4x64)
      transposes_S16384x4x64_S4x16384x64_1_0_2) bitsLt_bf16_f32 : FVec Ideal S4x16384x64 .bf16) (ix3 g T d)
      = x (ix4 (seqOf T) (posOf T) g d) := by
  pointwise
  rfl

theorem values_apply (x : FVec Ideal S8x2048x4x64 .f32) (g : Fin 4) (T : Fin 16384) (d : Fin 64) :
    (truncf .bf16 (transpose S256x16384 [1, 0] (shapeCast S16384x256 x shapeCasts_S8x2048x4x64_S16384x256)
      transposes_S16384x256_S256x16384_1_0) bitsLt_bf16_f32 : FVec Ideal S256x16384 .bf16) (ix2 (⟨64 * g + d, by omega⟩ : Fin 256) T)
      = x (ix4 (seqOf T) (posOf T) g d) := by
  pointwise
  rfl

theorem gate_apply (x : FVec Ideal S8x2048x1024 .f32) (r : Fin 1024) (T : Fin 16384) :
    (truncf .bf16 (transpose S1024x16384 [1, 0] (shapeCast S16384x1024 x shapeCasts_S8x2048x1024_S16384x1024)
      transposes_S16384x1024_S1024x16384_1_0) bitsLt_bf16_f32 : FVec Ideal S1024x16384 .bf16) (ix2 r T)
      = x (ix3 (seqOf T) (posOf T) r) := by
  pointwise
  rfl

theorem eighth : Ideal.ofBits .f32 0x3E000000#32 = ((1 / 8 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem queries_apply (x : FVec Ideal S8x2048x16x64 .f32) (h : Fin 16) (d : Fin 64) (T : Fin 16384) :
    (truncf .bf16 (transpose S1024x16384 [1, 0]
        (Host.divf (mulf (shapeCast S16384x1024 x shapeCasts_S8x2048x16x64_S16384x1024)
            (broadcastInDim S16384x1024 ![] bcast_S_S16384x1024 (constant S_ .f32 0x3E000000#32)))
          (broadcastInDim S16384x1024 ![] bcast_S_S16384x1024 (Host.log (constant S_ .f32 0x40000000#32))))
        transposes_S16384x1024_S1024x16384_1_0) bitsLt_bf16_f32 : FVec Ideal S1024x16384 .bf16) (ix2 (⟨64 * h + d, by omega⟩ : Fin 1024) T)
      = Ideal.div (x (ix4 (seqOf T) (posOf T) h d) * ((1 / 8 : ℝ) : EReal)) (Real.log 2 : ℝ) := by
  pointwise
  rw [eighth, two, Ideal.log_coe, if_neg (by norm_num)]
  rfl

theorem key_at (g : Fin 4) (T : Fin 16384) (d : Fin 64) :
    V m c main_v10 (ix3 g T d) = m ((c.tc : Thread nD τ).loc main_arg2) (ix4 (seqOf T) (posOf T) g d) := by
  rw [operand_keys]; exact keys_apply _ g T d

theorem value_at (g : Fin 4) (T : Fin 16384) (d : Fin 64) :
    V m c main_v13 (ix2 (valOf g d) T) = m ((c.tc : Thread nD τ).loc main_arg3) (ix4 (seqOf T) (posOf T) g d) := by
  rw [operand_values]; exact values_apply _ g T d

theorem gate_at (r : Fin 1024) (T : Fin 16384) :
    V m c main_v16 (ix2 r T) = m ((c.tc : Thread nD τ).loc main_arg4) (ix3 (seqOf T) (posOf T) r) := by
  rw [operand_gate]; exact gate_apply _ r T

theorem query_at (h : Fin 16) (d : Fin 64) (T : Fin 16384) :
    V m c main_v7 (ix2 (rowOf h d) T)
      = Ideal.div (HMul.hMul (α := EReal) (m ((c.tc : Thread nD τ).loc main_arg1) (ix4 (seqOf T) (posOf T) h d)) ((1 / 8 : ℝ) : EReal)) (Real.log 2 : ℝ) := by
  rw [operand_queries]; exact queries_apply _ h d T

end Cert.KernelIdeal.Swa

end
-- ==== Proof.Swa.RefMask.lean ====
/- The reference's mask in words: which keys a query sees. -/
module

public import Idealize.ShloMosaic.Lib.Pointwise

@[expose] public section

namespace Cert.ReferenceIdeal.Swa

open Idealize.ShloMosaic

theorem near : ∀ (q : Fin 128) (k : Fin 256), IntOp.andi
    (IntOp.cmpi .sge (BitVec.ofNat 32 q + 128#32 - BitVec.ofNat 32 k) 0#32)
    (IntOp.cmpi .slt (BitVec.ofNat 32 q + 128#32 - BitVec.ofNat 32 k) 128#32)
      = if q.val < k.val ∧ k.val ≤ q.val + 128 then 1#1 else 0#1 := by decide +kernel

theorem start : ∀ (n : Fin 16) (k : Fin 256),
    IntOp.cmpi .sge (IntOp.addi (IntOp.muli (IntOp.subi (BitVec.ofNat 32 n) 1#32) 128#32) (BitVec.ofNat 32 k)) 0#32
      = if n.val = 0 → 128 ≤ k.val then 1#1 else 0#1 := by decide +kernel

theorem far_words (n : Fin 16) (q : Fin 128) (k : Fin 256) :
    IntOp.subi (IntOp.addi (IntOp.muli (BitVec.ofNat 32 n) 128#32) (BitVec.ofNat 32 q))
      (IntOp.addi (IntOp.muli (IntOp.subi (BitVec.ofNat 32 n) 1#32) 128#32) (BitVec.ofNat 32 k))
        = BitVec.ofNat 32 q + 128#32 - BitVec.ofNat 32 k := by
  show (BitVec.ofNat 32 n * 128#32 + BitVec.ofNat 32 q) - ((BitVec.ofNat 32 n - 1#32) * 128#32 + BitVec.ofNat 32 k) = _
  apply BitVec.eq_of_toNat_eq
  simp only [BitVec.toNat_sub, BitVec.toNat_add, BitVec.toNat_mul, BitVec.toNat_ofNat]
  omega

theorem and_words (p r : Prop) [Decidable p] [Decidable r] :
    IntOp.andi (if p then 1#1 else 0#1) (if r then 1#1 else 0#1) = if p ∧ r then 1#1 else 0#1 := by
  by_cases hp : p <;> by_cases hr : r <;> simp only [hp, hr, and_true, and_false, if_true, if_false] <;> rfl

end Cert.ReferenceIdeal.Swa
-- ==== Proof.Swa.RefLayout.lean ====
/- The reference's blocks of keys, values and queries, and its mask, read at an element. -/
module

public import proofs.«01_k».proof.Proof.Gen.ReferenceIdeal.Read
public import proofs.«01_k».proof.Proof.Swa.RefMask
public import Idealize.ShloMosaic.Lib.Pointwise

@[expose] public section

noncomputable section

namespace Cert.ReferenceIdeal.Swa

open Cert.ReferenceIdeal Cert.ReferenceIdeal.Gen Cert.ReferenceIdeal.Read Idealize.ShloMosaic Idealize.ShloMosaic.TcCoe Idealize.SL.Sem

/-- The position, in its sequence, of token `k` of block `n`. -/
def place (n : Fin 16) (k : Fin 128) : Fin 2048 := ⟨128 * n + k, by omega⟩

/-- The block before block `n` (block 0 itself, for block 0). -/
def before (n : Fin 16) : Fin 16 := ⟨n - 1, by omega⟩

/-- Key `k` of the block before (`r = 0`) or of the block itself (`r = 1`), among 256. -/
def both (r : Fin 2) (k : Fin 128) : Fin 256 := ⟨128 * r + k, by omega⟩

/-- Query head `j` of key head `g`. -/
def headOf (g j : Fin 4) : Fin 16 := ⟨4 * g + j, by omega⟩

theorem keys_cur (x : FVec Ideal S8x2048x4x64 .f32) (b : Fin 8) (n : Fin 16) (k : Fin 128) (g : Fin 4) (e : Fin 64) :
    val_main_v9 (F := Ideal) x (ix5 b n (both 1 k) g e) = x (ix4 b (place n k) g e) := by
  unfold both
  pointwise [val_main_v9, val_main_v8, val_main_v1, val_main_v7, val_main_v4, val_main_cst]
  simp only [place, Nat.mul_comm 128]

theorem keys_prev (x : FVec Ideal S8x2048x4x64 .f32) (b : Fin 8) (n : Fin 16) (k : Fin 128) (g : Fin 4) (e : Fin 64) :
    val_main_v9 (F := Ideal) x (ix5 b n (both 0 k) g e) = if n.val = 0 then 0 else x (ix4 b (place (before n) k) g e) := by
  unfold both
  pointwise [val_main_v9, val_main_v8, val_main_v1, val_main_v7, val_main_v4, val_main_cst]
  by_cases h : n.val = 0
  · rw [dif_pos (by omega), if_pos h]
  · rw [dif_neg (by omega), if_neg h]
    simp only [place, before, Nat.mul_comm 128]

theorem values_same (x : FVec Ideal S8x2048x4x64 .f32) : val_main_v12 (F := Ideal) x = val_main_v9 (F := Ideal) x := rfl

theorem queries_at (x : FVec Ideal S8x2048x16x64 .f32) (b : Fin 8) (n : Fin 16) (q : Fin 128) (g j : Fin 4) (e : Fin 64) :
    val_main_v0 (F := Ideal) x (ix6 b n q g j e) = x (ix4 b (place n q) (headOf g j) e) := by
  pointwise [val_main_v0]
  simp only [place, headOf, Nat.mul_comm 128, Nat.mul_comm 4]

theorem mask_at (n : Fin 16) (q : Fin 128) (k : Fin 256) :
    val_main_v46 (F := Ideal) (ix3 n q k) = if q.val < k.val ∧ k.val ≤ q.val + 128 ∧ (n.val = 0 → 128 ≤ k.val) then 1#1 else 0#1 := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_c, val_main_c_2, val_main_c_3, val_main_c_4, val_main_c_5, val_main_c_6]
  have far : IntOp.subi (IntOp.addi (IntOp.muli (BitVec.ofNat 32 n) 128#32) (BitVec.ofNat 32 q))
      (IntOp.addi (IntOp.muli (IntOp.subi (BitVec.ofNat 32 n) 1#32) 128#32) (BitVec.ofNat 32 k))
        = BitVec.ofNat 32 q + 128#32 - BitVec.ofNat 32 k := by
    exact far_words n q k
  rw [far, near q k, start n k, and_words]
  simp only [and_assoc]

end Cert.ReferenceIdeal.Swa

end
-- ==== Proof.Swa.RefOut.lean ====
/- The reference's result, from its weights. -/
module

public import proofs.«01_k».proof.Proof.Swa.RefLayout

@[expose] public section

noncomputable section

namespace Cert.ReferenceIdeal.Swa

open Cert.ReferenceIdeal Cert.ReferenceIdeal.Gen Cert.ReferenceIdeal.Read Idealize.ShloMosaic Idealize.ShloMosaic.TcCoe Idealize.SL.Sem

variable (x0 : FVec Ideal S16 .f32) (x1 : FVec Ideal S8x2048x16x64 .f32) (x2 x3 : FVec Ideal S8x2048x4x64 .f32)
  (x4 : FVec Ideal S8x2048x1024 .f32) (b : Fin 8) (n : Fin 16) (g j : Fin 4) (q : Fin 128)

theorem out_at (d : Fin 64) : val_main_v72 (F := Ideal) x0 x1 x2 x3 x4
      (ix2 (⟨64 * (4 * g + j) + d, by omega⟩ : Fin 1024) (⟨2048 * b + (128 * n + q), by omega⟩ : Fin 16384))
    = (∑ k, val_main_v9 (F := Ideal) x3 (ix5 b n k g d) * Ideal.div (val_main_v57 (F := Ideal) x0 x1 x2 (ix6 b n g j q k)) (val_main_v63 (F := Ideal) x0 x1 x2 (ix6 b n g j q 0)))
      * x4 (ix3 b (place n q) (⟨64 * (4 * g + j) + d, by omega⟩ : Fin 1024)) := by
  rw [← values_same]
  unfold val_main_v72 val_main_v71 val_main_v70 val_main_v69 val_main_v68 val_main_v67 val_main_v66 val_main_v65 val_main_v64
  generalize val_main_v57 (F := Ideal) x0 x1 x2 = y
  generalize val_main_v63 (F := Ideal) x0 x1 x2 = z
  generalize val_main_v12 (F := Ideal) x3 = w
  pointwise
  have h : (⟨(2048 * b.val + (128 * n.val + q.val)) % 2048, by omega⟩ : Fin 2048) = place n q :=
    Fin.ext (by show _ % 2048 = 128 * n.val + q.val; omega)
  rw [h]

end Cert.ReferenceIdeal.Swa

end
-- ==== Proof.Swa.RefRead.lean ====
/- The reference's result read at an element. -/
module

public import proofs.«01_k».proof.Proof.Swa.RefOut
public import proofs.«01_k».proof.Proof.Swa.Cell

@[expose] public section

noncomputable section

namespace Cert.ReferenceIdeal.Swa

open Cert.ReferenceIdeal Cert.ReferenceIdeal.Gen Cert.ReferenceIdeal.Read Idealize.ShloMosaic Idealize.ShloMosaic.TcCoe Idealize.SL.Sem

theorem eighth : Ideal.ofBits .f32 0x3E000000#32 = ((1 / 8 : ℝ) : EReal) := by
  simp [Ideal.ofBits, Ideal.ieee, -EReal.coe_mul]; norm_num

theorem lowest : Ideal.ofBits .f32 0xFF800000#32 = ⊥ := by simp [Ideal.ofBits, Ideal.ieee]

variable (x0 : FVec Ideal S16 .f32) (x1 : FVec Ideal S8x2048x16x64 .f32) (x2 x3 : FVec Ideal S8x2048x4x64 .f32)
  (x4 : FVec Ideal S8x2048x1024 .f32) (b : Fin 8) (n : Fin 16) (g j : Fin 4) (q : Fin 128)

/-- The score of key `k` of block `n'` for query `q` of block `n`. -/
def score (n' : Fin 16) (k : Fin 128) : EReal :=
  (∑ e : Fin 64, x2 (ix4 b (place n' k) g e) * x1 (ix4 b (place n q) (headOf g j) e)) * ((1 / 8 : ℝ) : EReal)

theorem masked_at (k : Fin 256) : val_main_v48 (F := Ideal) x1 x2 (ix6 b n g j q k)
    = Scalar.select (val_main_v46 (F := Ideal) (ix3 n q k))
        ((∑ e : Fin 64, val_main_v9 (F := Ideal) x2 (ix5 b n k g e) * val_main_v0 (F := Ideal) x1 (ix6 b n q g j e)) * ((1 / 8 : ℝ) : EReal)) ⊥ := by
  rw [← eighth, ← lowest]
  pointwise [val_main_v48, val_main_v47, val_main_v16, val_main_v15, val_main_v14, val_main_v13, val_main_call0_v1, val_main_call0_v2,
    val_main_call0_v0, val_main_cst_1, val_main_cst_7]
  rfl

theorem prev_at (k : Fin 128) : val_main_v48 (F := Ideal) x1 x2 (ix6 b n g j q (both 0 k))
    = Cert.Swa.maskedPrev q (n.val = 0) (score x1 x2 b n g j q (before n)) k := by
  have h2 : (both 0 k).val = k.val := by show 128 * 0 + k.val = _; omega
  rw [masked_at, mask_at, h2]
  unfold Cert.Swa.maskedPrev score
  by_cases hk : q < k ∧ ¬ n.val = 0
  · have hk1 : q.val < k.val := hk.1
    rw [if_pos hk, if_pos ⟨hk1, by omega, fun h => absurd h hk.2⟩]
    simp only [keys_prev, queries_at, if_neg hk.2]
    rfl
  · rw [if_neg hk, if_neg (fun h => hk ⟨h.1, fun h0 => by have := h.2.2 h0; omega⟩)]
    rfl

theorem cur_at (k : Fin 128) : val_main_v48 (F := Ideal) x1 x2 (ix6 b n g j q (both 1 k))
    = Cert.Swa.maskedCur q (score x1 x2 b n g j q n) k := by
  have h2 : (both 1 k).val = 128 + k.val := by show 128 * 1 + k.val = _; omega
  rw [masked_at, mask_at, h2]
  unfold Cert.Swa.maskedCur score
  by_cases hk : q < k
  · have hk1 : q.val < k.val := hk
    rw [if_pos hk, if_neg (by omega)]
    rfl
  · have hk1 : ¬ q.val < k.val := hk
    rw [if_neg hk, if_pos ⟨by omega, by omega, fun _ => by omega⟩]
    simp only [keys_cur, queries_at]
    rfl

theorem sum_both {M : Type} [AddCommMonoid M] (f : Fin 256 → M) : ∑ k, f k = ∑ k, f (both 0 k) + ∑ k, f (both 1 k) := by
  rw [show (∑ k, f k) = ∑ k : Fin (128 + 128), f k from rfl, Fin.sum_univ_add]
  refine congrArg₂ _ (Finset.sum_congr rfl fun k _ => congrArg f (Fin.ext ?_)) (Finset.sum_congr rfl fun k _ => congrArg f (Fin.ext ?_))
  · show k.val = 128 * 0 + k.val; omega
  · show 128 + k.val = 128 * 1 + k.val; omega

theorem max_both (f : Fin 256 → EReal) : Finset.univ.fold max ⊥ f
    = max (Finset.univ.fold max ⊥ fun k => f (both 0 k)) (Finset.univ.fold max ⊥ fun k => f (both 1 k)) := by
  apply le_antisymm
  · refine Finset.fold_max_le _ |>.mpr ⟨bot_le, fun k _ => ?_⟩
    by_cases hk : k.val < 128
    · exact le_max_of_le_left (Finset.le_fold_max _ |>.mpr (Or.inr ⟨⟨k, hk⟩, Finset.mem_univ _,
        le_of_eq (congrArg f (Fin.ext (by show k.val = 128 * 0 + k.val; omega)))⟩))
    · exact le_max_of_le_right (Finset.le_fold_max _ |>.mpr (Or.inr ⟨⟨k - 128, by omega⟩, Finset.mem_univ _,
        le_of_eq (congrArg f (Fin.ext (by show k.val = 128 * 1 + (k.val - 128); omega)))⟩))
  · refine max_le (Finset.fold_max_le _ |>.mpr ⟨bot_le, fun k _ => ?_⟩) (Finset.fold_max_le _ |>.mpr ⟨bot_le, fun k _ => ?_⟩)
    · exact Finset.le_fold_max _ |>.mpr (Or.inr ⟨_, Finset.mem_univ _, le_rfl⟩)
    · exact Finset.le_fold_max _ |>.mpr (Or.inr ⟨_, Finset.mem_univ _, le_rfl⟩)

theorem max_at : val_main_v51 (F := Ideal) x1 x2 (ix5 b n g j q)
    = Finset.univ.fold max ⊥ fun k => val_main_v48 (F := Ideal) x1 x2 (ix6 b n g j q k) := by
  unfold val_main_v51 val_main_cst_8
  generalize val_main_v48 (F := Ideal) x1 x2 = y
  rw [Host.reduce_eq_fold_single _ _ _ _ (by decide), ← lowest]
  show Finset.fold max (Ideal.ofBits .f32 0xFF800000#32) _ _ = _
  refine congrArg (fun f => Finset.fold max (Ideal.ofBits .f32 0xFF800000#32) f Finset.univ) (funext fun k => ?_)
  exact congrArg y (funext fun a => Fin.ext (by
    match a with | ⟨0, _⟩ => rfl | ⟨1, _⟩ => rfl | ⟨2, _⟩ => rfl | ⟨3, _⟩ => rfl | ⟨4, _⟩ => rfl | ⟨5, _⟩ => rfl))

theorem top_at : val_main_v54 (F := Ideal) x0 x1 x2 (ix6 b n g j q 0)
    = (max (val_main_v51 (F := Ideal) x1 x2 (ix5 b n g j q) : EReal) (x0 (ix1 (headOf g j)) : EReal) : EReal) := by
  rw [val_main_v54_apply, val_main_v53_apply, val_main_v50_apply, val_main_v49_apply, val_main_v52_apply]
  generalize val_main_v51 (F := Ideal) x1 x2 = y
  refine congrArg₂ (max : EReal → EReal → EReal) (congrArg y (funext fun a => ?_)) (congrArg x0 (funext fun a => ?_))
  · match a with | ⟨0, _⟩ => rfl | ⟨1, _⟩ => rfl | ⟨2, _⟩ => rfl | ⟨3, _⟩ => rfl | ⟨4, _⟩ => rfl
  · match a with
    | ⟨0, _⟩ => exact Fin.ext (by show g.val * 4 + j.val = 4 * g.val + j.val; omega)

theorem largest_at : val_main_v54 (F := Ideal) x0 x1 x2 (ix6 b n g j q 0)
    = Cert.Swa.largest2 (fun k => val_main_v48 (F := Ideal) x1 x2 (ix6 b n g j q (both 0 k)))
        (fun k => val_main_v48 (F := Ideal) x1 x2 (ix6 b n g j q (both 1 k))) (x0 (ix1 (headOf g j))) := by
  rw [top_at, max_at, max_both]
  rfl

theorem exp_at (k : Fin 256) : val_main_v57 (F := Ideal) x0 x1 x2 (ix6 b n g j q k)
    = Ideal.exp (val_main_v48 (F := Ideal) x1 x2 (ix6 b n g j q k) - val_main_v54 (F := Ideal) x0 x1 x2 (ix6 b n g j q 0)) := by
  unfold val_main_v57 val_main_v56 val_main_v55
  generalize val_main_v54 (F := Ideal) x0 x1 x2 = y
  generalize val_main_v48 (F := Ideal) x1 x2 = z
  pointwise

theorem sum_at : val_main_v58 (F := Ideal) x0 x1 x2 (ix5 b n g j q) = ∑ k, val_main_v57 (F := Ideal) x0 x1 x2 (ix6 b n g j q k) := by
  rw [val_main_v58_apply, val_main_cst_9_apply]
  show Ideal.ofBits .f32 0#32 + _ = _
  rw [Ideal.ofBits_zero_f32, zero_add]
  refine Finset.sum_congr rfl fun k _ => ?_
  generalize val_main_v57 (F := Ideal) x0 x1 x2 = y
  exact congrArg y (funext fun a => by
    match a with | ⟨0, _⟩ => rfl | ⟨1, _⟩ => rfl | ⟨2, _⟩ => rfl | ⟨3, _⟩ => rfl | ⟨4, _⟩ => rfl | ⟨5, _⟩ => rfl)

theorem total_at : val_main_v63 (F := Ideal) x0 x1 x2 (ix6 b n g j q 0)
    = val_main_v58 (F := Ideal) x0 x1 x2 (ix5 b n g j q)
        + Ideal.exp (x0 (ix1 (headOf g j)) - val_main_v54 (F := Ideal) x0 x1 x2 (ix6 b n g j q 0)) := by
  unfold val_main_v63 val_main_v62 val_main_v61 val_main_v59
  generalize val_main_v54 (F := Ideal) x0 x1 x2 = y
  generalize val_main_v58 (F := Ideal) x0 x1 x2 = z
  pointwise [val_main_v60, val_main_v50, val_main_v49]
  simp only [headOf, Nat.mul_comm 4]

/-- The values of the block before: none, for block 0. -/
def prevValue (k : Fin 128) (d : Fin 64) : EReal := if n.val = 0 then 0 else x3 (ix4 b (place (before n) k) g d)

theorem ref_at (d : Fin 64) : val_main_v72 (F := Ideal) x0 x1 x2 x3 x4
      (ix2 (⟨64 * (4 * g + j) + d, by omega⟩ : Fin 1024) (⟨2048 * b + (128 * n + q), by omega⟩ : Fin 16384))
    = Cert.Swa.refCell (fun k => prevValue x3 b n g k d) (fun k => x3 (ix4 b (place n k) g d))
        (Cert.Swa.maskedPrev q (n.val = 0) (score x1 x2 b n g j q (before n)))
        (Cert.Swa.maskedCur q (score x1 x2 b n g j q n)) (x0 (ix1 (headOf g j)))
        (x4 (ix3 b (place n q) (⟨64 * (4 * g + j) + d, by omega⟩ : Fin 1024))) := by
  rw [out_at, sum_both, total_at, sum_at, sum_both]
  simp only [exp_at, largest_at, prev_at, cur_at, keys_prev, keys_cur]
  rfl

end Cert.ReferenceIdeal.Swa

end
-- ==== Proof.Swa.Finite.lean ====
/- What the precondition says: the sinks, the queries and the keys are real numbers. -/
module

public import proofs.«01_k».proof.Pre_finite
public import Idealize.ShloMosaic.Lib.Pointwise

@[expose] public section

noncomputable section

namespace Cert.Swa

open Cert.Pre_finite Idealize.ShloMosaic

instance finiteFacts : Cert.Pre_finite.Facts where
  shapeCasts_S8x2048x16x64_S8x2048x4x4x64 := by decide
  shapeCasts_S16_S1x1x4x4x1 := by decide
  bcast_S_S8x2048x4x4x64 := by decide
  bcast_S8x2048x4x64_S8x2048x4x1x64_0_1_2_4 := by decide
  bcast_S_S8x2048x4x1x64 := by decide
  bcast_S8x2048x4x1x64_S8x2048x4x4x64_0_1_2_3_4 := by decide
  bcast_S_S1x1x4x4x1 := by decide
  bcast_S1x1x4x4x1_S8x2048x4x4x64_0_1_2_3_4 := by decide

theorem highest : Ideal.ofBits .f32 0x7F800000#32 = ⊤ := by simp [Ideal.ofBits, Ideal.ieee]

/-- The sinks, queries and keys are real numbers. -/
structure Reals (x0 : FVec Ideal S16 .f32) (x1 : FVec Ideal S8x2048x16x64 .f32) (x2 : FVec Ideal S8x2048x4x64 .f32)
    (t : Fin 16 → ℝ) (ρ : Fin 8 → Fin 2048 → Fin 16 → Fin 64 → ℝ) (κ : Fin 8 → Fin 2048 → Fin 4 → Fin 64 → ℝ) : Prop where
  sink : ∀ h, x0 (ix1 h) = (t h : EReal)
  query : ∀ b s h e, x1 (ix4 b s h e) = (ρ b s h e : EReal)
  key : ∀ b s g e, x2 (ix4 b s g e) = (κ b s g e : EReal)

theorem absf_real (x : EReal) (h : max x (-x) < ⊤) : x = (x.toReal : EReal) := by
  induction x using EReal.rec with
  | bot => simp at h
  | coe a => rfl
  | top => simp at h

theorem both_true (p r : Prop) [Decidable p] [Decidable r] (h : IntOp.andi (BitVec.ofBool (decide p)) (BitVec.ofBool (decide r)) = 1#1) :
    p ∧ r := by
  by_cases hp : p <;> by_cases hr : r <;> simp_all [IntOp.andi]

theorem three_true (p r u : Prop) [Decidable p] [Decidable r] [Decidable u]
    (h : IntOp.andi (IntOp.andi (BitVec.ofBool (decide p)) (BitVec.ofBool (decide r))) (BitVec.ofBool (decide u)) = 1#1) :
    p ∧ r ∧ u := by
  by_cases hp : p <;> by_cases hr : r <;> by_cases hu : u <;> simp_all [IntOp.andi]

theorem finite_at (x0 : FVec Ideal S16 .f32) (x1 : FVec Ideal S8x2048x16x64 .f32) (x2 x3 : FVec Ideal S8x2048x4x64 .f32)
    (x4 : FVec Ideal S8x2048x1024 .f32) (h : Cert.Pre_finite.fn (F := Ideal) x0 x1 x2 x3 x4 = fun _ => 1#1)
    (b : Fin 8) (s : Fin 2048) (g j : Fin 4) (e : Fin 64) :
    (max (x1 (ix4 b s (⟨g * 4 + j, by omega⟩ : Fin 16) e) : EReal) (-(x1 (ix4 b s (⟨g * 4 + j, by omega⟩ : Fin 16) e) : EReal)) < ⊤)
      ∧ (max (x2 (ix4 b s g e) : EReal) (-(x2 (ix4 b s g e) : EReal)) < ⊤)
      ∧ (max (x0 (ix1 (⟨g * 4 + j, by omega⟩ : Fin 16)) : EReal) (-(x0 (ix1 (⟨g * 4 + j, by omega⟩ : Fin 16)) : EReal)) < ⊤) := by
  have h1 := congrFun h (ix5 b s g j e)
  unfold Cert.Pre_finite.fn at h1
  rw [← highest]
  apply three_true
  rw [← h1]
  symm
  pointwise
  rfl

theorem reals_of_finite (x0 : FVec Ideal S16 .f32) (x1 : FVec Ideal S8x2048x16x64 .f32) (x2 x3 : FVec Ideal S8x2048x4x64 .f32)
    (x4 : FVec Ideal S8x2048x1024 .f32) (hf : Cert.Pre_finite.fn (F := Ideal) x0 x1 x2 x3 x4 = fun _ => 1#1) :
    Reals x0 x1 x2 (fun h => (x0 (ix1 h) : EReal).toReal) (fun b s h e => (x1 (ix4 b s h e) : EReal).toReal)
      (fun b s g e => (x2 (ix4 b s g e) : EReal).toReal) := by
  have split : ∀ h : Fin 16, ∃ g j : Fin 4, h = ⟨g * 4 + j, by omega⟩ := fun h =>
    ⟨⟨h / 4, by omega⟩, ⟨h % 4, by omega⟩, Fin.ext (by show h.val = h.val / 4 * 4 + h.val % 4; omega)⟩
  refine ⟨fun h => ?_, fun b s h e => ?_, fun b s g e => ?_⟩
  · obtain ⟨g, j, rfl⟩ := split h
    exact absf_real _ (finite_at x0 x1 x2 x3 x4 hf 0 0 g j 0).2.2
  · obtain ⟨g, j, rfl⟩ := split h
    exact absf_real _ (finite_at x0 x1 x2 x3 x4 hf b s g j e).1
  · exact absf_real _ (finite_at x0 x1 x2 x3 x4 hf b s g 0 e).2.1

end Cert.Swa

end
-- ==== Proof.Swa.Equal.lean ====
/- The kernel's array is the reference's, when the sinks, the queries and the keys are real. -/
module

public import proofs.«01_k».proof.Proof.Swa.OperandsRead
public import proofs.«01_k».proof.Proof.Swa.RefRead
public import proofs.«01_k».proof.Proof.Swa.Finite

@[expose] public section

noncomputable section

namespace Cert.Swa

open Cert.KernelIdeal Cert.KernelIdeal.Gen Cert.KernelIdeal.Swa Idealize.ShloMosaic Idealize.ShloMosaic.TcCoe Idealize.SL.Sem
open Cert.ReferenceIdeal.Swa (place before headOf score)

/-- Block `n` of sequence `b`, among all blocks. -/
def blk (b : Fin 8) (n : Fin 16) : Fin 128 := ⟨16 * b + n, by omega⟩

theorem seq_tok (b : Fin 8) (n : Fin 16) (q : Fin 128) : seqOf (tok (blk b n) q) = b :=
  Fin.ext (by show (128 * (16 * b.val + n.val) + q.val) / 2048 = b.val; omega)

theorem pos_tok (b : Fin 8) (n : Fin 16) (q : Fin 128) : posOf (tok (blk b n) q) = place n q :=
  Fin.ext (by show (128 * (16 * b.val + n.val) + q.val) % 2048 = 128 * n.val + q.val; omega)

theorem seq_before (b : Fin 8) (n : Fin 16) (k : Fin 128) (h : ¬ n.val = 0) : seqOf (tokBefore (blk b n) k) = b :=
  Fin.ext (by show (128 * (16 * b.val + n.val - 1) + k.val) / 2048 = b.val; omega)

theorem pos_before (b : Fin 8) (n : Fin 16) (k : Fin 128) (h : ¬ n.val = 0) : posOf (tokBefore (blk b n) k) = place (before n) k :=
  Fin.ext (by show (128 * (16 * b.val + n.val - 1) + k.val) % 2048 = 128 * (n.val - 1) + k.val; omega)

theorem head_eq (g j : Fin 4) : Cert.KernelIdeal.Swa.head g j = headOf g j := by
  apply Fin.ext
  show _ = 4 * g.val + j.val
  rfl

/-- The real scores: the products' sum, an eighth of it. -/
theorem score_real (κ ρ : Fin 64 → ℝ) :
    (∑ e, (κ e : EReal) * (ρ e : EReal)) * ((1 / 8 : ℝ) : EReal) = (((∑ e, κ e * ρ e) * (1 / 8) : ℝ) : EReal) := by
  rw [EReal.coe_mul, ← coe_sum]
  simp only [EReal.coe_mul]

/-- The kernel's scores are the real ones over the logarithm of two. -/
theorem scaled_real (κ ρ : Fin 64 → ℝ) :
    ∑ e, (κ e : EReal) * Ideal.div ((ρ e : EReal) * ((1 / 8 : ℝ) : EReal)) (Real.log 2 : ℝ)
      = (((∑ e, κ e * ρ e) * (1 / 8) : ℝ) : EReal) * ((log2e : ℝ) : EReal) := by
  have h : ∀ e, (κ e : EReal) * Ideal.div ((ρ e : EReal) * ((1 / 8 : ℝ) : EReal)) (Real.log 2 : ℝ)
      = ((κ e * ρ e * (1 / 8) * log2e : ℝ) : EReal) := by
    intro e
    rw [← EReal.coe_mul, Ideal.div_coe (Real.log_pos one_lt_two).ne', ← EReal.coe_mul, ← EReal.coe_mul]
    congr 1
    unfold log2e
    ring
  simp only [h]
  rw [coe_sum, ← EReal.coe_mul, ← Finset.sum_mul, ← Finset.sum_mul]

theorem window_real (q : Fin 128) (first : Prop) [Decidable first] (up uc : Fin 128 → ℝ) :
    window q (fun k => (up k : EReal) * (log2e : EReal)) (fun k => (uc k : EReal) * (log2e : EReal)) (if first then ⊥ else 0)
      = fun k => inside q first up uc k * (log2e : EReal) := by
  funext k
  unfold window inside
  by_cases hk : q < k <;> by_cases hf : first <;> simp [hk, hf, bot_mul_log2e]

theorem cell_eq (x0 : FVec Ideal S16 .f32) (x1 : FVec Ideal S8x2048x16x64 .f32) (x2 x3 : FVec Ideal S8x2048x4x64 .f32)
    (x4 : FVec Ideal S8x2048x1024 .f32) (Q : Vec Ideal S1024x16384 .bf16) (K : Vec Ideal S4x16384x64 .bf16)
    (W : Vec Ideal S256x16384 .bf16) (G : Vec Ideal S1024x16384 .bf16)
    (t : Fin 16 → ℝ) (ρ : Fin 8 → Fin 2048 → Fin 16 → Fin 64 → ℝ) (κ : Fin 8 → Fin 2048 → Fin 4 → Fin 64 → ℝ)
    (real : Reals x0 x1 x2 t ρ κ)
    (hQ : ∀ h d T, Q (ix2 (rowOf h d) T) = Ideal.div (x1 (ix4 (seqOf T) (posOf T) h d) * ((1 / 8 : ℝ) : EReal)) (Real.log 2 : ℝ))
    (hK : ∀ g T d, K (ix3 g T d) = x2 (ix4 (seqOf T) (posOf T) g d))
    (hW : ∀ g T d, W (ix2 (valOf g d) T) = x3 (ix4 (seqOf T) (posOf T) g d))
    (hG : ∀ r T, G (ix2 r T) = x4 (ix3 (seqOf T) (posOf T) r))
    (b : Fin 8) (n : Fin 16) (g j : Fin 4) (d : Fin 64) (q : Fin 128) :
    arrayCell x0 Q K W G g j d (blk b n) q
      = refCell (fun k => Cert.ReferenceIdeal.Swa.prevValue x3 b n g k d) (fun k => x3 (ix4 b (place n k) g d))
        (maskedPrev q (n.val = 0) (score x1 x2 b n g j q (before n)))
        (maskedCur q (score x1 x2 b n g j q n)) (x0 (ix1 (headOf g j)))
        (x4 (ix3 b (place n q) (rowOf (headOf g j) d))) := by
  have hlog : Named.named (F := Ideal) (φ := .f32) Cert.KernelIdeal.κ "log2e" 0x3FB8AA3B#32 = ((log2e : ℝ) : EReal) :=
    IdealRules.named_const.ideal_named_scalar _ _ _ _ rfl
  have hfirst : ((blk b n).val % 16 = 0) ↔ n.val = 0 := by show (16 * b.val + n.val) % 16 = 0 ↔ _; omega
  let up : Fin 128 → ℝ := fun k => (∑ e, κ (seqOf (tokBefore (blk b n) k)) (posOf (tokBefore (blk b n) k)) g e
    * ρ b (place n q) (headOf g j) e) * (1 / 8)
  let uc : Fin 128 → ℝ := fun k => (∑ e, κ b (place n k) g e * ρ b (place n q) (headOf g j) e) * (1 / 8)
  unfold arrayCell
  simp only [hQ, hK, hW, hG, hlog, head_eq, seq_tok, pos_tok, real.sink, real.query, real.key, scaled_real, hfirst]
  rw [window_real q (n.val = 0) up uc]
  rw [kernelCell_eq_refCell q (n.val = 0) up uc (t (headOf g j)) _ (fun k => Cert.ReferenceIdeal.Swa.prevValue x3 b n g k d)]
  · congr 1
    · funext k
      unfold maskedPrev
      by_cases hk : q < k ∧ ¬ n.val = 0
      · rw [if_pos hk, if_pos hk]
        unfold score
        simp only [real.query, real.key, score_real]
        simp only [up, seq_before b n k hk.2, pos_before b n k hk.2]
      · rw [if_neg hk, if_neg hk]
    · funext k
      unfold maskedCur score
      simp only [real.query, real.key, score_real]
      rfl
  · intro hn
    funext k
    unfold Cert.ReferenceIdeal.Swa.prevValue
    rw [if_neg hn, seq_before b n k hn, pos_before b n k hn]

/-- Every index of the result is row `d` of a head and query `q` of a block. -/
theorem result_index (y : S1024x16384.Idx) : ∃ (b : Fin 8) (n : Fin 16) (g j : Fin 4) (d : Fin 64) (q : Fin 128),
    y = ix2 (rowOf (headOf g j) d) (tok (blk b n) q) := by
  have h0 : (y 0).val < 1024 := (y 0).isLt
  have h1 : (y 1).val < 16384 := (y 1).isLt
  refine ⟨⟨(y 1).val / 2048, by omega⟩, ⟨(y 1).val / 128 % 16, by omega⟩, ⟨(y 0).val / 256, by omega⟩, ⟨(y 0).val / 64 % 4, by omega⟩,
    ⟨(y 0).val % 64, by omega⟩, ⟨(y 1).val % 128, by omega⟩, funext fun a => ?_⟩
  fin_cases a
  · exact Fin.ext (by show (y 0).val = 64 * (4 * ((y 0).val / 256) + (y 0).val / 64 % 4) + (y 0).val % 64; omega)
  · exact Fin.ext (by show (y 1).val = 128 * (16 * ((y 1).val / 2048) + (y 1).val / 128 % 16) + (y 1).val % 128; omega)

theorem array_eq_ref (m : (ℓ : Loc nD τ sig) → Buf (Elt Ideal) ℓ) (c : Dev nD)
    (t : Fin 16 → ℝ) (ρ : Fin 8 → Fin 2048 → Fin 16 → Fin 64 → ℝ) (κ : Fin 8 → Fin 2048 → Fin 4 → Fin 64 → ℝ)
    (real : Reals (m ((c.tc : Thread nD τ).loc main_arg0)) (m ((c.tc : Thread nD τ).loc main_arg1))
      (m ((c.tc : Thread nD τ).loc main_arg2)) t ρ κ) :
    (Gen.dats m 0 c).arrAt 7 cfg0.N
      = Cert.ReferenceIdeal.Read.val_main_v72 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [array_eq]
  refine funext fun (y : S1024x16384.Idx) => ?_
  obtain ⟨b, n, g, j, d, q, rfl⟩ := result_index y
  rw [← head_eq, arrayOut_apply, V_main_arg0]
  rw [cell_eq _ _ _ (m ((c.tc : Thread nD τ).loc main_arg3)) (m ((c.tc : Thread nD τ).loc main_arg4)) _ _ _ _ t ρ κ real
    (query_at m c) (key_at m c) (value_at m c) (gate_at m c) b n g j d q]
  have ht : tok (blk b n) q = (⟨2048 * b + (128 * n + q), by omega⟩ : Fin 16384) :=
    Fin.ext (by show 128 * (16 * b.val + n.val) + q.val = 2048 * b.val + (128 * n.val + q.val); omega)
  rw [ht, head_eq]
  exact (Cert.ReferenceIdeal.Swa.ref_at _ _ _ _ _ b n g j q d).symm

end Cert.Swa

end
-- ==== Proof.Trunk.Norm.lean ====
/- The normalisation of the trunk's rows, and the mixing of the two branches, over the extended reals. -/
module

public import Idealize.ShloMosaic.Lib.Pointwise

@[expose] public section

noncomputable section

namespace Cert.Trunk

open Idealize.ShloMosaic

/-- The factor that normalises a row: one over the root of its mean square and a small number. -/
def factor (y : Fin 1024 → EReal) : EReal :=
  Ideal.rsqrt (Ideal.div (∑ e, y e * y e) (Ideal.ofBits .f32 0x44800000#32) + Ideal.ofBits .f32 0x358637BD#32)

/-- A row, normalised and scaled by the gains. -/
def normed (y g : Fin 1024 → EReal) (d : Fin 1024) : EReal := y d * factor y * g d

/-- One output of the mixing of the main and the memory branch. -/
def mixed (a : Fin 1024 → EReal) (b : Fin 512 → EReal) (w : Fin 1536 → EReal) : EReal :=
  (∑ e : Fin 1024, a e * w ⟨e, by omega⟩) + ∑ e : Fin 512, b e * w ⟨1024 + e, by omega⟩

/-- The branches laid side by side. -/
def joined (a : Fin 1024 → EReal) (b : Fin 512 → EReal) (e : Fin 1536) : EReal :=
  if h : e.val < 1024 then a ⟨e, h⟩ else b ⟨e - 1024, by omega⟩

/-- The mixing is one product with the branches laid side by side. -/
theorem mixed_eq (a : Fin 1024 → EReal) (b : Fin 512 → EReal) (w : Fin 1536 → EReal) :
    ∑ e : Fin 1536, joined a b e * w e = mixed a b w := by
  rw [show (∑ e : Fin 1536, joined a b e * w e) = ∑ e : Fin (1024 + 512), joined a b e * w e from rfl, Fin.sum_univ_add]
  unfold mixed joined
  refine congrArg₂ (· + ·) (Finset.sum_congr rfl fun e _ => ?_) (Finset.sum_congr rfl fun e _ => ?_)
  · rw [dif_pos (by simp)]
    rfl
  · rw [dif_neg (by simp)]
    refine congrArg₂ (· * ·) (congrArg b (Fin.ext (by simp))) (congrArg w (Fin.ext (by simp)))

/-- The sequence of token `T`. -/
def seqOf (T : Fin 16384) : Fin 8 := ⟨T / 2048, by omega⟩

/-- The position of token `T` in its sequence. -/
def posOf (T : Fin 16384) : Fin 2048 := ⟨T % 2048, by omega⟩

end Cert.Trunk

end
-- ==== Proof.Trunk.OutBody.lean ====
/- What the last call's body stores, at an index. -/
module

public import proofs.«01_k».proof.Proof.Trunk.Norm
public import proofs.«01_k».proof.Proof.Gen.OutKernelIdeal.Value
public import Idealize.ShloMosaic.Lib.Pipeline.ValueKit

@[expose] public section

noncomputable section

namespace Cert.OutKernelIdeal.Trunk

open Cert.OutKernelIdeal Cert.OutKernelIdeal.Gen Cert.Trunk Idealize.ShloMosaic Idealize.ShloMosaic.TcCoe Idealize.SL.Sem

section

variable {F : FTy → Type} [FloatOps F]

/-- The product of the two branches with the weights. -/
def product (a : Vec F S1024x1024 .bf16) (w : Vec F S1x1024x1024 .bf16) (b : Vec F S1024x512 .bf16)
    (u : Vec F S1x512x1024 .bf16) : FVec F S1024x1024 .f32 :=
  have a' : FVec F S1024x1024 .bf16 := shapeCast S1024x1024 a shapeCasts_S1024x1024_S1024x1024
  have w' : FVec F S1024x1024 .bf16 := shapeCast S1024x1024 w shapeCasts_S1x1024x1024_S1024x1024
  have b' : FVec F S1024x512 .bf16 := shapeCast S1024x512 b shapeCasts_S1024x512_S1024x512
  have u' : FVec F S512x1024 .bf16 := shapeCast S512x1024 u shapeCasts_S1x512x1024_S512x1024
  addf (matmul dot_S1024x1024_S1024x1024_S1024x1024_0_0_1_1_n_n none a' w' (constant S1024x1024 .f32 0x00000000#32))
    (matmul dot_S1024x512_S512x1024_S1024x1024_1_0_0_1_n_n none b' u' (constant S1024x1024 .f32 0x00000000#32))

/-- The residual with the normalised product added. -/
def added (y : FVec F S1024x1024 .f32) (h : Vec F S1024x1024 .f32) (g : Vec F S1x1024 .f32) : FVec F S1024x1024 .f32 :=
  have h' : FVec F S1024x1024 .f32 := shapeCast S1024x1024 h shapeCasts_S1024x1024_S1024x1024
  have g' : FVec F S1x1024 .f32 := shapeCast S1x1024 g shapeCasts_S1x1024_S1x1024
  addf h' (mulf (mulf y (broadcastTo S1024x1024 (rsqrt (addf (divf (shapeCast S1024x1
          (multiReduction .add [1] S1024 (mulf y y) 0x00000000#32 reduces_S1024x1024_S1024 (.inl rfl) rfl) shapeCasts_S1024_S1024x1)
        (broadcast S1024x1 (Scalar.ofBits .f32 0x44800000#32))) (broadcast S1024x1 (Scalar.ofBits .f32 0x358637BD#32))))
        broadcasts_S1024x1_S1024x1024))
      (broadcastTo S1024x1024 g' broadcasts_S1x1024_S1024x1024))

theorem pay_eq (a : Vec F S1024x1024 .bf16) (w : Vec F S1x1024x1024 .bf16) (b : Vec F S1024x512 .bf16)
    (u : Vec F S1x512x1024 .bf16) (h : Vec F S1024x1024 .f32) (g : Vec F S1x1024 .f32) :
    k0_pay1 a w b u h g = added (product a w b u) h g := rfl

end

theorem product_apply (a : Vec Ideal S1024x1024 .bf16) (w : Vec Ideal S1x1024x1024 .bf16) (b : Vec Ideal S1024x512 .bf16)
    (u : Vec Ideal S1x512x1024 .bf16) (r d : Fin 1024) : product a w b u (ix2 r d)
      = (∑ e : Fin 1024, a (ix2 e r) * w (ix3 0 e d)) + ∑ e : Fin 512, b (ix2 r e) * u (ix3 0 e d) := by
  pointwise [product]

theorem added_apply (y : FVec Ideal S1024x1024 .f32) (h : Vec Ideal S1024x1024 .f32) (g : Vec Ideal S1x1024 .f32) (r d : Fin 1024) :
    added y h g (ix2 r d) = h (ix2 r d) + normed (fun e => y (ix2 r e)) (fun e => g (ix2 0 e)) d := by
  pointwise [added]
  rfl

end Cert.OutKernelIdeal.Trunk

end
-- ==== Proof.Trunk.OutArray.lean ====
/- The array that the last call leaves. -/
module

public import proofs.«01_k».proof.Proof.Trunk.OutBody

@[expose] public section

noncomputable section

namespace Cert.OutKernelIdeal.Trunk

open Cert.OutKernelIdeal Cert.OutKernelIdeal.Gen Cert.Trunk Idealize.ShloMosaic Idealize.ShloMosaic.TcCoe Idealize.SL.Sem

/-- What the body leaves in a block, at row `r` and column `d`. -/
theorem out_apply (x0 : Vec Ideal S1024x1024 .bf16) (x1 : Vec Ideal S1024x512 .bf16) (x2 : Vec Ideal S1x1536x1024 .bf16)
    (x3 : Vec Ideal S1x1024 .f32) (x4 : Vec Ideal S1024x1024 .f32) (r d : Fin 1024) : out0_5 x0 x1 x2 x3 x4 (ix2 r d)
      = x4 (ix2 r d) + normed (fun d => mixed (fun e => x0 (ix2 e r)) (fun e => x1 (ix2 r e)) (fun e => x2 (ix3 0 e d)))
          (fun e => x3 (ix2 0 e)) d := by
  have hw : ∀ e d : Fin 1024, View.ld x2 r0_1 (ix3 0 e d) = x2 (ix3 0 (⟨e, by omega⟩ : Fin 1536) d) := fun e d =>
    View.ld_unit_apply_of x2 _ _ _ _ _ fun a => by fin_cases a <;> simp <;> rfl
  have hu : ∀ (e : Fin 512) (d : Fin 1024), View.ld x2 r0_3 (ix3 0 e d) = x2 (ix3 0 (⟨1024 + e, by omega⟩ : Fin 1536) d) := fun e d =>
    View.ld_unit_apply_of x2 _ _ _ _ _ fun a => by fin_cases a <;> simp <;> rfl
  have zero : (![0, 0] : Fin 2 → Nat) = fun _ => 0 := by decide
  unfold out0_5
  rw [View.canon_unit_zero zero, View.ld_unit_zero zero, View.ld_unit_zero zero, View.ld_unit_zero zero,
    View.ld_unit_zero zero, pay_eq, added_apply]
  simp only [product_apply, hw, hu]
  rfl

/-- Row `r` of block `t`. -/
def rowAt (t : Fin grid0.N) (r : Fin 1024) : Fin 16384 := ⟨1024 * t + r, by have : t.val < 16 := t.isLt; omega⟩

theorem idx0 : ∀ t : Fin grid0.N, win0_0.index t = ![0, t.val] := by decide +kernel
theorem idx1 : ∀ t : Fin grid0.N, win0_1.index t = ![t.val, 0] := by decide +kernel
theorem idx2 : ∀ t : Fin grid0.N, win0_2.index t = ![1, 0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel

variable (m : (ℓ : Loc nD τ sig) → Buf (Elt Ideal) ℓ) (c : Dev nD) (t : Fin cfg0.N)

theorem blk0 (e r : Fin 1024) : iblk m c 0 t (ix2 e r) = (V m c main_v2 : Vec Ideal S1024x16384 .bf16) (ix2 e (rowAt t r)) := by
  blk_simp [iblk]
  refine congrArg (V m c main_v2 : Vec Ideal S1024x16384 .bf16) ?_
  blk_ext [idx0, rowAt]

theorem blk1 (r : Fin 1024) (e : Fin 512) :
    iblk m c 1 t (ix2 r e) = (V m c main_v7 : Vec Ideal S16384x512 .bf16) (ix2 (rowAt t r) e) := by
  blk_simp [iblk]
  refine congrArg (V m c main_v7 : Vec Ideal S16384x512 .bf16) ?_
  blk_ext [idx1, rowAt]

theorem blk2 (e : Fin 1536) (d : Fin 1024) :
    iblk m c 2 t (ix3 0 e d) = (V m c main_v8 : Vec Ideal S2x1536x1024 .bf16) (ix3 1 e d) := by
  blk_simp [iblk]
  refine congrArg (V m c main_v8 : Vec Ideal S2x1536x1024 .bf16) ?_
  blk_ext [idx2]

theorem blk3 (d : Fin 1024) : iblk m c 3 t (ix2 0 d) = (V m c main_v5 : Vec Ideal S1x1024 .f32) (ix2 0 d) := by
  blk_simp [iblk]
  refine congrArg (V m c main_v5 : Vec Ideal S1x1024 .f32) ?_
  blk_ext [idx3]

theorem blk4 (r d : Fin 1024) : iblk m c 4 t (ix2 r d) = (V m c main_v9 : Vec Ideal S16384x1024 .f32) (ix2 (rowAt t r) d) := by
  blk_simp [iblk]
  refine congrArg (V m c main_v9 : Vec Ideal S16384x1024 .f32) ?_
  blk_ext [idx4, rowAt]

theorem emb_out (r d : Fin 1024) : ((win0_5.blk t).view.emb (ix2 r d) : S16384x1024.Idx) = ix2 (rowAt t r) d := by
  blk_ext [idx5, rowAt]

theorem main_apply (x : FVec Ideal S8x2048x1024 .f32) (e : Fin 1024) (T : Fin 16384) :
    (truncf .bf16 (transpose S1024x16384 [1, 0] (shapeCast S16384x1024 x
      shapeCasts_S8x2048x1024_S16384x1024) transposes_S16384x1024_S1024x16384_1_0) bitsLt_bf16_f32 : FVec Ideal S1024x16384 .bf16) (ix2 e T) = x (ix3 (seqOf T) (posOf T) e) := by
  pointwise
  rfl

theorem mem_apply (x : FVec Ideal S8x2048x512 .f32) (T : Fin 16384) (e : Fin 512) :
    (truncf .bf16 (shapeCast S16384x512 x
      shapeCasts_S8x2048x512_S16384x512) bitsLt_bf16_f32 : FVec Ideal S16384x512 .bf16) (ix2 T e) = x (ix3 (seqOf T) (posOf T) e) := by
  pointwise
  rfl

theorem gains_apply (x : FVec Ideal S4x1024 .f32) (d : Fin 1024) :
    (shapeCast S1x1024 (shapeCast S1024 (extractStridedSlice S1x1024 ![3, 0]
      x slices_S4x1024_S1x1024_3_0) shapeCasts_S1x1024_S1024) shapeCasts_S1024_S1x1024
      : FVec Ideal S1x1024 .f32) (ix2 0 d) = x (ix2 3 d) := by
  pointwise

theorem residual_apply (x : FVec Ideal S8x2048x1024 .f32) (T : Fin 16384) (d : Fin 1024) :
    (shapeCast S16384x1024 x shapeCasts_S8x2048x1024_S16384x1024
      : FVec Ideal S16384x1024 .f32) (ix2 T d) = x (ix3 (seqOf T) (posOf T) d) := by
  pointwise
  rfl

theorem operand_main (e : Fin 1024) (T : Fin 16384) :
    (V m c main_v2 : Vec Ideal S1024x16384 .bf16) (ix2 e T) = m ((c.tc : Thread nD τ).loc main_arg0) (ix3 (seqOf T) (posOf T) e) := by
  rw [show V m c main_v2 = (truncf .bf16 (transpose S1024x16384 [1, 0] (shapeCast S16384x1024 (m ((c.tc : Thread nD τ).loc main_arg0))
      shapeCasts_S8x2048x1024_S16384x1024) transposes_S16384x1024_S1024x16384_1_0) bitsLt_bf16_f32 : FVec Ideal S1024x16384 .bf16)
    by with_unfolding_all rfl]
  exact main_apply _ e T

theorem operand_mem (T : Fin 16384) (e : Fin 512) :
    (V m c main_v7 : Vec Ideal S16384x512 .bf16) (ix2 T e) = m ((c.tc : Thread nD τ).loc main_arg1) (ix3 (seqOf T) (posOf T) e) := by
  rw [show V m c main_v7 = (truncf .bf16 (shapeCast S16384x512 (m ((c.tc : Thread nD τ).loc main_arg1))
      shapeCasts_S8x2048x512_S16384x512) bitsLt_bf16_f32 : FVec Ideal S16384x512 .bf16) by with_unfolding_all rfl]
  exact mem_apply _ T e

theorem operand_weights (e : Fin 1536) (d : Fin 1024) :
    (V m c main_v8 : Vec Ideal S2x1536x1024 .bf16) (ix3 1 e d) = m ((c.tc : Thread nD τ).loc main_arg2) (ix3 1 e d) := by
  rw [show V m c main_v8 = (truncf .bf16 (m ((c.tc : Thread nD τ).loc main_arg2)) bitsLt_bf16_f32 : FVec Ideal S2x1536x1024 .bf16)
    by with_unfolding_all rfl]
  rfl

theorem operand_gains (d : Fin 1024) : (V m c main_v5 : Vec Ideal S1x1024 .f32) (ix2 0 d) = m ((c.tc : Thread nD τ).loc main_arg3) (ix2 3 d) := by
  rw [show V m c main_v5 = (shapeCast S1x1024 (shapeCast S1024 (extractStridedSlice S1x1024 ![3, 0]
      (m ((c.tc : Thread nD τ).loc main_arg3)) slices_S4x1024_S1x1024_3_0) shapeCasts_S1x1024_S1024) shapeCasts_S1024_S1x1024
      : FVec Ideal S1x1024 .f32) by with_unfolding_all rfl]
  exact gains_apply _ d

theorem operand_residual (T : Fin 16384) (d : Fin 1024) :
    (V m c main_v9 : Vec Ideal S16384x1024 .f32) (ix2 T d) = m ((c.tc : Thread nD τ).loc main_arg4) (ix3 (seqOf T) (posOf T) d) := by
  rw [show V m c main_v9 = (shapeCast S16384x1024 (m ((c.tc : Thread nD τ).loc main_arg4)) shapeCasts_S8x2048x1024_S16384x1024
      : FVec Ideal S16384x1024 .f32) by with_unfolding_all rfl]
  exact residual_apply _ T d

/-- The residual stream's new value, from the call's arguments. -/
def arrayOut (x0 : FVec Ideal S8x2048x1024 .f32) (x1 : FVec Ideal S8x2048x512 .f32) (x2 : FVec Ideal S2x1536x1024 .f32)
    (x3 : FVec Ideal S4x1024 .f32) (x4 : FVec Ideal S8x2048x1024 .f32) : FVec Ideal S16384x1024 .f32 := fun y =>
  x4 (ix3 (seqOf (y 0)) (posOf (y 0)) (y 1))
    + normed (fun d => mixed (fun e => x0 (ix3 (seqOf (y 0)) (posOf (y 0)) e)) (fun e => x1 (ix3 (seqOf (y 0)) (posOf (y 0)) e))
          (fun e => x2 (ix3 1 e d))) (fun e => x3 (ix2 3 e)) (y 1)

/-- THE ARRAY THE CALL LEAVES. -/
theorem array_eq : (Gen.dats m 0 c).arrAt 5 cfg0.N = arrayOut (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) := by
  refine (dats m 0 c).arrAt_eq_of_covers 5 _ (by decide +kernel) fun t hf y => ?_
  blk_simp
  rw [after0_5]
  obtain ⟨r, d, rfl⟩ : ∃ r d : Fin 1024, y = ix2 r d := ⟨y 0, y 1, funext fun a => by fin_cases a <;> rfl⟩
  rw [emb_out, out_apply]
  simp only [blk0, blk1, blk2, blk3, blk4]
  exact congrArg₂ (· + ·) (operand_residual m c (rowAt t r) d) (congrArg₂ (fun y g => normed y g d)
    (funext fun d => congr (congrArg₂ mixed (funext fun e => operand_main m c e (rowAt t r)) (funext fun e => operand_mem m c (rowAt t r) e))
      (funext fun e => operand_weights m c e d)) (funext fun e => operand_gains m c e))

end Cert.OutKernelIdeal.Trunk

end
-- ==== Proof.Trunk.OutRef.lean ====
/- What the last call's reference computes, at an index. -/
module

public import proofs.«01_k».proof.Proof.Trunk.Norm
public import proofs.«01_k».proof.Proof.Gen.OutReferenceIdeal.Read

@[expose] public section

noncomputable section

namespace Cert.OutReferenceIdeal.Trunk

open Cert.OutReferenceIdeal Cert.OutReferenceIdeal.Read Cert.Trunk Idealize.ShloMosaic

variable (x0 : FVec Ideal S8x2048x1024 .f32) (x1 : FVec Ideal S8x2048x512 .f32) (x2 : FVec Ideal S2x1536x1024 .f32)
  (x3 : FVec Ideal S4x1024 .f32) (x4 : FVec Ideal S8x2048x1024 .f32)

theorem joined_at (b : Fin 8) (s : Fin 2048) (e : Fin 1536) :
    val_main_v0 (F := Ideal) x0 x1 (ix3 b s e) = joined (fun e => x0 (ix3 b s e)) (fun e => x1 (ix3 b s e)) e := by
  unfold joined
  pointwise [val_main_v0]

theorem product_at (b : Fin 8) (s : Fin 2048) (d : Fin 1024) :
    val_main_v3 (F := Ideal) x0 x1 x2 (ix3 b s d)
      = mixed (fun e => x0 (ix3 b s e)) (fun e => x1 (ix3 b s e)) (fun e => x2 (ix3 1 e d)) := by
  rw [← mixed_eq]
  have h : ∀ e, joined (fun e => x0 (ix3 b s e)) (fun e => x1 (ix3 b s e)) e = val_main_v0 (F := Ideal) x0 x1 (ix3 b s e) := fun e =>
    (joined_at x0 x1 b s e).symm
  simp only [h]
  unfold val_main_v3
  generalize val_main_v0 (F := Ideal) x0 x1 = y
  pointwise [val_main_v2, val_main_v1]

theorem normed_at (y : FVec Ideal S8x2048x1024 .f32) (b : Fin 8) (s : Fin 2048) (d : Fin 1024) (h : y = val_main_v3 (F := Ideal) x0 x1 x2) :
    val_main_v18 (F := Ideal) x0 x1 x2 x3 (ix3 b s d) = normed (fun e => y (ix3 b s e)) (fun e => x3 (ix2 3 e)) d := by
  unfold val_main_v18 val_main_v15 val_main_v14 val_main_v13 val_main_v12 val_main_v10 val_main_v8 val_main_v7 val_main_v6
  rw [← h]
  pointwise [val_main_v17, val_main_v16, val_main_v5, val_main_v4, val_main_v11, val_main_v9, val_main_cst, val_main_cst_0, val_main_cst_1]
  rfl

theorem out_at (T : Fin 16384) (d : Fin 1024) :
    val_main_v20 (F := Ideal) x0 x1 x2 x3 x4 (ix2 T d) = x4 (ix3 (seqOf T) (posOf T) d)
      + normed (fun d => mixed (fun e => x0 (ix3 (seqOf T) (posOf T) e)) (fun e => x1 (ix3 (seqOf T) (posOf T) e))
          (fun e => x2 (ix3 1 e d))) (fun e => x3 (ix2 3 e)) d := by
  simp only [← product_at]
  rw [← normed_at x0 x1 x2 x3 _ (seqOf T) (posOf T) d rfl]
  unfold val_main_v20 val_main_v19
  generalize val_main_v18 (F := Ideal) x0 x1 x2 x3 = y
  pointwise
  rfl

end Cert.OutReferenceIdeal.Trunk

end
-- ==== Proof.Trunk.OutEqual.lean ====
/- The last projection's call and its reference give the same array. -/
module

public import proofs.«01_k».proof.Proof.Trunk.OutArray
public import proofs.«01_k».proof.Proof.Trunk.OutRef

@[expose] public section

noncomputable section

namespace Cert.Trunk

open Idealize.ShloMosaic Idealize.ShloMosaic.TcCoe Idealize.SL.Sem

variable (m : (ℓ : Loc Cert.OutKernelIdeal.nD Cert.OutKernelIdeal.τ Cert.OutKernelIdeal.sig) → Buf (Elt Ideal) ℓ) (c : Dev Cert.OutKernelIdeal.nD)

open Cert.OutKernelIdeal in
theorem array_eq_ref : (Cert.OutKernelIdeal.Gen.dats m 0 c).arrAt 5 Cert.OutKernelIdeal.cfg0.N
    = Cert.OutReferenceIdeal.Read.val_main_v20 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) := by
  rw [Cert.OutKernelIdeal.Trunk.array_eq]
  funext y
  obtain ⟨T, d, rfl⟩ : ∃ (T : Fin 16384) (d : Fin 1024), y = ix2 T d := ⟨y 0, y 1, funext fun a => by fin_cases a <;> rfl⟩
  exact (Cert.OutReferenceIdeal.Trunk.out_at _ _ _ _ _ T d).symm

end Cert.Trunk

end
-- ==== Proof.Trunk.InBody.lean ====
/- What the input projection's body stores, at an index: the stored values as functions of one sub-tile of 256 rows, the
   same functions for both sub-tiles. -/
module

public import proofs.«01_k».proof.Proof.Trunk.Norm
public import proofs.«01_k».proof.Proof.Gen.InKernelIdeal.Frame
public import Idealize.ShloMosaic.Lib.Pipeline.ValueKit

@[expose] public section

noncomputable section

namespace Cert.InKernelIdeal.Trunk

open Cert.InKernelIdeal Cert.InKernelIdeal.Gen Cert.Trunk Idealize.ShloMosaic Idealize.ShloMosaic.TcCoe Idealize.SL.Sem

section

variable {F : FTy → Type} [FloatOps F] [Named F]

theorem slices_head (hh : Fin 4) : S256x512.Slices ![0, 128 * hh.val] S256x128 :=
  match hh with
  | 0 => slices_S256x512_o0_0_S256x128
  | 1 => slices_S256x512_o0_128_S256x128
  | 2 => slices_S256x512_o0_256_S256x128
  | 3 => slices_S256x512_o0_384_S256x128

/-- The queries of memory head `hh`. -/
def queryOf (q : FVec F S256x512 .bf16) (hh : Fin 4) : FVec F S256x128 .bf16 :=
  extractStridedSlice S256x128 ![0, 128 * hh.val] q (slices_head hh)

/-- The weights of the memory's tokens. -/
def weights (q : FVec F S256x128 .bf16) (k : Vec F S1x1x256x128 .bf16) : FVec F S256x256 .f32 :=
  have k' : FVec F S256x128 .bf16 := shapeCast S256x128 k shapeCasts_S1x1x256x128_S256x128
  have s : FVec F S256x256 .f32 := matmul dot_S256x128_S256x128_S256x256_1_1_0_0_n_n none q k' (constant S256x256 .f32 0x00000000#32)
  exp2 (subf s (broadcastTo S256x256 (shapeCast S256x1
    (multiReduction .maximumf [1] S256 s 0xFF800000#32 reduces_S256x256_S256 (.inl rfl) rfl) shapeCasts_S256_S256x1)
    broadcasts_S256x1_S256x256))

/-- The memory's answer of head `hh`, gated. -/
def readout (gate : FVec F S256x512 .f32) (hh : Fin 4) (q : FVec F S256x128 .bf16) (k v : Vec F S1x1x256x128 .bf16) :
    FVec F S256x128 .bf16 :=
  have v' : FVec F S256x128 .bf16 := shapeCast S256x128 v shapeCasts_S1x1x256x128_S256x128
  truncf .bf16 (mulf (mulf (matmul dot_S256x256_S256x128_S256x128_1_0_0_1_n_n none (truncf .bf16 (weights q k) bitsLt_bf16_f32) v'
        (constant S256x128 .f32 0x00000000#32))
      (broadcastTo S256x128 (divf (broadcast S256x1 (Scalar.ofBits .f32 0x3F800000#32)) (shapeCast S256x1
        (multiReduction .add [1] S256 (weights q k) 0x00000000#32 reduces_S256x256_S256 (.inl rfl) rfl) shapeCasts_S256_S256x1))
        broadcasts_S256x1_S256x128))
    (extractStridedSlice S256x128 ![0, 128 * hh.val] gate (slices_head hh))) bitsLt_bf16_f32

variable (y h : FVec F S256x1024 .f32) (xn : FVec F S256x1024 .bf16) (mq gate : FVec F S256x512 .f32)
  (a : Vec F S256x1024 .bf16) (w : Vec F S1x1024x1024 .bf16) (b : Vec F S256x512 .bf16) (u : Vec F S1x512x1024 .bf16)
  (x : Vec F S256x1024 .f32) (g p : Vec F S1x1024 .f32) (wm : Vec F S1x1024x512 .bf16) (k v : Vec F S1x1x256x128 .bf16)
  (lb mid half : FVec F S1x1024 .f32)

theorem stream_second : k0_pay12 (k0_pay10 a w) (k0_pay11 b) u x g = k0_pay8 (k0_pay6 a w b u) (k0_pay7 x) g := rfl
theorem normed_second : k0_pay13 (k0_pay10 a w) (k0_pay11 b) u x g p = k0_pay9 (k0_pay6 a w b u) (k0_pay7 x) g p := rfl
theorem query_second : k0_pay45 xn w = k0_pay16 xn w := rfl
theorem forget_second : k0_pay61 lb mid half xn w = k0_pay33 lb mid half xn w := rfl
theorem key_second : k0_pay62 half xn w = k0_pay34 half xn w := rfl
theorem value_second : k0_pay1 xn w = k0_pay41 xn w := rfl
theorem gate_first : k0_pay43 xn (k0_pay42 w) (constant S256x1024 .f32 0x00000000#32) = k0_pay16 xn w := rfl
theorem gate_second : k0_pay2 xn w = k0_pay16 xn w := rfl
theorem memGate_second : k0_pay44 xn wm = k0_pay15 xn wm := rfl
theorem memQuery_second : k0_pay46 xn wm = k0_pay17 (k0_pay14 xn wm) := rfl

theorem readout_first_0 : k0_pay35 gate (k0_pay19 mq k) (k0_pay20 mq k) v = readout gate 0 (queryOf (k0_pay17 mq) 0) k v := rfl
theorem readout_first_1 : k0_pay38 gate (k0_pay36 (k0_pay23 (k0_pay21 mq) k) v) (k0_pay37 (k0_pay24 (k0_pay21 mq) k))
    = readout gate 1 (queryOf (k0_pay17 mq) 1) k v := rfl
theorem readout_first_2 : k0_pay39 gate (k0_pay26 (k0_pay17 mq) k) (k0_pay27 (k0_pay17 mq) k) v
    = readout gate 2 (queryOf (k0_pay17 mq) 2) k v := rfl
theorem readout_first_3 : k0_pay40 gate (k0_pay29 (k0_pay17 mq) k)
      (k0_pay31 (k0_pay30 (k0_pay17 mq) k) (Scalar.ofBits .f32 0x3F800000#32)) v
    = readout gate 3 (queryOf (k0_pay17 mq) 3) k v := rfl
theorem readout_second_0 : k0_pay64 gate (k0_pay49 (k0_pay47 xn wm) k) (k0_pay50 (k0_pay47 xn wm) k) (k0_pay63 v)
    = readout gate 0 (queryOf (k0_pay17 (k0_pay14 xn wm)) 0) k v := rfl
theorem readout_second_1 : k0_pay65 gate (k0_pay52 (k0_pay46 xn wm) k) (k0_pay53 (k0_pay46 xn wm) k) v
    = readout gate 1 (queryOf (k0_pay17 (k0_pay14 xn wm)) 1) k v := rfl
theorem readout_second_2 : k0_pay66 gate (k0_pay55 (k0_pay46 xn wm) k) (k0_pay56 (k0_pay46 xn wm) k) v
    = readout gate 2 (queryOf (k0_pay17 (k0_pay14 xn wm)) 2) k v := rfl
theorem readout_second_3 : k0_pay67 gate (k0_pay58 (k0_pay46 xn wm) k) (k0_pay59 (k0_pay46 xn wm) k) v
    = readout gate 3 (queryOf (k0_pay17 (k0_pay14 xn wm)) 3) k v := rfl

end

/-- The kernel's form of `x` times its logistic. -/
def siluK (x : EReal) : EReal :=
  Ideal.ofBits .f32 0x3F000000#32 * x + Ideal.ofBits .f32 0x3F000000#32 * x * Ideal.tanh (Ideal.ofBits .f32 0x3F000000#32 * x)

section

variable (y h : FVec Ideal S256x1024 .f32) (xn : FVec Ideal S256x1024 .bf16) (mq gate : FVec Ideal S256x512 .f32)
  (a : Vec Ideal S256x1024 .bf16) (w : Vec Ideal S1x1024x1024 .bf16) (b : Vec Ideal S256x512 .bf16) (u : Vec Ideal S1x512x1024 .bf16)
  (x : Vec Ideal S256x1024 .f32) (g p : Vec Ideal S1x1024 .f32) (wm : Vec Ideal S1x1024x512 .bf16) (k v : Vec Ideal S1x1x256x128 .bf16)
  (lb mid half : FVec Ideal S1x1024 .f32) (r : Fin 256) (d : Fin 1024)

theorem product_apply : k0_pay6 a w b u (ix2 r d)
    = (∑ e : Fin 1024, a (ix2 r e) * w (ix3 0 e d)) + ∑ e : Fin 512, b (ix2 r e) * u (ix3 0 e d) := by
  pointwise [k0_pay6]

theorem stream_apply : k0_pay8 y (k0_pay7 x) g (ix2 r d)
    = x (ix2 r d) + normed (fun e => y (ix2 r e)) (fun e => g (ix2 0 e)) d := by
  pointwise [k0_pay8, k0_pay7]
  rfl

theorem xn_apply : k0_pay9 y h g p (ix2 r d) = normed (fun e => k0_pay8 y h g (ix2 r e)) (fun e => p (ix2 0 e)) d := by
  unfold k0_pay9
  generalize k0_pay8 y h g = z
  pointwise
  rfl

theorem value_apply : k0_pay41 xn w (ix2 r d) = ∑ e : Fin 1024, xn (ix2 r e) * w (ix3 0 e d) := by
  pointwise [k0_pay41]

theorem silu_apply : k0_pay16 xn w (ix2 r d) = siluK (∑ e : Fin 1024, xn (ix2 r e) * w (ix3 0 e d)) := by
  pointwise [k0_pay16]
  rfl

theorem slope_apply : k0_pay32 half xn w (ix2 r d)
    = half (ix2 0 d) * Ideal.tanh (Ideal.ofBits .f32 0x3F000000#32 * ∑ e : Fin 1024, xn (ix2 r e) * w (ix3 0 e d)) := by
  pointwise [k0_pay32]

theorem forget_apply : k0_pay33 lb mid half xn w (ix2 r d)
    = Ideal.log (max (mid (ix2 0 d) + k0_pay32 half xn w (ix2 r d)) (lb (ix2 0 d)))
      * Named.named (F := Ideal) (φ := .f32) κ "log2e" 0x3FB8AA3B#32 := by
  unfold k0_pay33
  generalize k0_pay32 half xn w = z
  pointwise

theorem key_apply : k0_pay34 half xn w (ix2 r d) = half (ix2 0 d) - k0_pay32 half xn w (ix2 r d) := by
  unfold k0_pay34
  generalize k0_pay32 half xn w = z
  pointwise

theorem memQuery_apply (c : Fin 512) : k0_pay17 (k0_pay14 xn wm) (ix2 r c)
    = (∑ e : Fin 1024, xn (ix2 r e) * wm (ix3 0 e c)) * Named.named (F := Ideal) (φ := .f32) κ "mem_scale" 0x3E0293EE#32 := by
  pointwise [k0_pay17, k0_pay14]

theorem memGate_apply (c : Fin 512) : k0_pay15 xn wm (ix2 r c) = siluK (∑ e : Fin 1024, xn (ix2 r e) * wm (ix3 0 e c)) := by
  pointwise [k0_pay15]
  rfl

/-- The column of coordinate `d` of memory head `hh`. -/
def memCol (hh : Fin 4) (d : Fin 128) : Fin 512 := ⟨128 * hh + d, by omega⟩

theorem queryOf_apply (q : FVec Ideal S256x512 .bf16) (hh : Fin 4) (d : Fin 128) : queryOf q hh (ix2 r d) = q (ix2 r (memCol hh d)) := by
  unfold memCol
  pointwise [queryOf]

theorem weights_apply (q : FVec Ideal S256x128 .bf16) (j : Fin 256) : weights q k (ix2 r j)
    = Ideal.exp2 ((∑ e : Fin 128, q (ix2 r e) * k (ix4 0 0 j e))
      - Finset.univ.fold max ⊥ fun j : Fin 256 => ∑ e : Fin 128, q (ix2 r e) * k (ix4 0 0 j e)) := by
  pointwise [weights]
  rw [show Ideal.ofBits FTy.f32 4286578688#32 = ⊥ by simp [Ideal.ofBits, Ideal.ieee]]
  rfl

theorem readout_apply (hh : Fin 4) (q : FVec Ideal S256x128 .bf16) (d : Fin 128) : readout gate hh q k v (ix2 r d)
    = (∑ j : Fin 256, weights q k (ix2 r j) * v (ix4 0 0 j d)) * Ideal.div 1 (∑ j : Fin 256, weights q k (ix2 r j))
      * gate (ix2 r (memCol hh d)) := by
  unfold readout
  generalize weights q k = z
  unfold memCol
  pointwise

theorem lb_apply (l : Vec Ideal S3x1024 .f32) : k0_pay3 l (ix2 0 d)
    = Ideal.div (∑ i : Fin 2, Ideal.exp (l (ix2 ⟨i, by omega⟩ d) - Finset.univ.fold max ⊥ fun i : Fin 3 => l (ix2 i d)))
      (∑ i : Fin 3, Ideal.exp (l (ix2 i d) - Finset.univ.fold max ⊥ fun i : Fin 3 => l (ix2 i d))) := by
  pointwise [k0_pay3]
  rw [show Ideal.ofBits FTy.f32 4286578688#32 = ⊥ by simp [Ideal.ofBits, Ideal.ieee]]

theorem mid_apply (l : Vec Ideal S3x1024 .f32) : k0_pay4 l (ix2 0 d) = Ideal.ofBits .f32 0x3F000000#32 * (1 + k0_pay3 l (ix2 0 d)) := by
  unfold k0_pay4
  generalize k0_pay3 l = z
  pointwise

theorem half_apply (l : Vec Ideal S3x1024 .f32) : k0_pay5 l (ix2 0 d) = Ideal.ofBits .f32 0x3F000000#32 * (1 - k0_pay3 l (ix2 0 d)) := by
  unfold k0_pay5
  generalize k0_pay3 l = z
  pointwise

end

end Cert.InKernelIdeal.Trunk

end
-- ==== Proof.Trunk.InBlock.lean ====
/- What the input projection's body leaves in its output blocks, at an index, from the input blocks. -/
module

public import proofs.«01_k».proof.Proof.Trunk.InBody

@[expose] public section

noncomputable section

namespace Cert.InKernelIdeal.Trunk

open Cert.InKernelIdeal Cert.InKernelIdeal.Gen Cert.Trunk Idealize.ShloMosaic Idealize.ShloMosaic.TcCoe Idealize.SL.Sem

/-- Row `r` of the first sub-tile. -/
def lowRow (r : Fin 256) : Fin 512 := ⟨r, by omega⟩

/-- Row `r` of the second sub-tile. -/
def highRow (r : Fin 256) : Fin 512 := ⟨256 + r, by omega⟩

section

variable {e : EltTy}

theorem canon_rows (p1 p0 : Vec Ideal S256x1024 e) (f : Fin 512 → Fin 1024 → Elt Ideal e)
    (h0 : ∀ r d, p0 (ix2 r d) = f (lowRow r) d) (h1 : ∀ r d, p1 (ix2 r d) = f (highRow r) d) (R : Fin 512) (d : Fin 1024) :
    View.canon [⟨r0_6, p1⟩, ⟨r0_1, p0⟩] (ix2 R d) = f R d := by
  refine View.canon_eq_of_allAt _ _ _ (View.cover_of_tiled [⟨r0_6, p1⟩, ⟨r0_1, p0⟩] S256x1024.size (by rfl) _) ?_
  intro pc hpc
  simp only [List.mem_cons, List.not_mem_nil, or_false] at hpc
  rcases hpc with rfl | rfl
  · intro x hx
    obtain ⟨r, c, rfl⟩ : ∃ (r : Fin 256) (c : Fin 1024), x = ix2 r c := ⟨x 0, x 1, funext fun a => by fin_cases a <;> rfl⟩
    have a0 : 256 + r.val = R.val := by simpa using congrArg (fun i : S512x1024.Idx => (i 0).val) hx
    have a1 : c.val = d.val := by simpa using congrArg (fun i : S512x1024.Idx => (i 1).val) hx
    obtain rfl : highRow r = R := Fin.ext a0
    obtain rfl : c = d := Fin.ext a1
    exact h1 r c
  · intro x hx
    obtain ⟨r, c, rfl⟩ : ∃ (r : Fin 256) (c : Fin 1024), x = ix2 r c := ⟨x 0, x 1, funext fun a => by fin_cases a <;> rfl⟩
    have a0 : r.val = R.val := by simpa using congrArg (fun i : S512x1024.Idx => (i 0).val) hx
    have a1 : c.val = d.val := by simpa using congrArg (fun i : S512x1024.Idx => (i 1).val) hx
    obtain rfl : lowRow r = R := Fin.ext a0
    obtain rfl : c = d := Fin.ext a1
    exact h0 r c

theorem canon_heads (p13 p12 p11 p10 p03 p02 p01 p00 : Vec Ideal S256x128 e) (f : Fin 512 → Fin 512 → Elt Ideal e)
    (h00 : ∀ r d, p00 (ix2 r d) = f (lowRow r) (memCol 0 d)) (h01 : ∀ r d, p01 (ix2 r d) = f (lowRow r) (memCol 1 d))
    (h02 : ∀ r d, p02 (ix2 r d) = f (lowRow r) (memCol 2 d)) (h03 : ∀ r d, p03 (ix2 r d) = f (lowRow r) (memCol 3 d))
    (h10 : ∀ r d, p10 (ix2 r d) = f (highRow r) (memCol 0 d)) (h11 : ∀ r d, p11 (ix2 r d) = f (highRow r) (memCol 1 d))
    (h12 : ∀ r d, p12 (ix2 r d) = f (highRow r) (memCol 2 d)) (h13 : ∀ r d, p13 (ix2 r d) = f (highRow r) (memCol 3 d))
    (R : Fin 512) (d : Fin 512) :
    View.canon [⟨r0_25, p13⟩, ⟨r0_24, p12⟩, ⟨r0_23, p11⟩, ⟨r0_22, p10⟩, ⟨r0_19, p03⟩, ⟨r0_18, p02⟩, ⟨r0_17, p01⟩, ⟨r0_16, p00⟩]
      (ix2 R d) = f R d := by
  refine View.canon_eq_of_allAt _ _ _ (View.cover_of_tiled [⟨r0_25, p13⟩, ⟨r0_24, p12⟩, ⟨r0_23, p11⟩, ⟨r0_22, p10⟩, ⟨r0_19, p03⟩,
    ⟨r0_18, p02⟩, ⟨r0_17, p01⟩, ⟨r0_16, p00⟩] S256x128.size (by rfl) _) ?_
  have key : ∀ (o0 o1 : Nat) (inb : ∀ a : Fin 2, (![o0, o1] : Fin 2 → Nat) a + S256x128.size a ≤ S512x512.size a) (p : Vec Ideal S256x128 e)
      (rowOf : Fin 256 → Fin 512) (hh : Fin 4) (_ : ∀ r, (rowOf r).val = o0 + r.val) (_ : o1 = 128 * hh.val)
      (_ : ∀ r d, p (ix2 r d) = f (rowOf r) (memCol hh d)) (x : S256x128.Idx)
      (_ : (Rect.unit (s := S512x512) ![o0, o1] S256x128.size inb).emb x = ix2 R d), p x = f R d := by
    intro o0 o1 inb p rowOf hh hr ho hp x hx
    obtain ⟨r, c, rfl⟩ : ∃ (r : Fin 256) (c : Fin 128), x = ix2 r c := ⟨x 0, x 1, funext fun a => by fin_cases a <;> rfl⟩
    have a0 : o0 + r.val = R.val := by simpa using congrArg (fun i : S512x512.Idx => (i 0).val) hx
    have a1 : o1 + c.val = d.val := by simpa using congrArg (fun i : S512x512.Idx => (i 1).val) hx
    obtain rfl : rowOf r = R := Fin.ext ((hr r).trans a0)
    obtain rfl : memCol hh c = d := Fin.ext (by simp only [memCol]; omega)
    exact hp r c
  intro pc hpc
  simp only [List.mem_cons, List.not_mem_nil, or_false] at hpc
  rcases hpc with rfl | rfl | rfl | rfl | rfl | rfl | rfl | rfl
  · exact key _ _ inb_S512x512_S256x128_256_384 _ highRow 3 (fun _ => rfl) rfl h13
  · exact key _ _ inb_S512x512_S256x128_256_256 _ highRow 2 (fun _ => rfl) rfl h12
  · exact key _ _ inb_S512x512_S256x128_256_128 _ highRow 1 (fun _ => rfl) rfl h11
  · exact key _ _ inb_S512x512_S256x128_256_0 _ highRow 0 (fun _ => rfl) rfl h10
  · exact key _ _ inb_S512x512_S256x128_0_384 _ lowRow 3 (fun _ => (Nat.zero_add _).symm) rfl h03
  · exact key _ _ inb_S512x512_S256x128_0_256 _ lowRow 2 (fun _ => (Nat.zero_add _).symm) rfl h02
  · exact key _ _ inb_S512x512_S256x128_0_128 _ lowRow 1 (fun _ => (Nat.zero_add _).symm) rfl h01
  · exact key _ _ inb_S512x512_S256x128_0_0 _ lowRow 0 (fun _ => (Nat.zero_add _).symm) rfl h00

end

section

variable (x0 : Vec Ideal S512x1024 .f32) (x1 : Vec Ideal S512x1024 .bf16) (x2 : Vec Ideal S512x512 .bf16)
  (x3 : Vec Ideal S1x1536x1024 .bf16) (x4 : Vec Ideal S1x1024 .f32) (x5 : Vec Ideal S1x1024 .f32) (x6 : Vec Ideal S1x1024x5120 .bf16)
  (x7 : Vec Ideal S3x1024 .f32) (x8 : Vec Ideal S1x1x256x512 .bf16) (x9 : Vec Ideal S1x1x256x512 .bf16)

/-- The residual stream of row `R` after the layer before. -/
def blkStream (R : Fin 512) (d : Fin 1024) : EReal :=
  x0 (ix2 R d) + normed (fun d => mixed (fun e => x1 (ix2 R e)) (fun e => x2 (ix2 R e)) (fun e => x3 (ix3 0 e d)))
    (fun e => x4 (ix2 0 e)) d

/-- The layer's normalised input of row `R`. -/
def blkInput (R : Fin 512) : Fin 1024 → EReal := normed (blkStream x0 x1 x2 x3 x4 R) (fun e => x5 (ix2 0 e))

/-- The projection of row `R`, column `c`. -/
def blkProj (R : Fin 512) (c : Fin 5120) : EReal := ∑ e : Fin 1024, blkInput x0 x1 x2 x3 x4 x5 R e * x6 (ix3 0 e c)

section

variable (r : Fin 256) (d : Fin 1024)

theorem ld_low (e : EltTy) (x : Vec Ideal S512x1024 e) : View.ld x r0_1 (ix2 r d) = x (ix2 (lowRow r) d) := by
  unfold lowRow
  exact View.ld_unit_apply_of x _ _ _ _ _ fun a => by fin_cases a <;> simp <;> rfl

theorem ld_high (e : EltTy) (x : Vec Ideal S512x1024 e) : View.ld x r0_6 (ix2 r d) = x (ix2 (highRow r) d) := by
  unfold highRow
  exact View.ld_unit_apply_of x _ _ _ _ _ fun a => by fin_cases a <;> simp <;> rfl

theorem ld_lowMem (c : Fin 512) : View.ld x2 r0_3 (ix2 r c) = x2 (ix2 (lowRow r) c) := by
  unfold lowRow
  exact View.ld_unit_apply_of x2 _ _ _ _ _ fun a => by fin_cases a <;> simp <;> rfl

theorem ld_highMem (c : Fin 512) : View.ld x2 r0_7 (ix2 r c) = x2 (ix2 (highRow r) c) := by
  unfold highRow
  exact View.ld_unit_apply_of x2 _ _ _ _ _ fun a => by fin_cases a <;> simp <;> rfl

theorem ld_main (e : Fin 1024) : View.ld x3 r0_2 (ix3 0 e d) = x3 (ix3 0 ⟨e, by omega⟩ d) :=
  View.ld_unit_apply_of x3 _ _ _ _ _ fun a => by fin_cases a <;> simp <;> rfl

theorem ld_mem (e : Fin 512) : View.ld x3 r0_4 (ix3 0 e d) = x3 (ix3 0 ⟨1024 + e, by omega⟩ d) :=
  View.ld_unit_apply_of x3 _ _ _ _ _ fun a => by fin_cases a <;> simp <;> rfl

theorem ld_gain (x : Vec Ideal S1x1024 .f32) : View.ld x r0_5 = x := View.ld_unit_zero (by decide) _ _

theorem ld_logits : View.ld x7 r0_0 = x7 := View.ld_unit_zero (by decide) _ _

theorem ld_query (e : Fin 1024) : View.ld x6 r0_10 (ix3 0 e d) = x6 (ix3 0 e ⟨d, by omega⟩) :=
  View.ld_unit_apply_of x6 _ _ _ _ _ fun a => by fin_cases a <;> simp <;> rfl

theorem ld_forget (e : Fin 1024) : View.ld x6 r0_15 (ix3 0 e d) = x6 (ix3 0 e ⟨1024 + d, by omega⟩) :=
  View.ld_unit_apply_of x6 _ _ _ _ _ fun a => by fin_cases a <;> simp <;> rfl

theorem ld_value (e : Fin 1024) : View.ld x6 r0_20 (ix3 0 e d) = x6 (ix3 0 e ⟨2048 + d, by omega⟩) :=
  View.ld_unit_apply_of x6 _ _ _ _ _ fun a => by fin_cases a <;> simp <;> rfl

theorem ld_gate (e : Fin 1024) : View.ld x6 r0_21 (ix3 0 e d) = x6 (ix3 0 e ⟨3072 + d, by omega⟩) :=
  View.ld_unit_apply_of x6 _ _ _ _ _ fun a => by fin_cases a <;> simp <;> rfl

theorem ld_memQuery (e : Fin 1024) (c : Fin 512) : View.ld x6 r0_8 (ix3 0 e c) = x6 (ix3 0 e ⟨4096 + c, by omega⟩) :=
  View.ld_unit_apply_of x6 _ _ _ _ _ fun a => by fin_cases a <;> simp <;> rfl

theorem ld_memGate (e : Fin 1024) (c : Fin 512) : View.ld x6 r0_9 (ix3 0 e c) = x6 (ix3 0 e ⟨4608 + c, by omega⟩) :=
  View.ld_unit_apply_of x6 _ _ _ _ _ fun a => by fin_cases a <;> simp <;> rfl

theorem ld_head0 (x : Vec Ideal S1x1x256x512 .bf16) (j : Fin 256) (c : Fin 128) :
    View.ld x r0_11 (ix4 0 0 j c) = x (ix4 0 0 j (memCol 0 c)) := by
  unfold memCol
  exact View.ld_unit_apply_of x _ _ _ _ _ fun a => by fin_cases a <;> simp <;> rfl

theorem ld_head1 (x : Vec Ideal S1x1x256x512 .bf16) (j : Fin 256) (c : Fin 128) :
    View.ld x r0_12 (ix4 0 0 j c) = x (ix4 0 0 j (memCol 1 c)) := by
  unfold memCol
  exact View.ld_unit_apply_of x _ _ _ _ _ fun a => by fin_cases a <;> simp <;> rfl

theorem ld_head2 (x : Vec Ideal S1x1x256x512 .bf16) (j : Fin 256) (c : Fin 128) :
    View.ld x r0_13 (ix4 0 0 j c) = x (ix4 0 0 j (memCol 2 c)) := by
  unfold memCol
  exact View.ld_unit_apply_of x _ _ _ _ _ fun a => by fin_cases a <;> simp <;> rfl

theorem ld_head3 (x : Vec Ideal S1x1x256x512 .bf16) (j : Fin 256) (c : Fin 128) :
    View.ld x r0_14 (ix4 0 0 j c) = x (ix4 0 0 j (memCol 3 c)) := by
  unfold memCol
  exact View.ld_unit_apply_of x _ _ _ _ _ fun a => by fin_cases a <;> simp <;> rfl

end

/-! ## The stream and the layer's input -/

theorem stream_of (w : Vec Ideal S1x1024x1024 .bf16) (u : Vec Ideal S1x512x1024 .bf16) (a : Vec Ideal S256x1024 .bf16) (b : Vec Ideal S256x512 .bf16) (x : Vec Ideal S256x1024 .f32)
    (r : Fin 256) (R : Fin 512) (ha : ∀ e, a (ix2 r e) = x1 (ix2 R e)) (hb : ∀ e, b (ix2 r e) = x2 (ix2 R e))
    (hx : ∀ d, x (ix2 r d) = x0 (ix2 R d)) (hw : ∀ (d e : Fin 1024), w (ix3 0 e d) = x3 (ix3 0 ⟨e, by omega⟩ d))
    (hu : ∀ (d : Fin 1024) (e : Fin 512), u (ix3 0 e d) = x3 (ix3 0 ⟨1024 + e, by omega⟩ d)) (d : Fin 1024) :
    k0_pay8 (k0_pay6 a w b u) (k0_pay7 x) (View.ld x4 r0_5) (ix2 r d)
      = blkStream x0 x1 x2 x3 x4 R d := by
  rw [ld_gain, stream_apply]
  simp only [product_apply, ha, hb, hx, hw, hu]
  rfl

theorem stream_low (r : Fin 256) (d : Fin 1024) :
    k0_pay8 (k0_pay71 x0 x1 x2 x3 x4 x5 x6 x7 x8 x9) (k0_pay72 x0 x1 x2 x3 x4 x5 x6 x7 x8 x9) (View.ld x4 r0_5) (ix2 r d)
      = blkStream x0 x1 x2 x3 x4 (lowRow r) d := by
  unfold k0_pay71 k0_pay72
  exact stream_of x0 x1 x2 x3 x4 _ _ _ _ _ r _ (fun e => ld_low r e _ x1) (fun e => ld_lowMem x2 r e) (fun e => ld_low r e _ x0) (ld_main x3) (ld_mem x3) d

theorem stream_high (r : Fin 256) (d : Fin 1024) :
    k0_pay12 (k0_pay74 x0 x1 x2 x3 x4 x5 x6 x7 x8 x9) (k0_pay75 x0 x1 x2 x3 x4 x5 x6 x7 x8 x9) (View.ld x3 r0_4) (View.ld x0 r0_6)
        (View.ld x4 r0_5) (ix2 r d) = blkStream x0 x1 x2 x3 x4 (highRow r) d := by
  unfold k0_pay74 k0_pay75
  rw [stream_second]
  exact stream_of x0 x1 x2 x3 x4 _ _ _ _ _ r _ (fun e => ld_high r e _ x1) (fun e => ld_highMem x2 r e) (fun e => ld_high r e _ x0) (ld_main x3) (ld_mem x3) d

theorem input_low (r : Fin 256) (d : Fin 1024) : k0_pay73 x0 x1 x2 x3 x4 x5 x6 x7 x8 x9 (ix2 r d)
    = blkInput x0 x1 x2 x3 x4 x5 (lowRow r) d := by
  unfold k0_pay73
  rw [xn_apply]
  simp only [stream_low]
  rw [ld_gain]
  rfl

theorem input_high (r : Fin 256) (d : Fin 1024) : k0_pay76 x0 x1 x2 x3 x4 x5 x6 x7 x8 x9 (ix2 r d)
    = blkInput x0 x1 x2 x3 x4 x5 (highRow r) d := by
  have h := stream_high x0 x1 x2 x3 x4 x5 x6 x7 x8 x9 r
  unfold k0_pay76
  unfold k0_pay74 k0_pay75 at h ⊢
  rw [stream_second] at h
  rw [normed_second, xn_apply]
  simp only [h]
  rw [ld_gain]
  rfl

/-! ## The output blocks -/

theorem proj_of (xn : FVec Ideal S256x1024 .bf16) (w : Vec Ideal S1x1024x1024 .bf16) (r : Fin 256) (d : Fin 1024) (R : Fin 512)
    (c : Fin 5120) (hxn : ∀ e, xn (ix2 r e) = blkInput x0 x1 x2 x3 x4 x5 R e) (hw : ∀ e : Fin 1024, w (ix3 0 e d) = x6 (ix3 0 e c)) :
    (∑ e : Fin 1024, xn (ix2 r e) * w (ix3 0 e d)) = blkProj x0 x1 x2 x3 x4 x5 x6 R c := by
  simp only [hxn, hw]
  rfl

theorem out_stream (R : Fin 512) (d : Fin 1024) : out0_10 x0 x1 x2 x3 x4 x5 x6 x7 x8 x9 (ix2 R d) = blkStream x0 x1 x2 x3 x4 R d := by
  unfold out0_10
  exact canon_rows (e := .f32) _ _ (fun R d => blkStream x0 x1 x2 x3 x4 R d) (stream_low x0 x1 x2 x3 x4 x5 x6 x7 x8 x9)
    (stream_high x0 x1 x2 x3 x4 x5 x6 x7 x8 x9) R d

theorem out_query (R : Fin 512) (d : Fin 1024) : out0_11 x0 x1 x2 x3 x4 x5 x6 x7 x8 x9 (ix2 R d)
    = siluK (blkProj x0 x1 x2 x3 x4 x5 x6 R ⟨d, by omega⟩) := by
  unfold out0_11
  refine canon_rows (e := .bf16) _ _ (fun R d => siluK (blkProj x0 x1 x2 x3 x4 x5 x6 R ⟨d, by omega⟩)) (fun r d => ?_) (fun r d => ?_) R d
  · rw [silu_apply]; rw [proj_of x0 x1 x2 x3 x4 x5 x6 _ _ r d _ _ (input_low x0 x1 x2 x3 x4 x5 x6 x7 x8 x9 r) (ld_query x6 d)]
  · rw [query_second, silu_apply]; rw [proj_of x0 x1 x2 x3 x4 x5 x6 _ _ r d _ _ (input_high x0 x1 x2 x3 x4 x5 x6 x7 x8 x9 r) (ld_query x6 d)]

/-- The forget gate's logarithm in base two, as the kernel computes it. -/
def forgetK (lb x : EReal) : EReal :=
  Ideal.log (max (Ideal.ofBits .f32 0x3F000000#32 * (1 + lb)
      + Ideal.ofBits .f32 0x3F000000#32 * (1 - lb) * Ideal.tanh (Ideal.ofBits .f32 0x3F000000#32 * x)) lb)
    * Named.named (F := Ideal) (φ := .f32) κ "log2e" 0x3FB8AA3B#32

/-- The key, as the kernel computes it. -/
def keyK (lb x : EReal) : EReal :=
  Ideal.ofBits .f32 0x3F000000#32 * (1 - lb)
    - Ideal.ofBits .f32 0x3F000000#32 * (1 - lb) * Ideal.tanh (Ideal.ofBits .f32 0x3F000000#32 * x)

theorem out_forget (R : Fin 512) (d : Fin 1024) : out0_12 x0 x1 x2 x3 x4 x5 x6 x7 x8 x9 (ix2 R d)
    = forgetK (k0_pay3 x7 (ix2 0 d)) (blkProj x0 x1 x2 x3 x4 x5 x6 R ⟨1024 + d, by omega⟩) := by
  unfold out0_12 k0_pay68 k0_pay69 k0_pay70
  rw [ld_logits]
  refine canon_rows (e := .f32) _ _ (fun R d => forgetK (k0_pay3 x7 (ix2 0 d)) (blkProj x0 x1 x2 x3 x4 x5 x6 R ⟨1024 + d, by omega⟩))
    (fun r d => ?_) (fun r d => ?_) R d
  · rw [forget_apply, slope_apply, mid_apply, half_apply]; rw [proj_of x0 x1 x2 x3 x4 x5 x6 _ _ r d _ _ (input_low x0 x1 x2 x3 x4 x5 x6 x7 x8 x9 r) (ld_forget x6 d)]; rfl
  · rw [forget_second, forget_apply, slope_apply, mid_apply, half_apply]; rw [proj_of x0 x1 x2 x3 x4 x5 x6 _ _ r d _ _ (input_high x0 x1 x2 x3 x4 x5 x6 x7 x8 x9 r) (ld_forget x6 d)]; rfl

theorem out_key (R : Fin 512) (d : Fin 1024) : out0_13 x0 x1 x2 x3 x4 x5 x6 x7 x8 x9 (ix2 R d)
    = keyK (k0_pay3 x7 (ix2 0 d)) (blkProj x0 x1 x2 x3 x4 x5 x6 R ⟨1024 + d, by omega⟩) := by
  unfold out0_13 k0_pay70
  rw [ld_logits]
  refine canon_rows (e := .bf16) _ _ (fun R d => keyK (k0_pay3 x7 (ix2 0 d)) (blkProj x0 x1 x2 x3 x4 x5 x6 R ⟨1024 + d, by omega⟩))
    (fun r d => ?_) (fun r d => ?_) R d
  · rw [key_apply, slope_apply, half_apply]; rw [proj_of x0 x1 x2 x3 x4 x5 x6 _ _ r d _ _ (input_low x0 x1 x2 x3 x4 x5 x6 x7 x8 x9 r) (ld_forget x6 d)]; rfl
  · rw [key_second, key_apply, slope_apply, half_apply]; rw [proj_of x0 x1 x2 x3 x4 x5 x6 _ _ r d _ _ (input_high x0 x1 x2 x3 x4 x5 x6 x7 x8 x9 r) (ld_forget x6 d)]; rfl

theorem out_value (R : Fin 512) (d : Fin 1024) : out0_14 x0 x1 x2 x3 x4 x5 x6 x7 x8 x9 (ix2 R d)
    = blkProj x0 x1 x2 x3 x4 x5 x6 R ⟨2048 + d, by omega⟩ := by
  unfold out0_14
  refine canon_rows (e := .bf16) _ _ (fun R d => blkProj x0 x1 x2 x3 x4 x5 x6 R ⟨2048 + d, by omega⟩) (fun r d => ?_) (fun r d => ?_) R d
  · rw [value_apply]; rw [proj_of x0 x1 x2 x3 x4 x5 x6 _ _ r d _ _ (input_low x0 x1 x2 x3 x4 x5 x6 x7 x8 x9 r) (ld_value x6 d)]
  · rw [value_second, value_apply]; rw [proj_of x0 x1 x2 x3 x4 x5 x6 _ _ r d _ _ (input_high x0 x1 x2 x3 x4 x5 x6 x7 x8 x9 r) (ld_value x6 d)]

theorem out_gate (R : Fin 512) (d : Fin 1024) : out0_15 x0 x1 x2 x3 x4 x5 x6 x7 x8 x9 (ix2 R d)
    = siluK (blkProj x0 x1 x2 x3 x4 x5 x6 R ⟨3072 + d, by omega⟩) := by
  unfold out0_15
  refine canon_rows (e := .bf16) _ _ (fun R d => siluK (blkProj x0 x1 x2 x3 x4 x5 x6 R ⟨3072 + d, by omega⟩)) (fun r d => ?_) (fun r d => ?_) R d
  · rw [gate_first, silu_apply]; rw [proj_of x0 x1 x2 x3 x4 x5 x6 _ _ r d _ _ (input_low x0 x1 x2 x3 x4 x5 x6 x7 x8 x9 r) (ld_gate x6 d)]
  · rw [gate_second, silu_apply]
    rw [proj_of x0 x1 x2 x3 x4 x5 x6 _ _ r d _ _ (input_high x0 x1 x2 x3 x4 x5 x6 x7 x8 x9 r) (ld_gate x6 d)]

/-- The memory's answer to one query of one head, as the kernel computes it: scores `s`, values `v`, the gate's input `x`. -/
def memoryK (s v : Fin 256 → EReal) (x : EReal) : EReal :=
  (∑ j, Ideal.exp2 (s j - Finset.univ.fold max ⊥ s) * v j) * Ideal.div 1 (∑ j, Ideal.exp2 (s j - Finset.univ.fold max ⊥ s)) * siluK x

/-- The score of memory token `j` for row `R` and head `hh`, in base two. -/
def blkScore (R : Fin 512) (hh : Fin 4) (j : Fin 256) : EReal :=
  ∑ e : Fin 128, blkProj x0 x1 x2 x3 x4 x5 x6 R ⟨4096 + memCol hh e, by omega⟩
      * Named.named (F := Ideal) (φ := .f32) κ "mem_scale" 0x3E0293EE#32 * x8 (ix4 0 0 j (memCol hh e))

theorem memory_of (xn : FVec Ideal S256x1024 .bf16) (wq wg : Vec Ideal S1x1024x512 .bf16) (k v : Vec Ideal S1x1x256x128 .bf16) (hh : Fin 4) (r : Fin 256) (R : Fin 512)
    (hwq : ∀ e (c : Fin 512), wq (ix3 0 e c) = x6 (ix3 0 e ⟨4096 + c, by omega⟩))
    (hwg : ∀ e (c : Fin 512), wg (ix3 0 e c) = x6 (ix3 0 e ⟨4608 + c, by omega⟩))
    (hxn : ∀ e, xn (ix2 r e) = blkInput x0 x1 x2 x3 x4 x5 R e) (hk : ∀ j c, k (ix4 0 0 j c) = x8 (ix4 0 0 j (memCol hh c)))
    (hv : ∀ j c, v (ix4 0 0 j c) = x9 (ix4 0 0 j (memCol hh c))) (d : Fin 128) :
    readout (k0_pay15 xn wg) hh (queryOf (k0_pay17 (k0_pay14 xn wq)) hh) k v (ix2 r d)
      = memoryK (blkScore x0 x1 x2 x3 x4 x5 x6 x8 R hh) (fun j => x9 (ix4 0 0 j (memCol hh d)))
          (blkProj x0 x1 x2 x3 x4 x5 x6 R ⟨4608 + memCol hh d, by omega⟩) := by
  rw [readout_apply]
  simp only [weights_apply, queryOf_apply, memQuery_apply, memGate_apply, hxn, hk, hv, hwq, hwg]
  rfl

/-- The memory head a column belongs to, and the column in the head. -/
def headOf (c : Fin 512) : Fin 4 := ⟨c / 128, by omega⟩

theorem headOf_memCol (hh : Fin 4) (d : Fin 128) : headOf (memCol hh d) = hh := Fin.ext (by simp only [headOf, memCol]; omega)

theorem out_memory (R : Fin 512) (d : Fin 512) : out0_16 x0 x1 x2 x3 x4 x5 x6 x7 x8 x9 (ix2 R d)
    = memoryK (blkScore x0 x1 x2 x3 x4 x5 x6 x8 R (headOf d)) (fun j => x9 (ix4 0 0 j d))
        (blkProj x0 x1 x2 x3 x4 x5 x6 R ⟨4608 + d, by omega⟩) := by
  unfold out0_16 k0_pay83 k0_pay82 k0_pay81 k0_pay80 k0_pay79 k0_pay78 k0_pay77
  refine canon_heads (e := .bf16) _ _ _ _ _ _ _ _ (fun R d => memoryK (blkScore x0 x1 x2 x3 x4 x5 x6 x8 R (headOf d))
      (fun j => x9 (ix4 0 0 j d)) (blkProj x0 x1 x2 x3 x4 x5 x6 R ⟨4608 + d, by omega⟩))
    (fun r d => ?_) (fun r d => ?_) (fun r d => ?_) (fun r d => ?_) (fun r d => ?_) (fun r d => ?_) (fun r d => ?_) (fun r d => ?_) R d <;>
    rw [headOf_memCol]
  · rw [readout_first_0]
    exact memory_of x0 x1 x2 x3 x4 x5 x6 x8 x9 _ _ _ _ _ 0 r _ (ld_memQuery x6) (ld_memGate x6) (input_low x0 x1 x2 x3 x4 x5 x6 x7 x8 x9 r) (ld_head0 x8) (ld_head0 x9) d
  · rw [readout_first_1]
    exact memory_of x0 x1 x2 x3 x4 x5 x6 x8 x9 _ _ _ _ _ 1 r _ (ld_memQuery x6) (ld_memGate x6) (input_low x0 x1 x2 x3 x4 x5 x6 x7 x8 x9 r) (ld_head1 x8) (ld_head1 x9) d
  · rw [readout_first_2]
    exact memory_of x0 x1 x2 x3 x4 x5 x6 x8 x9 _ _ _ _ _ 2 r _ (ld_memQuery x6) (ld_memGate x6) (input_low x0 x1 x2 x3 x4 x5 x6 x7 x8 x9 r) (ld_head2 x8) (ld_head2 x9) d
  · rw [readout_first_3]
    exact memory_of x0 x1 x2 x3 x4 x5 x6 x8 x9 _ _ _ _ _ 3 r _ (ld_memQuery x6) (ld_memGate x6) (input_low x0 x1 x2 x3 x4 x5 x6 x7 x8 x9 r) (ld_head3 x8) (ld_head3 x9) d
  · rw [readout_second_0, memGate_second]
    exact memory_of x0 x1 x2 x3 x4 x5 x6 x8 x9 _ _ _ _ _ 0 r _ (ld_memQuery x6) (ld_memGate x6) (input_high x0 x1 x2 x3 x4 x5 x6 x7 x8 x9 r) (ld_head0 x8) (ld_head0 x9) d
  · rw [readout_second_1, memGate_second]
    exact memory_of x0 x1 x2 x3 x4 x5 x6 x8 x9 _ _ _ _ _ 1 r _ (ld_memQuery x6) (ld_memGate x6) (input_high x0 x1 x2 x3 x4 x5 x6 x7 x8 x9 r) (ld_head1 x8) (ld_head1 x9) d
  · rw [readout_second_2, memGate_second]
    exact memory_of x0 x1 x2 x3 x4 x5 x6 x8 x9 _ _ _ _ _ 2 r _ (ld_memQuery x6) (ld_memGate x6) (input_high x0 x1 x2 x3 x4 x5 x6 x7 x8 x9 r) (ld_head2 x8) (ld_head2 x9) d
  · rw [readout_second_3, memGate_second]
    exact memory_of x0 x1 x2 x3 x4 x5 x6 x8 x9 _ _ _ _ _ 3 r _ (ld_memQuery x6) (ld_memGate x6) (input_high x0 x1 x2 x3 x4 x5 x6 x7 x8 x9 r) (ld_head3 x8) (ld_head3 x9) d

end

end Cert.InKernelIdeal.Trunk

end
-- ==== Proof.Trunk.InRow.lean ====
/- The input projection's rows, from the call's arguments. -/
module

public import proofs.«01_k».proof.Proof.Trunk.Norm

@[expose] public section

noncomputable section

namespace Cert.Trunk

open Idealize.ShloMosaic

variable (x0 x1 : FVec Ideal ⟨3, ![8, 2048, 1024]⟩ .f32) (x2 : FVec Ideal ⟨3, ![8, 2048, 512]⟩ .f32)
  (x3 : FVec Ideal ⟨3, ![2, 1536, 1024]⟩ .f32) (x4 x5 : FVec Ideal ⟨2, ![4, 1024]⟩ .f32)
  (x6 : FVec Ideal ⟨3, ![2, 1024, 5120]⟩ .f32) (x8 x9 : FVec Ideal ⟨4, ![4, 8, 256, 512]⟩ .f32)

/-- The residual stream's new value at a token. -/
def rowStream (b : Fin 8) (s : Fin 2048) (d : Fin 1024) : EReal :=
  x0 (ix3 b s d) + normed (fun d => mixed (fun e => x1 (ix3 b s e)) (fun e => x2 (ix3 b s e)) (fun e => x3 (ix3 0 e d)))
    (fun e => x4 (ix2 0 e)) d

/-- The layer's normalised input at a token. -/
def rowInput (b : Fin 8) (s : Fin 2048) : Fin 1024 → EReal := normed (rowStream x0 x1 x2 x3 x4 b s) (fun e => x5 (ix2 1 e))

/-- The projection of a token, column `c`. -/
def rowProj (b : Fin 8) (s : Fin 2048) (c : Fin 5120) : EReal := ∑ e : Fin 1024, rowInput x0 x1 x2 x3 x4 x5 b s e * x6 (ix3 1 e c)

/-- The column of the projection that holds column `d` of the query. -/
def queryCol (d : Fin 1024) : Fin 5120 := ⟨d, by omega⟩

/-- The column of the projection that holds column `d` of the forget gate. -/
def forgetCol (d : Fin 1024) : Fin 5120 := ⟨1024 + d, by omega⟩

/-- The column of the projection that holds column `d` of the value. -/
def valueCol (d : Fin 1024) : Fin 5120 := ⟨2048 + d, by omega⟩

/-- The column of the projection that holds column `d` of the output gate. -/
def gateCol (d : Fin 1024) : Fin 5120 := ⟨3072 + d, by omega⟩

/-- The column of the projection that holds column `d` of the memory query. -/
def memQueryCol (d : Fin 512) : Fin 5120 := ⟨4096 + d, by omega⟩

/-- The column of the projection that holds column `d` of the memory gate. -/
def memGateCol (d : Fin 512) : Fin 5120 := ⟨4608 + d, by omega⟩

/-- Column `e` of memory head `hh`. -/
def headCol (hh : Fin 4) (e : Fin 128) : Fin 512 := ⟨hh * 128 + e, by omega⟩

/-- The memory head of column `c`. -/
def colHead (c : Fin 512) : Fin 4 := ⟨c / 128, by omega⟩

/-- Column `c` within its memory head. -/
def colIn (c : Fin 512) : Fin 128 := ⟨c % 128, by omega⟩

theorem headCol_colIn (c : Fin 512) : headCol (colHead c) (colIn c) = c := Fin.ext (by simp only [headCol, colHead, colIn]; omega)

theorem lowest : Ideal.ofBits .f32 0xFF800000#32 = ⊥ := by simp [Ideal.ofBits, Ideal.ieee]

/-- The value of memory token `j` in column `c`. -/
def memValue (b : Fin 8) (c : Fin 512) (j : Fin 256) : EReal := x9 (ix4 1 b j c)

end Cert.Trunk

end
-- ==== Proof.Trunk.InArray.lean ====
/- The arrays that the input projection leaves. -/
module

public import proofs.«01_k».proof.Proof.Trunk.InBlock
public import proofs.«01_k».proof.Proof.Trunk.InRow

@[expose] public section

noncomputable section

namespace Cert.InKernelIdeal.Trunk

open Cert.InKernelIdeal Cert.InKernelIdeal.Gen Cert.Trunk Idealize.ShloMosaic Idealize.ShloMosaic.TcCoe Idealize.SL.Sem

/-- Row `r` of block `t`. -/
def rowAt (t : Fin grid0.N) (r : Fin 512) : Fin 16384 := ⟨512 * t + r, by have : t.val < 32 := t.isLt; omega⟩

/-- The sequence that block `t` lies in. -/
def seqAt (t : Fin grid0.N) : Fin 8 := ⟨t / 4, by have : t.val < 32 := t.isLt; omega⟩

theorem seqOf_rowAt (t : Fin grid0.N) (r : Fin 512) : seqOf (rowAt t r) = seqAt t :=
  Fin.ext (by simp only [seqOf, seqAt, rowAt]; omega)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![1, 0, 0] := by decide +kernel
theorem idx7 : ∀ t : Fin grid0.N, win0_7.index t = ![0, 0] := by decide +kernel
theorem idx8 : ∀ t : Fin grid0.N, win0_8.index t = ![1, t.val / 4, 0, 0] := by decide +kernel
theorem idx9 : ∀ t : Fin grid0.N, win0_9.index t = ![1, t.val / 4, 0, 0] := by decide +kernel
theorem idx10 : ∀ t : Fin grid0.N, win0_10.index t = ![t.val, 0] := by decide +kernel
theorem idx11 : ∀ t : Fin grid0.N, win0_11.index t = ![t.val, 0] := by decide +kernel
theorem idx12 : ∀ t : Fin grid0.N, win0_12.index t = ![t.val, 0] := by decide +kernel
theorem idx13 : ∀ t : Fin grid0.N, win0_13.index t = ![t.val, 0] := by decide +kernel
theorem idx14 : ∀ t : Fin grid0.N, win0_14.index t = ![t.val, 0] := by decide +kernel
theorem idx15 : ∀ t : Fin grid0.N, win0_15.index t = ![t.val, 0] := by decide +kernel
theorem idx16 : ∀ t : Fin grid0.N, win0_16.index t = ![t.val, 0] := by decide +kernel

variable (m : (ℓ : Loc nD τ sig) → Buf (Elt Ideal) ℓ) (c : Dev nD) (t : Fin cfg0.N)

theorem blk0 (r : Fin 512) (d : Fin 1024) : iblk m c 0 t (ix2 r d) = (V m c main_v11 : Vec Ideal S16384x1024 .f32) (ix2 (rowAt t r) d) := by
  blk_simp [iblk]
  refine congrArg (V m c main_v11 : Vec Ideal S16384x1024 .f32) ?_
  blk_ext [idx0, rowAt]

theorem blk1 (r : Fin 512) (d : Fin 1024) : iblk m c 1 t (ix2 r d) = (V m c main_v7 : Vec Ideal S16384x1024 .bf16) (ix2 (rowAt t r) d) := by
  blk_simp [iblk]
  refine congrArg (V m c main_v7 : Vec Ideal S16384x1024 .bf16) ?_
  blk_ext [idx1, rowAt]

theorem blk2 (r d : Fin 512) : iblk m c 2 t (ix2 r d) = (V m c main_v9 : Vec Ideal S16384x512 .bf16) (ix2 (rowAt t r) d) := by
  blk_simp [iblk]
  refine congrArg (V m c main_v9 : Vec Ideal S16384x512 .bf16) ?_
  blk_ext [idx2, rowAt]

theorem blk3 (e : Fin 1536) (d : Fin 1024) : iblk m c 3 t (ix3 0 e d) = (V m c main_v10 : Vec Ideal S2x1536x1024 .bf16) (ix3 0 e d) := by
  blk_simp [iblk]
  refine congrArg (V m c main_v10 : Vec Ideal S2x1536x1024 .bf16) ?_
  blk_ext [idx3]

theorem blk4 (d : Fin 1024) : iblk m c 4 t (ix2 0 d) = (V m c main_v2 : Vec Ideal S1x1024 .f32) (ix2 0 d) := by
  blk_simp [iblk]
  refine congrArg (V m c main_v2 : Vec Ideal S1x1024 .f32) ?_
  blk_ext [idx4]

theorem blk5 (d : Fin 1024) : iblk m c 5 t (ix2 0 d) = (V m c main_v5 : Vec Ideal S1x1024 .f32) (ix2 0 d) := by
  blk_simp [iblk]
  refine congrArg (V m c main_v5 : Vec Ideal S1x1024 .f32) ?_
  blk_ext [idx5]

theorem blk6 (e : Fin 1024) (d : Fin 5120) : iblk m c 6 t (ix3 0 e d) = (V m c main_v12 : Vec Ideal S2x1024x5120 .bf16) (ix3 1 e d) := by
  blk_simp [iblk]
  refine congrArg (V m c main_v12 : Vec Ideal S2x1024x5120 .bf16) ?_
  blk_ext [idx6]

theorem blk7 (i : Fin 3) (d : Fin 1024) : iblk m c 7 t (ix2 i d) = (V m c main_arg7 : Vec Ideal S3x1024 .f32) (ix2 i d) := by
  blk_simp [iblk]
  refine congrArg (V m c main_arg7 : Vec Ideal S3x1024 .f32) ?_
  blk_ext [idx7]

theorem blk8 (j : Fin 256) (d : Fin 512) : iblk m c 8 t (ix4 0 0 j d) = (V m c main_v13 : Vec Ideal S4x8x256x512 .bf16) (ix4 1 (seqAt t) j d) := by
  blk_simp [iblk]
  refine congrArg (V m c main_v13 : Vec Ideal S4x8x256x512 .bf16) ?_
  blk_ext [idx8, seqAt]

theorem blk9 (j : Fin 256) (d : Fin 512) : iblk m c 9 t (ix4 0 0 j d) = (V m c main_v14 : Vec Ideal S4x8x256x512 .bf16) (ix4 1 (seqAt t) j d) := by
  blk_simp [iblk]
  refine congrArg (V m c main_v14 : Vec Ideal S4x8x256x512 .bf16) ?_
  blk_ext [idx9, seqAt]

theorem emb10 (r : Fin 512) (d : Fin 1024) : ((win0_10.blk t).view.emb (ix2 r d) : S16384x1024.Idx) = ix2 (rowAt t r) d := by
  blk_ext [idx10, rowAt]

theorem emb11 (r : Fin 512) (d : Fin 1024) : ((win0_11.blk t).view.emb (ix2 r d) : S16384x1024.Idx) = ix2 (rowAt t r) d := by
  blk_ext [idx11, rowAt]

theorem emb12 (r : Fin 512) (d : Fin 1024) : ((win0_12.blk t).view.emb (ix2 r d) : S16384x1024.Idx) = ix2 (rowAt t r) d := by
  blk_ext [idx12, rowAt]

theorem emb13 (r : Fin 512) (d : Fin 1024) : ((win0_13.blk t).view.emb (ix2 r d) : S16384x1024.Idx) = ix2 (rowAt t r) d := by
  blk_ext [idx13, rowAt]

theorem emb14 (r : Fin 512) (d : Fin 1024) : ((win0_14.blk t).view.emb (ix2 r d) : S16384x1024.Idx) = ix2 (rowAt t r) d := by
  blk_ext [idx14, rowAt]

theorem emb15 (r : Fin 512) (d : Fin 1024) : ((win0_15.blk t).view.emb (ix2 r d) : S16384x1024.Idx) = ix2 (rowAt t r) d := by
  blk_ext [idx15, rowAt]

theorem emb16 (r : Fin 512) (d : Fin 512) : ((win0_16.blk t).view.emb (ix2 r d) : S16384x512.Idx) = ix2 (rowAt t r) d := by
  blk_ext [idx16, rowAt]

theorem residual_apply (x : FVec Ideal S8x2048x1024 .f32) (T : Fin 16384) (d : Fin 1024) :
    (shapeCast S16384x1024 x shapeCasts_S8x2048x1024_S16384x1024
      : FVec Ideal S16384x1024 .f32) (ix2 T d) = x (ix3 (seqOf T) (posOf T) d) := by
  pointwise
  rfl

theorem main_apply (x : FVec Ideal S8x2048x1024 .f32) (T : Fin 16384) (d : Fin 1024) :
    (truncf .bf16 (shapeCast S16384x1024 x shapeCasts_S8x2048x1024_S16384x1024) bitsLt_bf16_f32
      : FVec Ideal S16384x1024 .bf16) (ix2 T d) = x (ix3 (seqOf T) (posOf T) d) := by
  pointwise
  rfl

theorem mem_apply (x : FVec Ideal S8x2048x512 .f32) (T : Fin 16384) (e : Fin 512) :
    (truncf .bf16 (shapeCast S16384x512 x
      shapeCasts_S8x2048x512_S16384x512) bitsLt_bf16_f32 : FVec Ideal S16384x512 .bf16) (ix2 T e) = x (ix3 (seqOf T) (posOf T) e) := by
  pointwise
  rfl

theorem post_apply (x : FVec Ideal S4x1024 .f32) (d : Fin 1024) :
    (shapeCast S1x1024 (shapeCast S1024 (extractStridedSlice S1x1024 ![0, 0]
      x slices_S4x1024_S1x1024_0_0) shapeCasts_S1x1024_S1024) shapeCasts_S1024_S1x1024
      : FVec Ideal S1x1024 .f32) (ix2 0 d) = x (ix2 0 d) := by
  pointwise

theorem pre_apply (x : FVec Ideal S4x1024 .f32) (d : Fin 1024) :
    (shapeCast S1x1024 (shapeCast S1024 (extractStridedSlice S1x1024 ![1, 0]
      x slices_S4x1024_S1x1024_1_0) shapeCasts_S1x1024_S1024) shapeCasts_S1024_S1x1024
      : FVec Ideal S1x1024 .f32) (ix2 0 d) = x (ix2 1 d) := by
  pointwise

theorem operand_residual (T : Fin 16384) (d : Fin 1024) : (V m c main_v11 : Vec Ideal S16384x1024 .f32) (ix2 T d) = m ((c.tc : Thread nD τ).loc main_arg0) (ix3 (seqOf T) (posOf T) d) := by
  rw [show V m c main_v11 = (shapeCast S16384x1024 (m ((c.tc : Thread nD τ).loc main_arg0)) shapeCasts_S8x2048x1024_S16384x1024 : FVec Ideal S16384x1024 .f32)
    by with_unfolding_all rfl]
  exact residual_apply _ T d

theorem operand_main (T : Fin 16384) (d : Fin 1024) : (V m c main_v7 : Vec Ideal S16384x1024 .bf16) (ix2 T d) = m ((c.tc : Thread nD τ).loc main_arg1) (ix3 (seqOf T) (posOf T) d) := by
  rw [show V m c main_v7 = (truncf .bf16 (shapeCast S16384x1024 (m ((c.tc : Thread nD τ).loc main_arg1)) shapeCasts_S8x2048x1024_S16384x1024) bitsLt_bf16_f32 : FVec Ideal S16384x1024 .bf16)
    by with_unfolding_all rfl]
  exact main_apply _ T d

theorem operand_mem (T : Fin 16384) (d : Fin 512) : (V m c main_v9 : Vec Ideal S16384x512 .bf16) (ix2 T d) = m ((c.tc : Thread nD τ).loc main_arg2) (ix3 (seqOf T) (posOf T) d) := by
  rw [show V m c main_v9 = (truncf .bf16 (shapeCast S16384x512 (m ((c.tc : Thread nD τ).loc main_arg2)) shapeCasts_S8x2048x512_S16384x512) bitsLt_bf16_f32 : FVec Ideal S16384x512 .bf16)
    by with_unfolding_all rfl]
  exact mem_apply _ T d

theorem operand_mixing (e : Fin 1536) (d : Fin 1024) : (V m c main_v10 : Vec Ideal S2x1536x1024 .bf16) (ix3 0 e d) = m ((c.tc : Thread nD τ).loc main_arg3) (ix3 0 e d) := by
  rw [show V m c main_v10 = (truncf .bf16 (m ((c.tc : Thread nD τ).loc main_arg3)) bitsLt_bf16_f32 : FVec Ideal S2x1536x1024 .bf16)
    by with_unfolding_all rfl]
  rfl

theorem operand_post (d : Fin 1024) : (V m c main_v2 : Vec Ideal S1x1024 .f32) (ix2 0 d) = m ((c.tc : Thread nD τ).loc main_arg4) (ix2 0 d) := by
  rw [show V m c main_v2 = (shapeCast S1x1024 (shapeCast S1024 (extractStridedSlice S1x1024 ![0, 0] (m ((c.tc : Thread nD τ).loc main_arg4)) slices_S4x1024_S1x1024_0_0) shapeCasts_S1x1024_S1024) shapeCasts_S1024_S1x1024 : FVec Ideal S1x1024 .f32)
    by with_unfolding_all rfl]
  exact post_apply _ d

theorem operand_pre (d : Fin 1024) : (V m c main_v5 : Vec Ideal S1x1024 .f32) (ix2 0 d) = m ((c.tc : Thread nD τ).loc main_arg5) (ix2 1 d) := by
  rw [show V m c main_v5 = (shapeCast S1x1024 (shapeCast S1024 (extractStridedSlice S1x1024 ![1, 0] (m ((c.tc : Thread nD τ).loc main_arg5)) slices_S4x1024_S1x1024_1_0) shapeCasts_S1x1024_S1024) shapeCasts_S1024_S1x1024 : FVec Ideal S1x1024 .f32)
    by with_unfolding_all rfl]
  exact pre_apply _ d

theorem operand_weights (e : Fin 1024) (d : Fin 5120) : (V m c main_v12 : Vec Ideal S2x1024x5120 .bf16) (ix3 1 e d) = m ((c.tc : Thread nD τ).loc main_arg6) (ix3 1 e d) := by
  rw [show V m c main_v12 = (truncf .bf16 (m ((c.tc : Thread nD τ).loc main_arg6)) bitsLt_bf16_f32 : FVec Ideal S2x1024x5120 .bf16)
    by with_unfolding_all rfl]
  rfl

theorem operand_keys (b : Fin 8) (j : Fin 256) (d : Fin 512) : (V m c main_v13 : Vec Ideal S4x8x256x512 .bf16) (ix4 1 b j d) = m ((c.tc : Thread nD τ).loc main_arg8) (ix4 1 b j d) := by
  rw [show V m c main_v13 = (truncf .bf16 (m ((c.tc : Thread nD τ).loc main_arg8)) bitsLt_bf16_f32 : FVec Ideal S4x8x256x512 .bf16)
    by with_unfolding_all rfl]
  rfl

theorem operand_values (b : Fin 8) (j : Fin 256) (d : Fin 512) : (V m c main_v14 : Vec Ideal S4x8x256x512 .bf16) (ix4 1 b j d) = m ((c.tc : Thread nD τ).loc main_arg9) (ix4 1 b j d) := by
  rw [show V m c main_v14 = (truncf .bf16 (m ((c.tc : Thread nD τ).loc main_arg9)) bitsLt_bf16_f32 : FVec Ideal S4x8x256x512 .bf16)
    by with_unfolding_all rfl]
  rfl

theorem stream_blk (r : Fin 512) : blkStream (iblk m c 0 t) (iblk m c 1 t) (iblk m c 2 t) (iblk m c 3 t) (iblk m c 4 t) r
    = rowStream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (seqOf (rowAt t r)) (posOf (rowAt t r)) := by
  funext d
  unfold blkStream rowStream
  simp only [blk0, blk1, blk2, blk3, blk4]
  exact congrArg₂ (· + ·) (operand_residual m c (rowAt t r) d) (congrArg₂ (fun y g => normed y g d)
    (funext fun d => congr (congrArg₂ mixed (funext fun e => operand_main m c (rowAt t r) e) (funext fun e => operand_mem m c (rowAt t r) e))
      (funext fun e => operand_mixing m c e d)) (funext fun e => operand_post m c e))

theorem input_blk (r : Fin 512) : blkInput (iblk m c 0 t) (iblk m c 1 t) (iblk m c 2 t) (iblk m c 3 t) (iblk m c 4 t) (iblk m c 5 t) r
    = rowInput (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (seqOf (rowAt t r)) (posOf (rowAt t r)) := by
  unfold blkInput rowInput
  rw [stream_blk]
  simp only [blk5]
  exact congrArg (normed _) (funext fun e => operand_pre m c e)

theorem proj_blk (r : Fin 512) (k : Fin 5120) : blkProj (iblk m c 0 t) (iblk m c 1 t) (iblk m c 2 t) (iblk m c 3 t) (iblk m c 4 t) (iblk m c 5 t) (iblk m c 6 t) r k
    = rowProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (rowAt t r)) (posOf (rowAt t r)) k := by
  unfold blkProj rowProj
  rw [input_blk]
  simp only [blk6]
  exact Finset.sum_congr rfl fun e _ => congrArg (HMul.hMul (α := EReal) _) (operand_weights m c e k)

theorem logits_blk : (iblk m c 7 t : Vec Ideal S3x1024 .f32) = (m ((c.tc : Thread nD τ).loc main_arg7)) := by
  funext y
  obtain ⟨i, d, rfl⟩ : ∃ (i : Fin 3) (d : Fin 1024), y = ix2 i d := ⟨y 0, y 1, funext fun a => by fin_cases a <;> rfl⟩
  exact blk7 m c t i d

theorem values_blk (j : Fin 256) (d : Fin 512) (r : Fin 512) : (iblk m c 9 t : Vec Ideal S1x1x256x512 .bf16) (ix4 0 0 j d)
    = (m ((c.tc : Thread nD τ).loc main_arg9)) (ix4 1 (seqOf (rowAt t r)) j d) := by
  rw [seqOf_rowAt]
  exact (blk9 m c t j d).trans (operand_values m c _ j d)

/-- The score of memory token `j` for a token's row of projections and memory head `hh`, in base two. -/
def rowScore (p : Fin 5120 → EReal) (x8 : FVec Ideal S4x8x256x512 .f32) (b : Fin 8) (hh : Fin 4) (j : Fin 256) : EReal :=
  ∑ e : Fin 128, p ⟨4096 + memCol hh e, by omega⟩
      * Named.named (F := Ideal) (φ := .f32) κ "mem_scale" 0x3E0293EE#32 * x8 (ix4 1 b j (memCol hh e))

theorem score_blk (r : Fin 512) (hh : Fin 4) : blkScore (iblk m c 0 t) (iblk m c 1 t) (iblk m c 2 t) (iblk m c 3 t) (iblk m c 4 t) (iblk m c 5 t) (iblk m c 6 t) (iblk m c 8 t) r hh
    = rowScore (rowProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (rowAt t r)) (posOf (rowAt t r))) (m ((c.tc : Thread nD τ).loc main_arg8)) (seqOf (rowAt t r)) hh := by
  funext j
  unfold blkScore rowScore
  refine Finset.sum_congr rfl fun e _ => ?_
  rw [proj_blk, seqOf_rowAt]
  exact congrArg (HMul.hMul (α := EReal) _) ((blk8 m c t j (memCol hh e)).trans (operand_keys m c _ j _))

theorem stream_array : (Gen.dats m 0 c).arrAt 10 cfg0.N = (fun y : S16384x1024.Idx =>
    rowStream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (seqOf (y 0)) (posOf (y 0)) (y 1) : FVec Ideal S16384x1024 .f32) := by
  refine (dats m 0 c).arrAt_eq_of_covers 10 _ (by decide +kernel) fun t hf y => ?_
  blk_simp
  rw [after0_10]
  obtain ⟨r, d, rfl⟩ : ∃ (r : Fin 512) (d : Fin 1024), y = ix2 r d := ⟨y 0, y 1, funext fun a => by fin_cases a <;> rfl⟩
  rw [emb10, out_stream]
  exact congrFun (stream_blk m c t r) d

theorem query_array : (Gen.dats m 0 c).arrAt 11 cfg0.N = (fun y : S16384x1024.Idx =>
    siluK (rowProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 0)) (posOf (y 0)) (queryCol (y 1))) : FVec Ideal S16384x1024 .bf16) := by
  refine (dats m 0 c).arrAt_eq_of_covers 11 _ (by decide +kernel) fun t hf y => ?_
  blk_simp
  rw [after0_11]
  obtain ⟨r, d, rfl⟩ : ∃ (r : Fin 512) (d : Fin 1024), y = ix2 r d := ⟨y 0, y 1, funext fun a => by fin_cases a <;> rfl⟩
  rw [emb11, out_query]
  rw [proj_blk]
  rfl

theorem forget_array : (Gen.dats m 0 c).arrAt 12 cfg0.N = (fun y : S16384x1024.Idx =>
    forgetK (k0_pay3 (m ((c.tc : Thread nD τ).loc main_arg7)) (ix2 0 (y 1))) (rowProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 0)) (posOf (y 0)) (forgetCol (y 1))) : FVec Ideal S16384x1024 .f32) := by
  refine (dats m 0 c).arrAt_eq_of_covers 12 _ (by decide +kernel) fun t hf y => ?_
  blk_simp
  rw [after0_12]
  obtain ⟨r, d, rfl⟩ : ∃ (r : Fin 512) (d : Fin 1024), y = ix2 r d := ⟨y 0, y 1, funext fun a => by fin_cases a <;> rfl⟩
  rw [emb12, out_forget]
  rw [proj_blk, logits_blk]
  rfl

theorem key_array : (Gen.dats m 0 c).arrAt 13 cfg0.N = (fun y : S16384x1024.Idx =>
    keyK (k0_pay3 (m ((c.tc : Thread nD τ).loc main_arg7)) (ix2 0 (y 1))) (rowProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 0)) (posOf (y 0)) (forgetCol (y 1))) : FVec Ideal S16384x1024 .bf16) := by
  refine (dats m 0 c).arrAt_eq_of_covers 13 _ (by decide +kernel) fun t hf y => ?_
  blk_simp
  rw [after0_13]
  obtain ⟨r, d, rfl⟩ : ∃ (r : Fin 512) (d : Fin 1024), y = ix2 r d := ⟨y 0, y 1, funext fun a => by fin_cases a <;> rfl⟩
  rw [emb13, out_key]
  rw [proj_blk, logits_blk]
  rfl

theorem value_array : (Gen.dats m 0 c).arrAt 14 cfg0.N = (fun y : S16384x1024.Idx =>
    rowProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 0)) (posOf (y 0)) (valueCol (y 1)) : FVec Ideal S16384x1024 .bf16) := by
  refine (dats m 0 c).arrAt_eq_of_covers 14 _ (by decide +kernel) fun t hf y => ?_
  blk_simp
  rw [after0_14]
  obtain ⟨r, d, rfl⟩ : ∃ (r : Fin 512) (d : Fin 1024), y = ix2 r d := ⟨y 0, y 1, funext fun a => by fin_cases a <;> rfl⟩
  rw [emb14, out_value]
  rw [proj_blk]
  rfl

theorem gate_array : (Gen.dats m 0 c).arrAt 15 cfg0.N = (fun y : S16384x1024.Idx =>
    siluK (rowProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 0)) (posOf (y 0)) (gateCol (y 1))) : FVec Ideal S16384x1024 .bf16) := by
  refine (dats m 0 c).arrAt_eq_of_covers 15 _ (by decide +kernel) fun t hf y => ?_
  blk_simp
  rw [after0_15]
  obtain ⟨r, d, rfl⟩ : ∃ (r : Fin 512) (d : Fin 1024), y = ix2 r d := ⟨y 0, y 1, funext fun a => by fin_cases a <;> rfl⟩
  rw [emb15, out_gate]
  rw [proj_blk]
  rfl

theorem memory_array : (Gen.dats m 0 c).arrAt 16 cfg0.N = (fun y : S16384x512.Idx =>
    memoryK (rowScore (rowProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 0)) (posOf (y 0))) (m ((c.tc : Thread nD τ).loc main_arg8)) (seqOf (y 0)) (headOf (y 1))) (fun j => (m ((c.tc : Thread nD τ).loc main_arg9)) (ix4 1 (seqOf (y 0)) j (y 1))) (rowProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 0)) (posOf (y 0)) (memGateCol (y 1))) : FVec Ideal S16384x512 .bf16) := by
  refine (dats m 0 c).arrAt_eq_of_covers 16 _ (by decide +kernel) fun t hf y => ?_
  blk_simp
  rw [after0_16]
  obtain ⟨r, d, rfl⟩ : ∃ (r : Fin 512) (d : Fin 512), y = ix2 r d := ⟨y 0, y 1, funext fun a => by fin_cases a <;> rfl⟩
  rw [emb16, out_memory]
  rw [proj_blk, score_blk, funext fun j => values_blk m c t j d r]
  rfl

end Cert.InKernelIdeal.Trunk

end
-- ==== Proof.Trunk.InRef.lean ====
/- What the input projection's reference computes, at an index. -/
module

public import proofs.«01_k».proof.Proof.Trunk.InRow
public import proofs.«01_k».proof.Proof.Gen.InReferenceIdeal.Read

@[expose] public section

noncomputable section

namespace Cert.InReferenceIdeal.Trunk

open Cert.InReferenceIdeal Cert.InReferenceIdeal.Read Cert.Trunk Idealize.ShloMosaic

variable (x0 x1 : FVec Ideal S8x2048x1024 .f32) (x2 : FVec Ideal S8x2048x512 .f32) (x3 : FVec Ideal S2x1536x1024 .f32)
  (x4 x5 : FVec Ideal S4x1024 .f32) (x6 : FVec Ideal S2x1024x5120 .f32) (x7 : FVec Ideal S3x1024 .f32)
  (x8 x9 : FVec Ideal S4x8x256x512 .f32)

theorem joined_at (b : Fin 8) (s : Fin 2048) (e : Fin 1536) :
    val_main_v12 (F := Ideal) x1 x2 (ix3 b s e) = joined (fun e => x1 (ix3 b s e)) (fun e => x2 (ix3 b s e)) e := by
  unfold joined
  pointwise [val_main_v12]

theorem product_at (b : Fin 8) (s : Fin 2048) (d : Fin 1024) :
    val_main_v15 (F := Ideal) x1 x2 x3 (ix3 b s d)
      = mixed (fun e => x1 (ix3 b s e)) (fun e => x2 (ix3 b s e)) (fun e => x3 (ix3 0 e d)) := by
  rw [← mixed_eq]
  have h : ∀ e, joined (fun e => x1 (ix3 b s e)) (fun e => x2 (ix3 b s e)) e = val_main_v12 (F := Ideal) x1 x2 (ix3 b s e) := fun e =>
    (joined_at x1 x2 b s e).symm
  simp only [h]
  unfold val_main_v15
  generalize val_main_v12 (F := Ideal) x1 x2 = y
  pointwise [val_main_v14, val_main_v13]

theorem post_at (y : FVec Ideal S8x2048x1024 .f32) (b : Fin 8) (s : Fin 2048) (d : Fin 1024) (h : y = val_main_v15 (F := Ideal) x1 x2 x3) :
    val_main_v30 (F := Ideal) x1 x2 x3 x4 (ix3 b s d) = normed (fun e => y (ix3 b s e)) (fun e => x4 (ix2 0 e)) d := by
  unfold val_main_v30 val_main_v27 val_main_v26 val_main_v25 val_main_v24 val_main_v22 val_main_v20 val_main_v19 val_main_v18
  rw [← h]
  pointwise [val_main_v29, val_main_v28, val_main_v17, val_main_v16, val_main_v21, val_main_v23, val_main_cst_2, val_main_cst_3, val_main_cst_4]
  rfl

theorem stream_at (b : Fin 8) (s : Fin 2048) (d : Fin 1024) :
    val_main_v31 (F := Ideal) x0 x1 x2 x3 x4 (ix3 b s d) = rowStream x0 x1 x2 x3 x4 b s d := by
  unfold rowStream
  simp only [← product_at]
  rw [← post_at x1 x2 x3 x4 _ b s d rfl]
  unfold val_main_v31
  generalize val_main_v30 (F := Ideal) x1 x2 x3 x4 = y
  pointwise

theorem input_of (y : FVec Ideal S8x2048x1024 .f32) (b : Fin 8) (s : Fin 2048) (d : Fin 1024)
    (h : y = val_main_v31 (F := Ideal) x0 x1 x2 x3 x4) :
    val_main_v46 (F := Ideal) x0 x1 x2 x3 x4 x5 (ix3 b s d) = normed (fun e => y (ix3 b s e)) (fun e => x5 (ix2 1 e)) d := by
  unfold val_main_v46 val_main_v43 val_main_v42 val_main_v41 val_main_v40 val_main_v38 val_main_v36 val_main_v35 val_main_v34
  rw [← h]
  pointwise [val_main_v45, val_main_v44, val_main_v33, val_main_v32, val_main_v37, val_main_v39, val_main_cst_5, val_main_cst_6, val_main_cst_7]
  rfl

theorem input_at (b : Fin 8) (s : Fin 2048) (d : Fin 1024) :
    val_main_v46 (F := Ideal) x0 x1 x2 x3 x4 x5 (ix3 b s d) = rowInput x0 x1 x2 x3 x4 x5 b s d := by
  rw [input_of x0 x1 x2 x3 x4 x5 _ b s d rfl]
  exact congrArg (fun y => normed y _ d) (funext fun e => stream_at x0 x1 x2 x3 x4 b s e)

theorem proj_of (y : FVec Ideal S8x2048x1024 .f32) (b : Fin 8) (s : Fin 2048) (k : Fin 5120)
    (h : y = val_main_v46 (F := Ideal) x0 x1 x2 x3 x4 x5) :
    val_main_v49 (F := Ideal) x0 x1 x2 x3 x4 x5 x6 (ix3 b s k) = ∑ e : Fin 1024, y (ix3 b s e) * x6 (ix3 1 e k) := by
  unfold val_main_v49
  rw [← h]
  pointwise [val_main_v48, val_main_v47]

theorem proj_at (b : Fin 8) (s : Fin 2048) (k : Fin 5120) :
    val_main_v49 (F := Ideal) x0 x1 x2 x3 x4 x5 x6 (ix3 b s k) = rowProj x0 x1 x2 x3 x4 x5 x6 b s k := by
  rw [proj_of x0 x1 x2 x3 x4 x5 x6 _ b s k rfl]
  exact Finset.sum_congr rfl fun e _ => congrArg (fun u : EReal => u * x6 (ix3 1 e k)) (input_at x0 x1 x2 x3 x4 x5 b s e)

/-- Silu as the reference computes it. -/
def siluR (x : EReal) : EReal := x * Ideal.div 1 (1 + Ideal.exp (-x))

/-- The key as the reference computes it. -/
def keyR (lb x : EReal) : EReal := (1 - lb) * Ideal.div 1 (1 + Ideal.exp (-(-x)))

theorem stream_out (T : Fin 16384) (d : Fin 1024) : val_main_v118 (F := Ideal) x0 x1 x2 x3 x4 (ix2 T d)
    = rowStream x0 x1 x2 x3 x4 (seqOf T) (posOf T) d := by
  rw [← stream_at]
  unfold val_main_v118
  generalize val_main_v31 (F := Ideal) x0 x1 x2 x3 x4 = y
  pointwise
  rfl

theorem value_out (T : Fin 16384) (d : Fin 1024) : val_main_v128 (F := Ideal) x0 x1 x2 x3 x4 x5 x6 (ix2 T d)
    = rowProj x0 x1 x2 x3 x4 x5 x6 (seqOf T) (posOf T) (valueCol d) := by
  rw [← proj_at]
  unfold val_main_v128 val_main_v127 val_main_v52
  generalize val_main_v49 (F := Ideal) x0 x1 x2 x3 x4 x5 x6 = y
  pointwise
  rfl

theorem query_out (T : Fin 16384) (d : Fin 1024) : val_main_v120 (F := Ideal) x0 x1 x2 x3 x4 x5 x6 (ix2 T d)
    = siluR (rowProj x0 x1 x2 x3 x4 x5 x6 (seqOf T) (posOf T) (queryCol d)) := by
  rw [← proj_at]
  unfold val_main_v120 val_main_v119 val_main_v91 val_main_call2_v5 val_main_call2_v3 val_main_call2_v1 val_main_call2_v0 val_main_v50
  generalize val_main_v49 (F := Ideal) x0 x1 x2 x3 x4 x5 x6 = y
  unfold siluR
  pointwise [val_main_call2_v4, val_main_call2_v2, val_main_call2_cst, val_main_call2_cst_0]
  rfl

theorem gate_out (T : Fin 16384) (d : Fin 1024) : val_main_v131 (F := Ideal) x0 x1 x2 x3 x4 x5 x6 (ix2 T d)
    = siluR (rowProj x0 x1 x2 x3 x4 x5 x6 (seqOf T) (posOf T) (gateCol d)) := by
  rw [← proj_at]
  unfold val_main_v131 val_main_v130 val_main_v129 val_main_call4_v5 val_main_call4_v3 val_main_call4_v1 val_main_call4_v0 val_main_v53
  generalize val_main_v49 (F := Ideal) x0 x1 x2 x3 x4 x5 x6 = y
  unfold siluR
  pointwise [val_main_call4_v4, val_main_call4_v2, val_main_call4_cst, val_main_call4_cst_0]
  rfl

theorem key_out (T : Fin 16384) (d : Fin 1024) : val_main_v126 (F := Ideal) x0 x1 x2 x3 x4 x5 x6 x7 (ix2 T d)
    = keyR (val_main_v57 (F := Ideal) x7 (ix1 d)) (rowProj x0 x1 x2 x3 x4 x5 x6 (seqOf T) (posOf T) (forgetCol d)) := by
  rw [← proj_at]
  unfold val_main_v126 val_main_v125 val_main_v90 val_main_v89 val_main_v88 val_main_v80 val_main_v87 val_main_v85 val_main_v83 val_main_v82
    val_main_v81 val_main_v51
  generalize val_main_v49 (F := Ideal) x0 x1 x2 x3 x4 x5 x6 = y
  generalize val_main_v57 (F := Ideal) x7 = l
  unfold keyR
  pointwise [val_main_v79, val_main_v84, val_main_v86, val_main_cst_8, val_main_cst_9, val_main_cst_10]
  rfl

/-- The logarithm of one plus the exponential. -/
def softplusR (y : EReal) : EReal := max y 0 + Ideal.log1p (Ideal.exp (-(max y (-y))))

/-- The logarithm of a sum of two exponentials. -/
def logaddR (l t : EReal) : EReal := max l t + Ideal.log1p (Ideal.exp (-(max (l - t) (-(l - t)))))

/-- The logarithm of the forget gate, to base two, as the reference computes it. -/
def forgetR (lb x : EReal) : EReal :=
  Ideal.div (logaddR (Ideal.log lb) (Ideal.log1p (-lb) + -(softplusR (-x)))) (Ideal.log (Ideal.ofBits .f32 0x40000000#32))

theorem softplus_at (b : Fin 8) (s : Fin 2048) (d : Fin 1024) : val_main_v61 (F := Ideal) x0 x1 x2 x3 x4 x5 x6 (ix3 b s d)
    = -(softplusR (-(rowProj x0 x1 x2 x3 x4 x5 x6 b s (forgetCol d)))) := by
  rw [← proj_at]
  unfold val_main_v61 val_main_call1_v1 val_main_call1_call0_v11 val_main_call1_call0_v10 val_main_call1_call0_v9 val_main_call1_call0_v8
    val_main_call1_call0_v7 val_main_call1_call0_v6 val_main_call1_call0_v4 val_main_call1_call0_v3 val_main_call1_call0_v1
    val_main_call1_v0 val_main_v51
  generalize val_main_v49 (F := Ideal) x0 x1 x2 x3 x4 x5 x6 = y
  unfold softplusR
  pointwise [val_main_call1_call0_v0, val_main_call1_call0_v2, val_main_call1_call0_v5, val_main_call1_call0_cst]
  simp only [ne_eq, not_true_eq_false, if_false]
  rfl

theorem logadd_at (t : FVec Ideal S8x2048x1024 .f32) (b : Fin 8) (s : Fin 2048) (d : Fin 1024)
    (h : t = val_main_v61 (F := Ideal) x0 x1 x2 x3 x4 x5 x6) : val_main_v123 (F := Ideal) x0 x1 x2 x3 x4 x5 x6 x7 (ix3 b s d)
    = Ideal.div (logaddR (Ideal.log (val_main_v57 (F := Ideal) x7 (ix1 d))) (Ideal.log1p (-(val_main_v57 (F := Ideal) x7 (ix1 d)))
        + t (ix3 b s d))) (Ideal.log (Ideal.ofBits .f32 0x40000000#32)) := by
  unfold val_main_v123 val_main_v78 val_main_v77 val_main_v76 val_main_v75 val_main_v74 val_main_v73 val_main_v72 val_main_v71 val_main_v70
    val_main_v69 val_main_v68 val_main_v67 val_main_v66 val_main_v65 val_main_v64 val_main_v63 val_main_v62 val_main_v60 val_main_v59
    val_main_v58
  rw [← h]
  generalize val_main_v57 (F := Ideal) x7 = l
  unfold logaddR
  pointwise [val_main_v122, val_main_v121, val_main_cst_15]
  simp only [ne_eq, not_true_eq_false, if_false]
  rfl

theorem forget_out (T : Fin 16384) (d : Fin 1024) : val_main_v124 (F := Ideal) x0 x1 x2 x3 x4 x5 x6 x7 (ix2 T d)
    = forgetR (val_main_v57 (F := Ideal) x7 (ix1 d)) (rowProj x0 x1 x2 x3 x4 x5 x6 (seqOf T) (posOf T) (forgetCol d)) := by
  unfold forgetR
  rw [← softplus_at, ← logadd_at x0 x1 x2 x3 x4 x5 x6 x7 _ _ _ d rfl]
  unfold val_main_v124
  generalize val_main_v123 (F := Ideal) x0 x1 x2 x3 x4 x5 x6 x7 = y
  pointwise
  rfl

/-- The reference's score of memory token `j`. -/
def scoreR (p : Fin 5120 → EReal) (b : Fin 8) (hh : Fin 4) (j : Fin 256) : EReal :=
  (∑ e : Fin 128, p (memQueryCol (headCol hh e)) * x8 (ix4 1 b j (headCol hh e))) * Ideal.ofBits .f32 0x3DB504F3#32

theorem score_at (b : Fin 8) (s : Fin 2048) (hh : Fin 4) (j : Fin 256) :
    val_main_v101 (F := Ideal) x0 x1 x2 x3 x4 x5 x6 x8 (ix4 b hh s j) = scoreR x8 (rowProj x0 x1 x2 x3 x4 x5 x6 b s) b hh j := by
  unfold scoreR
  simp only [← proj_at]
  unfold val_main_v101 val_main_v99 val_main_v92 val_main_v54
  generalize val_main_v49 (F := Ideal) x0 x1 x2 x3 x4 x5 x6 = y
  pointwise [val_main_v95, val_main_v94, val_main_v93, val_main_v100, val_main_cst_11]
  rfl

/-- The exponential of a score less the largest. -/
def weightR (s : Fin 256 → EReal) (j : Fin 256) : EReal := Ideal.exp (s j - max ⊥ (Finset.univ.fold max ⊥ s))

/-- The reference's mean of the memory values. -/
def meanR (s v : Fin 256 → EReal) : EReal := ∑ j, v j * Ideal.div (weightR s j) (∑ k, weightR s k)

theorem largest_of (y : FVec Ideal S8x4x2048x256 .f32) (h : y = val_main_v101 (F := Ideal) x0 x1 x2 x3 x4 x5 x6 x8) (b : Fin 8) (s : Fin 2048) (hh : Fin 4) :
    val_main_v102 (F := Ideal) x0 x1 x2 x3 x4 x5 x6 x8 (ix3 b hh s) = Finset.univ.fold max ⊥ fun j => y (ix4 b hh s j) := by
  unfold val_main_v102 val_main_cst_12
  rw [← h, Host.reduce_eq_fold_single _ _ _ _ (by decide), ← lowest]
  show Finset.fold max (Ideal.ofBits .f32 0xFF800000#32) _ _ = _
  refine congrArg (fun f => Finset.fold max (Ideal.ofBits .f32 0xFF800000#32) f Finset.univ) (funext fun k => ?_)
  exact congrArg y (funext fun a => Fin.ext (by
    match a with | ⟨0, _⟩ => rfl | ⟨1, _⟩ => rfl | ⟨2, _⟩ => rfl | ⟨3, _⟩ => rfl))

theorem shift_at (b : Fin 8) (s : Fin 2048) (hh : Fin 4) (j : Fin 256) :
    val_main_v106 (F := Ideal) x0 x1 x2 x3 x4 x5 x6 x8 (ix4 b hh s j)
      = (max ⊥ (val_main_v102 (F := Ideal) x0 x1 x2 x3 x4 x5 x6 x8 (ix3 b hh s)) : EReal) := by
  rw [val_main_v106_apply, val_main_v105_apply, val_main_v104_apply, val_main_v103_apply, val_main_cst_13_apply, ← lowest]
  generalize val_main_v102 (F := Ideal) x0 x1 x2 x3 x4 x5 x6 x8 = z
  exact congrArg (fun u : EReal => max (Ideal.ofBits .f32 0xFF800000#32) u) (congrArg z (funext fun a => Fin.ext (by
    match a with | ⟨0, _⟩ => rfl | ⟨1, _⟩ => rfl | ⟨2, _⟩ => rfl)))

theorem weight_at (y : FVec Ideal S8x4x2048x256 .f32) (h : y = val_main_v101 (F := Ideal) x0 x1 x2 x3 x4 x5 x6 x8) (b : Fin 8) (s : Fin 2048) (hh : Fin 4) (j : Fin 256) :
    val_main_v108 (F := Ideal) x0 x1 x2 x3 x4 x5 x6 x8 (ix4 b hh s j) = weightR (fun j => y (ix4 b hh s j)) j := by
  unfold weightR
  rw [← largest_of x0 x1 x2 x3 x4 x5 x6 x8 y h b s hh, ← shift_at x0 x1 x2 x3 x4 x5 x6 x8 b s hh j, val_main_v108_apply,
    val_main_v107_apply, ← h]
  rfl

theorem mean_of (w : FVec Ideal S8x4x2048x256 .f32) (h : w = val_main_v108 (F := Ideal) x0 x1 x2 x3 x4 x5 x6 x8) (b : Fin 8) (s : Fin 2048) (hh : Fin 4) (e : Fin 128) :
    val_main_v113 (F := Ideal) x0 x1 x2 x3 x4 x5 x6 x8 x9 (ix4 b hh e s)
      = ∑ j, x9 (ix4 1 b j (headCol hh e)) * Ideal.div (w (ix4 b hh s j)) (∑ k, w (ix4 b hh s k)) := by
  unfold val_main_v113 val_main_v112 val_main_v111 val_main_v110 val_main_v109
  rw [← h]
  pointwise [val_main_v98, val_main_v97, val_main_v96, val_main_cst_14]
  rfl

theorem mean_at (b : Fin 8) (s : Fin 2048) (hh : Fin 4) (e : Fin 128) :
    val_main_v113 (F := Ideal) x0 x1 x2 x3 x4 x5 x6 x8 x9 (ix4 b hh e s)
      = meanR (scoreR x8 (rowProj x0 x1 x2 x3 x4 x5 x6 b s) b hh) (fun j => x9 (ix4 1 b j (headCol hh e))) := by
  rw [mean_of x0 x1 x2 x3 x4 x5 x6 x8 x9 _ rfl]
  unfold meanR
  simp only [weight_at x0 x1 x2 x3 x4 x5 x6 x8 _ rfl, score_at]

theorem mean_row (b : Fin 8) (s : Fin 2048) (d : Fin 512) :
    val_main_v115 (F := Ideal) x0 x1 x2 x3 x4 x5 x6 x8 x9 (ix3 b s d)
      = meanR (scoreR x8 (rowProj x0 x1 x2 x3 x4 x5 x6 b s) b (colHead d)) (fun j => x9 (ix4 1 b j d)) := by
  have h := mean_at x0 x1 x2 x3 x4 x5 x6 x8 x9 b s (colHead d) (colIn d)
  rw [headCol_colIn] at h
  rw [← h]
  unfold val_main_v115 val_main_v114
  generalize val_main_v113 (F := Ideal) x0 x1 x2 x3 x4 x5 x6 x8 x9 = y
  pointwise
  rfl

theorem memory_out (T : Fin 16384) (d : Fin 512) : val_main_v133 (F := Ideal) x0 x1 x2 x3 x4 x5 x6 x8 x9 (ix2 T d)
    = meanR (scoreR x8 (rowProj x0 x1 x2 x3 x4 x5 x6 (seqOf T) (posOf T)) (seqOf T) (colHead d)) (fun j => x9 (ix4 1 (seqOf T) j d))
        * siluR (rowProj x0 x1 x2 x3 x4 x5 x6 (seqOf T) (posOf T) (memGateCol d)) := by
  rw [← proj_at, ← mean_row]
  unfold val_main_v133 val_main_v132 val_main_v117 val_main_v116 val_main_call3_v5 val_main_call3_v3 val_main_call3_v1 val_main_call3_v0 val_main_v55
  generalize val_main_v115 (F := Ideal) x0 x1 x2 x3 x4 x5 x6 x8 x9 = z
  generalize val_main_v49 (F := Ideal) x0 x1 x2 x3 x4 x5 x6 = y
  unfold siluR
  pointwise [val_main_call3_v4, val_main_call3_v2, val_main_call3_cst, val_main_call3_cst_0]
  rfl

end Cert.InReferenceIdeal.Trunk

end
-- ==== Proof.Trunk.InBound.lean ====
/- The lower bound of the forget gate, as the reference computes it. -/
module

public import proofs.«01_k».proof.Proof.Trunk.InRow
public import proofs.«01_k».proof.Proof.Gen.InReferenceIdeal.Read

@[expose] public section

noncomputable section

namespace Cert.InReferenceIdeal.Trunk

open Cert.InReferenceIdeal Cert.InReferenceIdeal.Read Cert.Trunk Idealize.ShloMosaic

variable (x7 : FVec Ideal S3x1024 .f32)

theorem window_at (y : S3x1024.Idx → EReal) (h : S3x1024.ReduceWindows ![3, 1] ![1, 1] ![2, 0] ![0, 0] S3x1024) (d : Fin 1024) :
    Ideal.hostReduceWindowAdd ![3, 1] ![1, 1] ![2, 0] ![0, 0] h y 0 (ix2 1 d) = y (ix2 0 d) + y (ix2 1 d) := by
  have hd := d.isLt
  unfold Ideal.hostReduceWindowAdd Host.reduceWindow
  have hl : List.finRange (⟨2, ![3, 1]⟩ : Shape).numel
      = [⟨0, by decide⟩, ⟨1, by decide⟩, ⟨2, by decide⟩] := by rfl
  have e1 : ∀ i : S3x1024.Idx, (i 0).val = 0 → (i 1).val = d.val → y i = y (ix2 0 d) := fun i h0 h1 =>
    congrArg y (funext fun a => Fin.ext (by match a with | ⟨0, _⟩ => exact h0 | ⟨1, _⟩ => exact h1))
  have e2 : ∀ i : S3x1024.Idx, (i 0).val = 1 → (i 1).val = d.val → y i = y (ix2 1 d) := fun i h0 h1 =>
    congrArg y (funext fun a => Fin.ext (by match a with | ⟨0, _⟩ => exact h0 | ⟨1, _⟩ => exact h1))
  have z1 : ((⟨2, ![3, 1]⟩ : Shape).rowMajor.symm ⟨1, by decide⟩ 1).val = 0 := by rfl
  have z2 : ((⟨2, ![3, 1]⟩ : Shape).rowMajor.symm ⟨2, by decide⟩ 1).val = 0 := by rfl
  have q1 : d.val * 1 + ((⟨2, ![3, 1]⟩ : Shape).rowMajor.symm ⟨1, by decide⟩ 1).val = d.val := by rw [z1]; omega
  have q2 : d.val * 1 + ((⟨2, ![3, 1]⟩ : Shape).rowMajor.symm ⟨2, by decide⟩ 1).val = d.val := by rw [z2]; omega
  dsimp only
  rw [hl, List.foldl_cons, List.foldl_cons, List.foldl_cons, List.foldl_nil]
  rw [dif_neg, dif_pos, dif_pos]
  · refine (congrArg₂ (HAdd.hAdd (α := EReal)) (congrArg₂ (HAdd.hAdd (α := EReal)) rfl (e1 _ ?_ ?_)) (e2 _ ?_ ?_)).trans ?_
    · exact rfl
    · exact q1
    · exact rfl
    · exact q2
    · simp only [zero_add]
  · intro a
    match a with
    | ⟨0, _⟩ => exact ⟨(by decide : 2 ≤ 1 * 1 + 2), (by decide : 1 * 1 + 2 - 2 < 3)⟩
    | ⟨1, _⟩ => exact ⟨Nat.zero_le _, lt_of_eq_of_lt q2 hd⟩
  · intro a
    match a with
    | ⟨0, _⟩ => exact ⟨(by decide : 2 ≤ 1 * 1 + 1), (by decide : 1 * 1 + 1 - 2 < 3)⟩
    | ⟨1, _⟩ => exact ⟨Nat.zero_le _, lt_of_eq_of_lt q1 hd⟩
  · intro hin
    exact absurd (hin 0).1 (by decide : ¬ (2 ≤ 1 * 1 + 0))

/-- The largest of the three logits of a column. -/
def topLogit (d : Fin 1024) : EReal := Finset.univ.fold max ⊥ fun i : Fin 3 => x7 (ix2 i d)

theorem top_at (d : Fin 1024) : val_main_v0 (F := Ideal) x7 (ix1 d) = topLogit x7 d := by
  unfold val_main_v0 val_main_cst topLogit
  rw [Host.reduce_eq_fold_single _ _ _ _ (by decide), ← lowest]
  show Finset.fold max (Ideal.ofBits .f32 0xFF800000#32) _ _ = _
  refine congrArg (fun f => Finset.fold max (Ideal.ofBits .f32 0xFF800000#32) f Finset.univ) (funext fun k => ?_)
  exact congrArg x7 (funext fun a => Fin.ext (by
    match a with | ⟨0, _⟩ => rfl | ⟨1, _⟩ => rfl))

theorem exp_at (i : Fin 3) (d : Fin 1024) : val_main_v6 (F := Ideal) x7 (ix2 i d) = Ideal.exp (x7 (ix2 i d) - max ⊥ (topLogit x7 d)) := by
  rw [← top_at]
  unfold val_main_v6 val_main_v5 val_main_v4 val_main_v3 val_main_v2
  rw [← lowest]
  generalize val_main_v0 (F := Ideal) x7 = z
  pointwise [val_main_v1, val_main_cst_0]

theorem share_of (w : FVec Ideal S3x1024 .f32) (h : w = val_main_v6 (F := Ideal) x7) (i : Fin 3) (d : Fin 1024) :
    val_main_v10 (F := Ideal) x7 (ix2 i d) = Ideal.div (w (ix2 i d)) (∑ k : Fin 3, w (ix2 k d)) := by
  unfold val_main_v10 val_main_v9 val_main_v8 val_main_v7
  rw [← h]
  pointwise [val_main_cst_1]

/-- The share of logit `i` among the three of a column. -/
def shareR (i : Fin 3) (d : Fin 1024) : EReal :=
  Ideal.div (Ideal.exp (x7 (ix2 i d) - max ⊥ (topLogit x7 d))) (∑ k : Fin 3, Ideal.exp (x7 (ix2 k d) - max ⊥ (topLogit x7 d)))

theorem share_at (i : Fin 3) (d : Fin 1024) : val_main_v10 (F := Ideal) x7 (ix2 i d) = shareR x7 i d := by
  rw [share_of x7 _ rfl]
  unfold shareR
  simp only [exp_at]

/-- THE LOWER BOUND of the second layer's forget gate. -/
theorem bound_at (d : Fin 1024) : val_main_v57 (F := Ideal) x7 (ix1 d) = shareR x7 0 d + shareR x7 1 d := by
  rw [← share_at, ← share_at]
  have h : val_main_v57 (F := Ideal) x7 (ix1 d) = val_main_v11 (F := Ideal) x7 (ix2 1 d) := by
    unfold val_main_v57 val_main_v56
    generalize val_main_v11 (F := Ideal) x7 = y
    pointwise
  rw [h]
  unfold val_main_v11
  generalize val_main_v10 (F := Ideal) x7 = y
  have z : (val_main_call0_call0_v0 (F := Ideal)) (Shape.Idx.first Gen.h_S_) = (0 : EReal) := by
    pointwise [val_main_call0_call0_v0, val_main_call0_call0_cst]
  refine Eq.trans ?_ (window_at y Gen.reduceWindows_S3x1024_S3x1024_w3s1p2_0_w1s1p0_0 d)
  show Ideal.hostReduceWindowAdd ![3, 1] ![1, 1] ![2, 0] ![0, 0] Gen.reduceWindows_S3x1024_S3x1024_w3s1p2_0_w1s1p0_0 y ((val_main_call0_call0_v0 (F := Ideal)) (Shape.Idx.first Gen.h_S_)) _ = _
  rw [z]

end Cert.InReferenceIdeal.Trunk

end
-- ==== Proof.Trunk.InReal.lean ====
/- Real numbers among the extended reals, and the scalar identities the input projection uses. -/
module

public import proofs.«01_k».proof.Proof.Swa.Cell
public import proofs.«01_k».proof.Proof.Trunk.InRow

@[expose] public section

noncomputable section

namespace Cert.Trunk

open Idealize.ShloMosaic
open Cert.Swa (log2e)

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : Nat} {f : Fin n → EReal} (h : ∀ k, IsReal (f k)) : IsReal (∑ k, f k) := by
  choose g hg using h
  exact ⟨∑ k, g k, by rw [← Cert.Swa.coe_sum]; exact Finset.sum_congr rfl fun k _ => hg k⟩

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem scale : Ideal.ofBits .f32 0x3DB504F3#32 = ((11863283 / 134217728 : ℝ) : EReal) := by
  simp [Ideal.ofBits, Ideal.ieee, -EReal.coe_mul]; norm_num

theorem small : ∃ ε : ℝ, 0 < ε ∧ Ideal.ofBits .f32 0x358637BD#32 = (ε : EReal) :=
  ⟨8796093 / 2 ^ 43, by positivity, by simp [Ideal.ofBits, Ideal.ieee, -EReal.coe_mul]; norm_num⟩

theorem square_nonneg (x : EReal) : 0 ≤ x * x := by
  induction x using EReal.rec with
  | bot => rw [EReal.bot_mul_bot]; exact le_top
  | coe a => rw [← EReal.coe_mul]; exact EReal.coe_nonneg.mpr (mul_self_nonneg a)
  | top => rw [EReal.top_mul_top]; exact le_top

theorem isReal_or_square (x : EReal) : IsReal x ∨ x * x = ⊤ := by
  induction x using EReal.rec with
  | bot => exact Or.inr EReal.bot_mul_bot
  | coe a => exact Or.inl ⟨a, rfl⟩
  | top => exact Or.inr EReal.top_mul_top

theorem factor_real {y : Fin 1024 → EReal} (h : ∀ e, IsReal (y e)) : IsReal (factor y) := by
  choose g hg using h
  obtain ⟨ε, hε, he⟩ := small
  have hs : (∑ e, y e * y e) = ((∑ e, g e * g e : ℝ) : EReal) := by
    rw [← Cert.Swa.coe_sum]
    exact Finset.sum_congr rfl fun e _ => by rw [hg e, EReal.coe_mul]
  have hp : 0 < (∑ e, g e * g e) * (1 / 1024) + ε := by
    have : 0 ≤ ∑ e, g e * g e := Finset.sum_nonneg fun e _ => mul_self_nonneg _
    positivity
  unfold factor
  rw [hs, width, he, Ideal.div_coe (by norm_num), ← EReal.coe_mul, ← EReal.coe_add, Ideal.rsqrt_coe, if_neg (not_lt.mpr hp.le), if_neg hp.ne']
  exact ⟨_, rfl⟩

/-- A row with an infinite entry is normalised to zeros. -/
theorem factor_infinite {y : Fin 1024 → EReal} {e : Fin 1024} (h : y e * y e = ⊤) : factor y = 0 := by
  obtain ⟨ε, hε, he⟩ := small
  have hs : (∑ e, y e * y e) = ⊤ :=
    top_le_iff.mp (h ▸ Finset.single_le_sum (f := fun e => y e * y e) (fun e _ => square_nonneg (y e)) (Finset.mem_univ e))
  unfold factor
  rw [hs, width, he, Ideal.div_coe (by norm_num), EReal.top_mul_coe_of_pos (by norm_num), EReal.top_add_coe]
  rfl

/-- A normalised row is real where its gains are, whatever the row. -/
theorem normed_real (y : Fin 1024 → EReal) {g : Fin 1024 → EReal} (hg : ∀ e, IsReal (g e)) (d : Fin 1024) : IsReal (normed y g d) := by
  by_cases h : ∀ e, IsReal (y e)
  · exact ((h d).mul (factor_real h)).mul (hg d)
  · obtain ⟨e, he⟩ := not_forall.mp h
    unfold normed
    rw [factor_infinite ((isReal_or_square (y e)).resolve_left he), mul_zero, zero_mul]
    exact ⟨0, rfl⟩

/-- The logistic function. -/
def logistic (x : ℝ) : ℝ := 1 / (1 + Real.exp (-x))

theorem logistic_pos (x : ℝ) : 0 < logistic x := by unfold logistic; positivity

theorem tanh_half (x : ℝ) : Real.tanh (1 / 2 * x) = 2 * logistic x - 1 := by
  have h : Real.exp (-x) = Real.exp (-(1 / 2 * x)) * Real.exp (-(1 / 2 * x)) := by rw [← Real.exp_add]; ring_nf
  have h1 : Real.exp (1 / 2 * x) * Real.exp (-(1 / 2 * x)) = 1 := by rw [← Real.exp_add, add_neg_cancel, Real.exp_zero]
  have p : 0 < Real.exp (1 / 2 * x) := Real.exp_pos _
  have q : 0 < Real.exp (-(1 / 2 * x)) := Real.exp_pos _
  rw [Real.tanh_eq_sinh_div_cosh, Real.sinh_eq, Real.cosh_eq]
  unfold logistic
  rw [h]
  generalize Real.exp (1 / 2 * x) = u at *
  generalize Real.exp (-(1 / 2 * x)) = w at *
  have hu : u = 1 / w := by field_simp; linarith
  subst hu
  field_simp
  ring

theorem recip_coe (x : ℝ) : Ideal.div 1 (1 + Ideal.exp (-(x : EReal))) = (logistic x : EReal) := by
  have p : (1 + Real.exp (-x)) ≠ 0 := by positivity
  rw [← EReal.coe_neg, Ideal.exp_coe, ← EReal.coe_one, ← EReal.coe_add, Ideal.div_coe p, ← EReal.coe_mul, one_mul]
  rfl

theorem recip_neg_coe (x : ℝ) : Ideal.div 1 (1 + Ideal.exp (-(-(x : EReal)))) = ((1 - logistic x : ℝ) : EReal) := by
  have h := recip_coe (-x)
  rw [EReal.coe_neg] at h
  rw [h]
  congr 1
  unfold logistic
  have h1 : Real.exp x * Real.exp (-x) = 1 := by rw [← Real.exp_add, add_neg_cancel, Real.exp_zero]
  have p : 0 < Real.exp x := Real.exp_pos _
  have q : 0 < Real.exp (-x) := Real.exp_pos _
  rw [neg_neg]
  generalize Real.exp x = u at *
  generalize Real.exp (-x) = w at *
  have hu : u = 1 / w := by field_simp; linarith
  subst hu
  field_simp
  ring

theorem tanh_coe (x : ℝ) : Ideal.tanh (Ideal.ofBits .f32 0x3F000000#32 * (x : EReal)) = ((2 * logistic x - 1 : ℝ) : EReal) := by
  rw [half, ← EReal.coe_mul, Ideal.tanh_coe, tanh_half]

theorem logadd (a b : ℝ) : max a b + Real.log (1 + Real.exp (-(max (a - b) (-(a - b))))) = Real.log (Real.exp a + Real.exp b) := by
  have key : ∀ a b : ℝ, b ≤ a → a + Real.log (1 + Real.exp (-(a - b))) = Real.log (Real.exp a + Real.exp b) := fun a b _ => by
    have : Real.exp a + Real.exp b = Real.exp a * (1 + Real.exp (-(a - b))) := by
      rw [mul_add, mul_one, ← Real.exp_add]; ring_nf
    rw [this, Real.log_mul (Real.exp_pos a).ne' (by positivity), Real.log_exp]
  rcases le_total b a with h | h
  · rw [max_eq_left h, max_eq_left (by linarith)]
    exact key a b h
  · rw [max_eq_right h, max_eq_right (by linarith), add_comm (Real.exp a), ← key b a h]
    ring_nf

theorem log1p_coe {x : ℝ} (h : 0 < 1 + x) : Ideal.log1p (x : EReal) = (Real.log (1 + x) : EReal) := by
  unfold Ideal.log1p
  rw [← EReal.coe_one, ← EReal.coe_add, Ideal.log_coe, if_neg (not_le.mpr h)]

theorem max_coe (a b : ℝ) : max (a : EReal) (b : EReal) = ((max a b : ℝ) : EReal) :=
  ((EReal.coe_strictMono.monotone).map_max).symm

theorem logadd_coe (a b : ℝ) : max (a : EReal) (b : EReal)
      + Ideal.log1p (Ideal.exp (-(max ((a : EReal) - (b : EReal)) (-((a : EReal) - (b : EReal))))))
    = (Real.log (Real.exp a + Real.exp b) : EReal) := by
  rw [← EReal.coe_sub, ← EReal.coe_neg, max_coe, max_coe, ← EReal.coe_neg, Ideal.exp_coe, log1p_coe (by positivity), ← EReal.coe_add, logadd]

/-- The logarithm of one plus an exponential. -/
theorem softplus_coe (y : ℝ) : max (y : EReal) 0 + Ideal.log1p (Ideal.exp (-(max (y : EReal) (-(y : EReal)))))
    = (Real.log (Real.exp y + 1) : EReal) := by
  have h := logadd_coe y 0
  rw [EReal.coe_zero, sub_zero, Real.exp_zero] at h
  exact h

/-- The bound's two ways of being computed: the sum over the total, and the sum of the shares. -/
theorem shares_coe (a b s : ℝ) (hs : 0 < s) :
    Ideal.div ((a : EReal) + (b : EReal)) (s : EReal) = Ideal.div (a : EReal) (s : EReal) + Ideal.div (b : EReal) (s : EReal) := by
  rw [Ideal.div_coe hs.ne', Ideal.div_coe hs.ne', Ideal.div_coe hs.ne', ← EReal.coe_add, ← EReal.coe_mul, ← EReal.coe_mul, ← EReal.coe_mul,
    ← EReal.coe_add, add_mul]

theorem fold_real {n : Nat} (hn : 0 < n) (g : Fin n → ℝ) : ∃ M : ℝ, (Finset.univ.fold max ⊥ fun k => (g k : EReal)) = (M : EReal) := by
  have h1 : (Finset.univ.fold max ⊥ fun k => (g k : EReal)) ≠ ⊥ := fun h => by
    have : (g ⟨0, hn⟩ : EReal) ≤ ⊥ := h ▸ (Finset.le_fold_max _).mpr (Or.inr ⟨⟨0, hn⟩, Finset.mem_univ _, le_rfl⟩)
    exact EReal.coe_ne_bot _ (le_bot_iff.mp this)
  have h2 : (Finset.univ.fold max ⊥ fun k => (g k : EReal)) ≠ ⊤ :=
    ((Finset.fold_max_lt _).mpr ⟨bot_lt_top, fun k _ => EReal.coe_lt_top _⟩).ne
  exact ⟨_, (EReal.coe_toReal h2 h1).symm⟩

theorem fold_scaled {n : Nat} (g : Fin n → EReal) :
    (Finset.univ.fold max ⊥ fun k => g k * (log2e : EReal)) = (Finset.univ.fold max ⊥ g) * (log2e : EReal) := by
  have h := Finset.fold_hom (op := (max : EReal → EReal → EReal)) (op' := max) (b := ⊥) (f := g) (s := Finset.univ)
    (m := fun x : EReal => x * (log2e : EReal)) (fun x y => Cert.Swa.mul_log2e_mono.map_max)
  rw [← h, Cert.Swa.bot_mul_log2e]

/-- THE MEMORY BRANCH'S IDEA: weights in base two of scores in base two are the weights of the scores, and the division by
    their sum may come last. -/
theorem mean_eq {n : Nat} (hn : 0 < n) (g : Fin n → ℝ) (v : Fin n → EReal) :
    (∑ j, Ideal.exp2 ((g j : EReal) * (log2e : EReal) - Finset.univ.fold max ⊥ fun k => (g k : EReal) * (log2e : EReal)) * v j)
        * Ideal.div 1 (∑ j, Ideal.exp2 ((g j : EReal) * (log2e : EReal) - Finset.univ.fold max ⊥ fun k => (g k : EReal) * (log2e : EReal)))
      = ∑ j, v j * Ideal.div (Ideal.exp ((g j : EReal) - max ⊥ (Finset.univ.fold max ⊥ fun k => (g k : EReal))))
          (∑ i, Ideal.exp ((g i : EReal) - max ⊥ (Finset.univ.fold max ⊥ fun k => (g k : EReal)))) := by
  obtain ⟨M, hM⟩ := fold_real hn g
  rw [fold_scaled, hM, max_eq_right bot_le]
  simp only [Cert.Swa.exp2_scaled, Cert.Swa.exp_sub_coe]
  rw [Cert.Swa.coe_sum]
  have hp : 0 < ∑ j, Real.exp (g j - M) :=
    Finset.sum_pos (fun _ _ => Real.exp_pos _) ⟨⟨0, hn⟩, Finset.mem_univ _⟩
  rw [Ideal.div_coe hp.ne', one_mul, Cert.Swa.sum_mul_coe _ _ _ (by positivity)]
  refine Finset.sum_congr rfl fun j _ => ?_
  rw [Ideal.div_coe hp.ne', mul_comm (Real.exp _ : EReal) (v j), mul_assoc]

end Cert.Trunk

end
-- ==== Proof.Trunk.InScalar.lean ====
/- The input projection's gates, keys and memory read-outs: the kernel's expressions and the reference's agree on real numbers. -/
module

public import proofs.«01_k».proof.Proof.Trunk.InArray
public import proofs.«01_k».proof.Proof.Trunk.InRef
public import proofs.«01_k».proof.Proof.Trunk.InBound
public import proofs.«01_k».proof.Proof.Trunk.InReal

@[expose] public section

noncomputable section

namespace Cert.Trunk

open Idealize.ShloMosaic
open Cert.Swa (log2e)
open Cert.InKernelIdeal.Trunk (siluK forgetK keyK memoryK rowScore memCol headOf)
open Cert.InReferenceIdeal.Trunk (siluR keyR softplusR logaddR forgetR scoreR weightR meanR topLogit shareR)

theorem named_log2e : Named.named (F := Ideal) (φ := .f32) Cert.InKernelIdeal.κ "log2e" 0x3FB8AA3B#32 = (log2e : EReal) :=
  IdealRules.named_const.ideal_named_scalar _ _ _ _ rfl

theorem named_scale : Named.named (F := Ideal) (φ := .f32) Cert.InKernelIdeal.κ "mem_scale" 0x3E0293EE#32
    = ((11863283 / 134217728 * log2e : ℝ) : EReal) :=
  IdealRules.named_const.ideal_named_scalar _ _ _ _ rfl

theorem silu_coe (x : ℝ) : siluK (x : EReal) = siluR (x : EReal) := by
  unfold siluK siluR
  rw [tanh_coe, half, recip_coe, ← EReal.coe_mul, ← EReal.coe_mul, ← EReal.coe_mul, ← EReal.coe_add]
  congr 1
  ring

theorem siluR_real (x : ℝ) : siluR (x : EReal) = ((x * logistic x : ℝ) : EReal) := by
  unfold siluR
  rw [recip_coe, ← EReal.coe_mul]

theorem one_sub_coe (l : ℝ) : (1 : EReal) - (l : EReal) = ((1 - l : ℝ) : EReal) := by rw [← EReal.coe_one, ← EReal.coe_sub]

theorem key_coe (l x : ℝ) : keyK (l : EReal) (x : EReal) = keyR (l : EReal) (x : EReal) := by
  unfold keyK keyR
  rw [tanh_coe, half, recip_neg_coe, one_sub_coe, ← EReal.coe_mul, ← EReal.coe_mul, ← EReal.coe_mul, ← EReal.coe_sub]
  congr 1
  ring

theorem log_pos_coe {x : ℝ} (h : 0 < x) : Ideal.log (x : EReal) = (Real.log x : EReal) := by
  rw [Ideal.log_coe, if_neg (not_le.mpr h)]

theorem softplus_neg (x : ℝ) : softplusR (-(x : EReal)) = ((-Real.log (logistic x) : ℝ) : EReal) := by
  unfold softplusR
  rw [← EReal.coe_neg, softplus_coe]
  congr 1
  unfold logistic
  rw [one_div, Real.log_inv, neg_neg, add_comm]

theorem forgetR_coe {l : ℝ} (h0 : 0 < l) (h1 : l < 1) (x : ℝ) :
    forgetR (l : EReal) (x : EReal) = ((Real.log (l + (1 - l) * logistic x) * log2e : ℝ) : EReal) := by
  have hl : 0 < 1 - l := by linarith
  unfold forgetR logaddR
  rw [softplus_neg, log_pos_coe h0, ← EReal.coe_neg, ← EReal.coe_neg, log1p_coe (by linarith), ← EReal.coe_add, logadd_coe, two,
    log_pos_coe (by norm_num : (0:ℝ) < 2), Ideal.div_coe (Real.log_pos (by norm_num)).ne', ← EReal.coe_mul]
  congr 1
  rw [neg_neg, Real.exp_log h0, Real.exp_add, Real.exp_log (by linarith), Real.exp_log (logistic_pos x), one_div]
  rfl

theorem forgetK_coe {l : ℝ} (h0 : 0 < l) (h1 : l < 1) (x : ℝ) :
    forgetK (l : EReal) (x : EReal) = ((Real.log (l + (1 - l) * logistic x) * log2e : ℝ) : EReal) := by
  have hl : 0 < 1 - l := by linarith
  have hp : 0 < (1 - l) * logistic x := mul_pos hl (logistic_pos x)
  unfold forgetK
  rw [tanh_coe, half, named_log2e, one_sub_coe, show (1 : EReal) + (l : EReal) = ((1 + l : ℝ) : EReal) by rw [← EReal.coe_one, ← EReal.coe_add],
    ← EReal.coe_mul, ← EReal.coe_mul, ← EReal.coe_mul, ← EReal.coe_add, max_coe,
    show 1 / 2 * (1 + l) + 1 / 2 * (1 - l) * (2 * logistic x - 1) = l + (1 - l) * logistic x by ring,
    max_eq_left (by linarith), log_pos_coe (by linarith), ← EReal.coe_mul]

theorem forget_coe {l : ℝ} (h0 : 0 < l) (h1 : l < 1) (x : ℝ) : forgetK (l : EReal) (x : EReal) = forgetR (l : EReal) (x : EReal) := by
  rw [forgetK_coe h0 h1, forgetR_coe h0 h1]

/-- The bound of the forget gate, as the kernel and the reference compute it: the same number, between zero and one. -/
theorem bound_real (x7 : FVec Ideal ⟨2, ![3, 1024]⟩ .f32) (h : ∀ i, IsReal (x7 i)) (d : Fin 1024) :
    ∃ l : ℝ, 0 < l ∧ l < 1 ∧ Cert.InKernelIdeal.Gen.k0_pay3 (F := Ideal) x7 (ix2 0 d) = (l : EReal)
      ∧ Cert.InReferenceIdeal.Read.val_main_v57 (F := Ideal) x7 (ix1 d) = (l : EReal) := by
  choose g hg using fun i : Fin 3 => h (ix2 i d)
  obtain ⟨M, hM⟩ := fold_real (by decide : 0 < 3) g
  have hf : (Finset.univ.fold max ⊥ fun i : Fin 3 => x7 (ix2 i d)) = (M : EReal) := by
    rw [← hM]
    exact congrArg (Finset.univ.fold max ⊥) (funext hg)
  have p : ∀ i, 0 < Real.exp (g i - M) := fun i => Real.exp_pos _
  have hs : 0 < Real.exp (g 0 - M) + Real.exp (g 1 - M) + Real.exp (g 2 - M) := add_pos (add_pos (p 0) (p 1)) (p 2)
  have hsum : (∑ i : Fin 3, Ideal.exp (x7 (ix2 i d) - (M : EReal))) = ((Real.exp (g 0 - M) + Real.exp (g 1 - M) + Real.exp (g 2 - M) : ℝ) : EReal) := by
    rw [Fin.sum_univ_three, hg, hg, hg, Cert.Swa.exp_sub_coe, Cert.Swa.exp_sub_coe, Cert.Swa.exp_sub_coe, ← EReal.coe_add, ← EReal.coe_add]
  have hk : Cert.InKernelIdeal.Gen.k0_pay3 (F := Ideal) x7 (ix2 0 d) = Ideal.div ((Real.exp (g 0 - M) : EReal) + (Real.exp (g 1 - M) : EReal))
      ((Real.exp (g 0 - M) + Real.exp (g 1 - M) + Real.exp (g 2 - M) : ℝ) : EReal) := by
    rw [Cert.InKernelIdeal.Trunk.lb_apply, hf, hsum, Fin.sum_univ_two]
    refine congrArg (fun z => Ideal.div z _) (congrArg₂ (· + ·) ?_ ?_)
    · exact (congrArg (fun z => Ideal.exp (z - (M : EReal))) (hg 0)).trans (Cert.Swa.exp_sub_coe _ _)
    · exact (congrArg (fun z => Ideal.exp (z - (M : EReal))) (hg 1)).trans (Cert.Swa.exp_sub_coe _ _)
  refine ⟨(Real.exp (g 0 - M) + Real.exp (g 1 - M)) / (Real.exp (g 0 - M) + Real.exp (g 1 - M) + Real.exp (g 2 - M)),
    div_pos (add_pos (p 0) (p 1)) hs, (div_lt_one hs).mpr (by linarith [p 2]), ?_, ?_⟩
  · rw [hk, Ideal.div_coe hs.ne', ← EReal.coe_add, ← EReal.coe_mul, mul_one_div]
  · rw [Cert.InReferenceIdeal.Trunk.bound_at]
    unfold shareR topLogit
    rw [hf, max_eq_right bot_le, hsum, hg, hg, Cert.Swa.exp_sub_coe, Cert.Swa.exp_sub_coe, ← shares_coe _ _ _ hs,
      Ideal.div_coe hs.ne', ← EReal.coe_add, ← EReal.coe_mul, mul_one_div]

section

variable (p : Fin 5120 → EReal) (x8 : FVec Ideal ⟨4, ![4, 8, 256, 512]⟩ .f32) (hp : ∀ c, IsReal (p c)) (h8 : ∀ i, IsReal (x8 i)) (b : Fin 8) (hh : Fin 4)
include hp h8

/-- The scores of a token and a head are real, and the kernel's are the reference's in base two. -/
theorem scores_real : ∃ g : Fin 256 → ℝ, (∀ j, scoreR x8 p b hh j = (g j : EReal)) ∧ ∀ j, rowScore p x8 b hh j = (g j : EReal) * (log2e : EReal) := by
  choose q hq using fun e : Fin 128 => hp (memQueryCol (headCol hh e))
  choose k hk using fun j : Fin 256 => fun e : Fin 128 => h8 (ix4 1 b j (headCol hh e))
  have hcol : ∀ e : Fin 128, memCol hh e = headCol hh e := fun e => Fin.ext (by simp only [memCol, headCol]; omega)
  refine ⟨fun j => (∑ e, q e * k j e) * (11863283 / 134217728), fun j => ?_, fun j => ?_⟩
  · unfold scoreR
    rw [scale, EReal.coe_mul, ← Cert.Swa.coe_sum]
    exact congrArg (· * _) (Finset.sum_congr rfl fun e _ => by rw [hq, hk, EReal.coe_mul])
  · have h : ∀ e : Fin 128, p ⟨4096 + memCol hh e, by omega⟩ * Named.named (F := Ideal) (φ := .f32) Cert.InKernelIdeal.κ "mem_scale" 0x3E0293EE#32
        * x8 (ix4 1 b j (memCol hh e)) = ((q e * (11863283 / 134217728 * log2e) * k j e : ℝ) : EReal) := fun e => by
      rw [named_scale, show p ⟨4096 + memCol hh e, by omega⟩ = p (memQueryCol (headCol hh e)) from congrArg (fun z => p (memQueryCol z)) (hcol e),
        hcol, hq, hk, ← EReal.coe_mul, ← EReal.coe_mul]
    unfold rowScore
    rw [Finset.sum_congr rfl fun e _ => h e, Cert.Swa.coe_sum, ← EReal.coe_mul]
    congr 1
    show _ = (∑ e, q e * k j e) * (11863283 / 134217728) * log2e
    rw [Finset.sum_mul, Finset.sum_mul]
    exact Finset.sum_congr rfl fun e _ => by ring

theorem memory_coe (v : Fin 256 → EReal) (x : ℝ) :
    memoryK (rowScore p x8 b hh) v (x : EReal) = meanR (scoreR x8 p b hh) v * siluR (x : EReal) := by
  obtain ⟨g, h1, h2⟩ := scores_real p x8 hp h8 b hh
  rw [funext h2, funext h1]
  unfold memoryK meanR weightR
  rw [silu_coe]
  exact congrArg (· * _) (mean_eq (by decide) g v)

end

end Cert.Trunk

end
-- ==== Proof.Trunk.InFinite.lean ====
/- What the input projection's precondition says: the layer's gain and weights, the bound's logits and the memory's keys
are real numbers. -/
module

public import proofs.«01_k».proof.Pre_a_finite
public import proofs.«01_k».proof.Proof.Swa.Finite
public import proofs.«01_k».proof.Proof.Trunk.InReal

@[expose] public section

noncomputable section

namespace Cert.Trunk

open Cert.Pre_a_finite Idealize.ShloMosaic

instance arrayFacts : Cert.Pre_a_finite.Facts where
  bcast_S_S4x1024 := by decide
  bcast_S_S2x1024x5120 := by decide
  bcast_S_S3x1024 := by decide
  bcast_S_S4x8x256x512 := by decide

theorem one_true {p : Prop} [Decidable p] (h : BitVec.ofBool (decide p) = 1#1) : p := by
  by_cases hp : p <;> simp_all

theorem real_of {S : Shape} (x : FVec Ideal S .f32) (b : S_.BroadcastsInDim S (![] : Fin 0 → Fin S.rank))
    (h : cmpf .olt (Host.absf x) (broadcastInDim S ![] b (constant (F := Ideal) S_ .f32 0x7F800000#32)) = fun _ => 1#1) (i : S.Idx) : IsReal (x i) := by
  have h1 : (max (x i : EReal) (-(x i : EReal))) < Ideal.ofBits .f32 0x7F800000#32 := one_true (congrFun h i)
  rw [Cert.Swa.highest] at h1
  exact ⟨_, Cert.Swa.absf_real _ h1⟩

variable {x0 x1 : FVec Ideal S8x2048x1024 .f32} {x2 : FVec Ideal S8x2048x512 .f32} {x3 : FVec Ideal S2x1536x1024 .f32} {x4 x5 : FVec Ideal S4x1024 .f32}
  {x6 : FVec Ideal S2x1024x5120 .f32} {x7 : FVec Ideal S3x1024 .f32} {x8 x9 : FVec Ideal S4x8x256x512 .f32}

/-- The gain, the weights, the logits and the memory's keys are real numbers. -/
structure InReals (x5 : FVec Ideal S4x1024 .f32) (x6 : FVec Ideal S2x1024x5120 .f32) (x7 : FVec Ideal S3x1024 .f32)
    (x8 : FVec Ideal S4x8x256x512 .f32) : Prop where
  r5 : ∀ i, IsReal (x5 i)
  r6 : ∀ i, IsReal (x6 i)
  r7 : ∀ i, IsReal (x7 i)
  r8 : ∀ i, IsReal (x8 i)

theorem inReals_of {u : IVec S4x1024 1 × IVec S2x1024x5120 1 × IVec S3x1024 1 × IVec S4x8x256x512 1}
    (hu : fn (F := Ideal) x0 x1 x2 x3 x4 x5 x6 x7 x8 x9 = u)
    (h : u.1 = (fun _ => 1#1) ∧ u.2.1 = (fun _ => 1#1) ∧ u.2.2.1 = (fun _ => 1#1) ∧ u.2.2.2 = (fun _ => 1#1)) : InReals x5 x6 x7 x8 := by
  subst hu
  obtain ⟨h5, h6, h7, h8⟩ := h
  exact ⟨real_of x5 _ h5, real_of x6 _ h6, real_of x7 _ h7, real_of x8 _ h8⟩

theorem InReals.proj (h : InReals x5 x6 x7 x8) (b : Fin 8) (s : Fin 2048) (c : Fin 5120) : IsReal (rowProj x0 x1 x2 x3 x4 x5 x6 b s c) :=
  IsReal.sum fun e => (normed_real _ (fun _ => h.r5 _) e).mul (h.r6 _)

end Cert.Trunk

end
-- ==== Proof.Trunk.InEqual.lean ====
/- The input projection's call and its reference give the same seven arrays. -/
module

public import proofs.«01_k».proof.Proof.Trunk.InScalar
public import proofs.«01_k».proof.Proof.Trunk.InFinite

@[expose] public section

noncomputable section

namespace Cert.Trunk

open Cert.InKernelIdeal Idealize.ShloMosaic Idealize.ShloMosaic.TcCoe Idealize.SL.Sem
open Cert.InReferenceIdeal.Read (val_main_v118 val_main_v120 val_main_v124 val_main_v126 val_main_v128 val_main_v131 val_main_v133)

variable (m : (ℓ : Loc nD τ sig) → Buf (Elt Ideal) ℓ) (c : Dev nD)
variable (h : InReals (m ((c.tc : Thread nD τ).loc main_arg5)) (m ((c.tc : Thread nD τ).loc main_arg6)) (m ((c.tc : Thread nD τ).loc main_arg7)) (m ((c.tc : Thread nD τ).loc main_arg8)))

theorem stream_eq_ref : (Gen.dats m 0 c).arrAt 10 cfg0.N = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Trunk.stream_array]
  funext y
  obtain ⟨T, d, rfl⟩ : ∃ (T : Fin 16384) (d : Fin 1024), y = ix2 T d := ⟨y 0, y 1, funext fun a => by fin_cases a <;> rfl⟩
  exact (Cert.InReferenceIdeal.Trunk.stream_out _ _ _ _ _ T d).symm

theorem value_eq_ref : (Gen.dats m 0 c).arrAt 14 cfg0.N = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Trunk.value_array]
  funext y
  obtain ⟨T, d, rfl⟩ : ∃ (T : Fin 16384) (d : Fin 1024), y = ix2 T d := ⟨y 0, y 1, funext fun a => by fin_cases a <;> rfl⟩
  exact (Cert.InReferenceIdeal.Trunk.value_out _ _ _ _ _ _ _ T d).symm

include h

theorem query_eq_ref : (Gen.dats m 0 c).arrAt 11 cfg0.N = val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Trunk.query_array]
  funext y
  obtain ⟨T, d, rfl⟩ : ∃ (T : Fin 16384) (d : Fin 1024), y = ix2 T d := ⟨y 0, y 1, funext fun a => by fin_cases a <;> rfl⟩
  obtain ⟨x, hx⟩ := h.proj (seqOf T) (posOf T) (queryCol d)
  refine Eq.trans ?_ (Cert.InReferenceIdeal.Trunk.query_out _ _ _ _ _ _ _ T d).symm
  exact (congrArg Trunk.siluK hx).trans ((silu_coe x).trans (congrArg Cert.InReferenceIdeal.Trunk.siluR hx.symm))

theorem gate_eq_ref : (Gen.dats m 0 c).arrAt 15 cfg0.N = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Trunk.gate_array]
  funext y
  obtain ⟨T, d, rfl⟩ : ∃ (T : Fin 16384) (d : Fin 1024), y = ix2 T d := ⟨y 0, y 1, funext fun a => by fin_cases a <;> rfl⟩
  obtain ⟨x, hx⟩ := h.proj (seqOf T) (posOf T) (gateCol d)
  refine Eq.trans ?_ (Cert.InReferenceIdeal.Trunk.gate_out _ _ _ _ _ _ _ T d).symm
  exact (congrArg Trunk.siluK hx).trans ((silu_coe x).trans (congrArg Cert.InReferenceIdeal.Trunk.siluR hx.symm))

theorem forget_eq_ref : (Gen.dats m 0 c).arrAt 12 cfg0.N = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Trunk.forget_array]
  funext y
  obtain ⟨T, d, rfl⟩ : ∃ (T : Fin 16384) (d : Fin 1024), y = ix2 T d := ⟨y 0, y 1, funext fun a => by fin_cases a <;> rfl⟩
  obtain ⟨x, hx⟩ := h.proj (seqOf T) (posOf T) (forgetCol d)
  obtain ⟨l, h0, h1, hk, hr⟩ := bound_real _ h.r7 d
  refine Eq.trans ?_ (Cert.InReferenceIdeal.Trunk.forget_out _ _ _ _ _ _ _ _ T d).symm
  exact (congrArg₂ Trunk.forgetK hk hx).trans ((forget_coe h0 h1 x).trans (congrArg₂ Cert.InReferenceIdeal.Trunk.forgetR hr.symm hx.symm))

theorem key_eq_ref : (Gen.dats m 0 c).arrAt 13 cfg0.N = val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Trunk.key_array]
  funext y
  obtain ⟨T, d, rfl⟩ : ∃ (T : Fin 16384) (d : Fin 1024), y = ix2 T d := ⟨y 0, y 1, funext fun a => by fin_cases a <;> rfl⟩
  obtain ⟨x, hx⟩ := h.proj (seqOf T) (posOf T) (forgetCol d)
  obtain ⟨l, h0, h1, hk, hr⟩ := bound_real _ h.r7 d
  refine Eq.trans ?_ (Cert.InReferenceIdeal.Trunk.key_out _ _ _ _ _ _ _ _ T d).symm
  exact (congrArg₂ Trunk.keyK hk hx).trans ((key_coe l x).trans (congrArg₂ Cert.InReferenceIdeal.Trunk.keyR hr.symm hx.symm))

theorem memory_eq_ref : (Gen.dats m 0 c).arrAt 16 cfg0.N = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) := by
  rw [Trunk.memory_array]
  funext y
  obtain ⟨T, d, rfl⟩ : ∃ (T : Fin 16384) (d : Fin 512), y = ix2 T d := ⟨y 0, y 1, funext fun a => by fin_cases a <;> rfl⟩
  obtain ⟨x, hx⟩ := h.proj (seqOf T) (posOf T) (memGateCol d)
  refine Eq.trans ?_ (Cert.InReferenceIdeal.Trunk.memory_out _ _ _ _ _ _ _ _ _ T d).symm
  have e := memory_coe _ _ (fun k => h.proj (x0 := m ((c.tc : Thread nD τ).loc main_arg0)) (x1 := m ((c.tc : Thread nD τ).loc main_arg1)) (x2 := m ((c.tc : Thread nD τ).loc main_arg2)) (x3 := m ((c.tc : Thread nD τ).loc main_arg3)) (x4 := m ((c.tc : Thread nD τ).loc main_arg4)) (seqOf T) (posOf T) k) h.r8 (seqOf T) (colHead d)
    (fun j => (m ((c.tc : Thread nD τ).loc main_arg9) : FVec Ideal S4x8x256x512 .f32) (ix4 1 (seqOf T) j d)) x
  rw [← hx] at e
  exact e

end Cert.Trunk

end
-- ==== Proof.Trunk.BRow.lean ====
/- The sliding-window layer's input projection's rows, from the call's arguments. -/
module

public import proofs.«01_k».proof.Proof.Trunk.InRow

@[expose] public section

noncomputable section

namespace Cert.Trunk

open Idealize.ShloMosaic

variable (x0 x1 : FVec Ideal ⟨3, ![8, 2048, 1024]⟩ .f32) (x2 : FVec Ideal ⟨3, ![8, 2048, 512]⟩ .f32)
  (x3 : FVec Ideal ⟨3, ![2, 1536, 1024]⟩ .f32) (x4 x5 : FVec Ideal ⟨2, ![4, 1024]⟩ .f32)
  (x6 : FVec Ideal ⟨3, ![2, 1024, 3072]⟩ .f32)

/-- The residual stream's new value at a token. -/
def bStream (b : Fin 8) (s : Fin 2048) (d : Fin 1024) : EReal :=
  x0 (ix3 b s d) + normed (fun d => mixed (fun e => x1 (ix3 b s e)) (fun e => x2 (ix3 b s e)) (fun e => x3 (ix3 1 e d)))
    (fun e => x4 (ix2 1 e)) d

/-- The layer's normalised input at a token. -/
def bInput (b : Fin 8) (s : Fin 2048) : Fin 1024 → EReal := normed (bStream x0 x1 x2 x3 x4 b s) (fun e => x5 (ix2 2 e))

/-- The projection of a token, column `c`. -/
def bProj (b : Fin 8) (s : Fin 2048) (c : Fin 3072) : EReal := ∑ e : Fin 1024, bInput x0 x1 x2 x3 x4 x5 b s e * x6 (ix3 0 e c)

/-- The column of the projection that holds column `d` of the query. -/
def bQuery (d : Fin 1024) : Fin 3072 := ⟨d, by omega⟩

/-- The column of the projection that holds column `d` of the output gate. -/
def bGate (d : Fin 1024) : Fin 3072 := ⟨1024 + d, by omega⟩

/-- The column of the projection that holds column `d` of the memory query. -/
def bMemQuery (d : Fin 512) : Fin 3072 := ⟨2048 + d, by omega⟩

/-- The column of the projection that holds column `d` of the memory gate. -/
def bMemGate (d : Fin 512) : Fin 3072 := ⟨2560 + d, by omega⟩

/-- The query's column that the rotation pairs with column `d`: the other half of the same head. -/
def pairCol (d : Fin 1024) : Fin 1024 := if d.val % 64 < 32 then ⟨d / 64 * 64 + (d % 64 + 32) % 64, by omega⟩ else ⟨d - 32, by omega⟩

/-- The rotation's angle that turns column `d`. -/
def angle (d : Fin 1024) : Fin 32 := ⟨d % 32, by omega⟩

end Cert.Trunk

end
-- ==== Proof.Trunk.BBody.lean ====
/- What the sliding-window layer's input projection stores, at an index: the stored values as functions of one sub-tile of
   256 rows, the same functions for both sub-tiles. -/
module

public import proofs.«01_k».proof.Proof.Trunk.InBlock
public import proofs.«01_k».proof.Proof.Gen.BKernelIdeal.Frame
public import Idealize.ShloMosaic.Lib.Pipeline.ValueKit

@[expose] public section

noncomputable section

namespace Cert.BKernelIdeal.Trunk

open Cert.BKernelIdeal Cert.BKernelIdeal.Gen Cert.Trunk Idealize.ShloMosaic Idealize.ShloMosaic.TcCoe Idealize.SL.Sem
open Cert.InKernelIdeal.Trunk (siluK memCol)

section

variable {F : FTy → Type} [FloatOps F] [Named F]

theorem slices_head (hh : Fin 4) : S256x512.Slices ![0, 128 * hh.val] S256x128 :=
  match hh with
  | 0 => slices_S256x512_o0_0_S256x128
  | 1 => slices_S256x512_o0_128_S256x128
  | 2 => slices_S256x512_o0_256_S256x128
  | 3 => slices_S256x512_o0_384_S256x128

theorem slices_lanes (cb : Fin 8) : S256x1024.Slices ![0, 128 * cb.val] S256x128 :=
  match cb with
  | 0 => slices_S256x1024_o0_0_S256x128
  | 1 => slices_S256x1024_o0_128_S256x128
  | 2 => slices_S256x1024_o0_256_S256x128
  | 3 => slices_S256x1024_o0_384_S256x128
  | 4 => slices_S256x1024_o0_512_S256x128
  | 5 => slices_S256x1024_o0_640_S256x128
  | 6 => slices_S256x1024_o0_768_S256x128
  | 7 => slices_S256x1024_o0_896_S256x128

/-- The queries of memory head `hh`. -/
def queryOf (q : FVec F S256x512 .bf16) (hh : Fin 4) : FVec F S256x128 .bf16 :=
  extractStridedSlice S256x128 ![0, 128 * hh.val] q (slices_head hh)

/-- The weights of the memory's tokens. -/
def weights (q : FVec F S256x128 .bf16) (k : Vec F S1x1x256x128 .bf16) : FVec F S256x256 .f32 :=
  have k' : FVec F S256x128 .bf16 := shapeCast S256x128 k shapeCasts_S1x1x256x128_S256x128
  have s : FVec F S256x256 .f32 := matmul dot_S256x128_S256x128_S256x256_1_1_0_0_n_n none q k' (constant S256x256 .f32 0x00000000#32)
  exp2 (subf s (broadcastTo S256x256 (shapeCast S256x1
    (multiReduction .maximumf [1] S256 s 0xFF800000#32 reduces_S256x256_S256 (.inl rfl) rfl) shapeCasts_S256_S256x1)
    broadcasts_S256x1_S256x256))

/-- The memory's answer of head `hh`, gated. -/
def readout (gate : FVec F S256x512 .f32) (hh : Fin 4) (q : FVec F S256x128 .bf16) (k v : Vec F S1x1x256x128 .bf16) :
    FVec F S256x128 .bf16 :=
  have v' : FVec F S256x128 .bf16 := shapeCast S256x128 v shapeCasts_S1x1x256x128_S256x128
  truncf .bf16 (mulf (mulf (matmul dot_S256x256_S256x128_S256x128_1_0_0_1_n_n none (truncf .bf16 (weights q k) bitsLt_bf16_f32) v'
        (constant S256x128 .f32 0x00000000#32))
      (broadcastTo S256x128 (divf (broadcast S256x1 (Scalar.ofBits .f32 0x3F800000#32)) (shapeCast S256x1
        (multiReduction .add [1] S256 (weights q k) 0x00000000#32 reduces_S256x256_S256 (.inl rfl) rfl) shapeCasts_S256_S256x1))
        broadcasts_S256x1_S256x128))
    (extractStridedSlice S256x128 ![0, 128 * hh.val] gate (slices_head hh))) bitsLt_bf16_f32

/-- The query's columns of block `cb`. -/
def lanes (q : FVec F S256x1024 .f32) (cb : Fin 8) : FVec F S256x128 .f32 :=
  extractStridedSlice S256x128 ![0, 128 * cb.val] q (slices_lanes cb)

/-- The two halves of each head exchanged. -/
def swapped (x : FVec F S256x128 .f32) : FVec F S256x128 .f32 :=
  select k0_pay2 (dynamicRotate 1 96#32 none x rotates_S256x128_d1) (dynamicRotate 1 32#32 none x rotates_S256x128_d1)

/-- The rotated and scaled queries of block `cb`, transposed. -/
def rotated (q : FVec F S256x1024 .f32) (c s : FVec F S256x128 .f32) (cb : Fin 8) : FVec F S128x256 .bf16 :=
  truncf .bf16 (transpose S128x256 [1, 0] (mulf (addf (mulf (lanes q cb) c) (mulf (swapped (lanes q cb)) s))
    (broadcast S256x128 (Named.named κ "swa_scale" 0x3E38AA3B#32))) transposes_S256x128_p1_0_S128x256) bitsLt_bf16_f32

/-- The gate's columns of block `cb`, transposed. -/
def turned (g : FVec F S256x1024 .f32) (cb : Fin 8) : FVec F S128x256 .bf16 :=
  truncf .bf16 (transpose S128x256 [1, 0] (lanes g cb) transposes_S256x128_p1_0_S128x256) bitsLt_bf16_f32

variable (h q G : FVec F S256x1024 .f32) (xn : FVec F S256x1024 .bf16) (mq gate : FVec F S256x512 .f32)
  (a : Vec F S256x1024 .bf16) (w : Vec F S1x1024x1024 .bf16) (b : Vec F S256x512 .bf16) (u : Vec F S1x512x1024 .bf16)
  (x : Vec F S256x1024 .f32) (g p : Vec F S1x1024 .f32) (wm : Vec F S1x1024x512 .bf16) (k v : Vec F S1x1x256x128 .bf16)
  (c s : Vec F S256x128 .f32) (c' s' : FVec F S256x128 .f32)

theorem stream_second : k0_pay9 (k0_pay5 a w b u) (k0_pay6 x) (k0_pay7 g) (k0_pay8 a w b u) = k0_pay3 a w b u x g := rfl
theorem normed_second : k0_pay10 (k0_pay5 a w b u) (k0_pay6 x) (k0_pay7 g) (k0_pay8 a w b u) p = k0_pay4 (k0_pay3 a w b u x g) p := rfl
theorem query_second : k0_pay57 xn w = k0_pay12 xn w := rfl
theorem gate_second : k0_pay89 (k0_pay87 xn w) (k0_pay88 xn w) = k0_pay42 xn w := rfl
theorem memGate_second : k0_pay56 xn wm = k0_pay11 xn wm := rfl

theorem readout_first_0 : k0_pay43 gate (k0_pay16 mq k) (k0_pay17 mq k) v = readout gate 0 (queryOf (k0_pay14 mq) 0) k v := rfl
theorem readout_first_1 : k0_pay44 gate (k0_pay19 mq k) (k0_pay20 mq k) v = readout gate 1 (queryOf (k0_pay14 mq) 1) k v := rfl
theorem readout_first_2 : k0_pay46 (k0_pay45 gate (k0_pay22 (k0_pay21 mq k)) (k0_pay23 (k0_pay21 mq k)) v)
    = readout gate 2 (queryOf (k0_pay14 mq) 2) k v := rfl
theorem readout_first_3 : k0_pay47 gate (k0_pay25 (k0_pay14 mq) k) (k0_pay26 (k0_pay14 mq) k) v
    = readout gate 3 (queryOf (k0_pay14 mq) 3) k v := rfl
theorem readout_second_0 : k0_pay90 gate (k0_pay62 (k0_pay59 xn wm k) (k0_pay60 xn wm k)) (k0_pay63 (k0_pay59 xn wm k) (k0_pay60 xn wm k)) v
    = readout gate 0 (queryOf (k0_pay14 (k0_pay13 xn wm)) 0) k v := rfl
theorem readout_second_1 : k0_pay91 gate (k0_pay65 (k0_pay58 xn wm) k) (k0_pay66 (k0_pay58 xn wm) k) v
    = readout gate 1 (queryOf (k0_pay14 (k0_pay13 xn wm)) 1) k v := rfl
theorem readout_second_2 : k0_pay92 gate (k0_pay68 (k0_pay58 xn wm) k) (k0_pay69 (k0_pay58 xn wm) k) v
    = readout gate 2 (queryOf (k0_pay14 (k0_pay13 xn wm)) 2) k v := rfl
theorem readout_second_3 : k0_pay94 gate (k0_pay72 (k0_pay70 (k0_pay58 xn wm)) k) (k0_pay73 (k0_pay70 (k0_pay58 xn wm)) k) (k0_pay93 v)
      (constant S256x128 .f32 0x00000000#32)
    = readout gate 3 (queryOf (k0_pay14 (k0_pay13 xn wm)) 3) k v := rfl

theorem table_cos : k0_pay27 c = c := shapeCast_self c _
theorem table_sin : k0_pay28 s = s := shapeCast_self s _
theorem table_cos_second : k0_pay74 c = c := shapeCast_self c _
theorem table_sin_second : k0_pay75 s = s := shapeCast_self s _

theorem rotated_first_0 : k0_pay29 k0_pay2 q c s = rotated q (k0_pay27 c) (k0_pay28 s) 0 := rfl
theorem rotated_first_1 : k0_pay33 k0_pay2 c' s' (k0_pay30 q) (k0_pay31 q) (k0_pay32 q) = rotated q c' s' 1 := rfl
theorem rotated_first_2 : k0_pay34 k0_pay2 q c' s' = rotated q c' s' 2 := rfl
theorem rotated_first_3 : k0_pay35 k0_pay2 q c' s' = rotated q c' s' 3 := rfl
theorem rotated_first_4 : k0_pay38 (k0_pay36 k0_pay2 q c' s') k0_pay37 = rotated q c' s' 4 := rfl
theorem rotated_first_5 : k0_pay39 k0_pay2 q c' s' = rotated q c' s' 5 := rfl
theorem rotated_first_6 : k0_pay40 k0_pay2 q c' s' = rotated q c' s' 6 := rfl
theorem rotated_first_7 : k0_pay41 k0_pay2 q c' s' = rotated q c' s' 7 := rfl
theorem rotated_second_0 : k0_pay76 k0_pay2 q c s = rotated q (k0_pay27 c) (k0_pay28 s) 0 := rfl
theorem rotated_second_1 : k0_pay77 k0_pay2 q c s = rotated q (k0_pay27 c) (k0_pay28 s) 1 := rfl
theorem rotated_second_2 : k0_pay78 k0_pay2 q c' s' = rotated q c' s' 2 := rfl
theorem rotated_second_3 : k0_pay79 k0_pay2 q c' s' = rotated q c' s' 3 := rfl
theorem rotated_second_4 : k0_pay80 k0_pay2 q c' s' = rotated q c' s' 4 := rfl
theorem rotated_second_5 : k0_pay84 k0_pay2 c' s' (k0_pay81 q) (k0_pay82 q) (k0_pay83 q) = rotated q c' s' 5 := rfl
theorem rotated_second_6 : k0_pay85 k0_pay2 q c' s' = rotated q c' s' 6 := rfl
theorem rotated_second_7 : k0_pay86 k0_pay2 q c' s' = rotated q c' s' 7 := rfl

theorem turned_first_0 : k0_pay48 G = turned G 0 := rfl
theorem turned_first_1 : k0_pay49 G = turned G 1 := rfl
theorem turned_first_2 : k0_pay50 G = turned G 2 := rfl
theorem turned_first_3 : k0_pay51 G = turned G 3 := rfl
theorem turned_first_4 : k0_pay52 G = turned G 4 := rfl
theorem turned_first_5 : k0_pay53 G = turned G 5 := rfl
theorem turned_first_6 : k0_pay54 G = turned G 6 := rfl
theorem turned_first_7 : k0_pay55 G = turned G 7 := rfl
theorem turned_second_0 : k0_pay95 G = turned G 0 := rfl
theorem turned_second_1 : k0_pay96 G = turned G 1 := rfl
theorem turned_second_2 : k0_pay97 G = turned G 2 := rfl
theorem turned_second_3 : k0_pay98 G = turned G 3 := rfl
theorem turned_second_4 : k0_pay99 G = turned G 4 := rfl
theorem turned_second_5 : k0_pay100 G = turned G 5 := rfl
theorem turned_second_6 : k0_pay101 G = turned G 6 := rfl
theorem turned_second_7 : k0_pay1 (k0_pay102 G) = turned G 7 := rfl

end

/-- The lane that rotation pairs with lane `j`: the other half of the same head. -/
def mate (j : Fin 128) : Fin 128 := if j.val % 64 < 32 then ⟨(j.val + 32) % 128, by omega⟩ else ⟨(j.val + 96) % 128, by omega⟩

/-- Column `j` of block `cb`. -/
def laneCol (cb : Fin 8) (j : Fin 128) : Fin 1024 := ⟨128 * cb + j, by omega⟩

section

variable (h q G : FVec Ideal S256x1024 .f32) (xn : FVec Ideal S256x1024 .bf16) (gate : FVec Ideal S256x512 .f32)
  (a : Vec Ideal S256x1024 .bf16) (w : Vec Ideal S1x1024x1024 .bf16) (b : Vec Ideal S256x512 .bf16) (u : Vec Ideal S1x512x1024 .bf16)
  (x : Vec Ideal S256x1024 .f32) (g p : Vec Ideal S1x1024 .f32) (wm : Vec Ideal S1x1024x512 .bf16) (k v : Vec Ideal S1x1x256x128 .bf16)
  (c s : FVec Ideal S256x128 .f32) (r : Fin 256) (d : Fin 1024)

theorem product_apply : k0_pay5 a w b u (ix2 r d)
    = (∑ e : Fin 1024, a (ix2 r e) * w (ix3 0 e d)) + ∑ e : Fin 512, b (ix2 r e) * u (ix3 0 e d) := by
  pointwise [k0_pay5]

theorem stream_apply : k0_pay3 a w b u x g (ix2 r d)
    = x (ix2 r d) + normed (fun e => k0_pay5 a w b u (ix2 r e)) (fun e => g (ix2 0 e)) d := by
  rw [← stream_second]
  unfold k0_pay9 k0_pay8
  generalize k0_pay5 a w b u = y
  pointwise [k0_pay6, k0_pay7]
  rfl

theorem xn_apply : k0_pay4 h p (ix2 r d) = normed (fun e => h (ix2 r e)) (fun e => p (ix2 0 e)) d := by
  pointwise [k0_pay4]
  rfl

theorem query_apply : k0_pay12 xn w (ix2 r d) = ∑ e : Fin 1024, xn (ix2 r e) * w (ix3 0 e d) := by
  pointwise [k0_pay12]

theorem gate_apply : k0_pay42 xn w (ix2 r d) = siluK (∑ e : Fin 1024, xn (ix2 r e) * w (ix3 0 e d)) := by
  pointwise [k0_pay42]
  rfl

theorem memQuery_apply (c : Fin 512) : k0_pay14 (k0_pay13 xn wm) (ix2 r c)
    = (∑ e : Fin 1024, xn (ix2 r e) * wm (ix3 0 e c)) * Named.named (F := Ideal) (φ := .f32) κ "mem_scale" 0x3E0293EE#32 := by
  pointwise [k0_pay14, k0_pay13]

theorem memGate_apply (c : Fin 512) : k0_pay11 xn wm (ix2 r c) = siluK (∑ e : Fin 1024, xn (ix2 r e) * wm (ix3 0 e c)) := by
  pointwise [k0_pay11]
  rfl

theorem queryOf_apply (q : FVec Ideal S256x512 .bf16) (hh : Fin 4) (d : Fin 128) : queryOf q hh (ix2 r d) = q (ix2 r (memCol hh d)) := by
  unfold memCol
  pointwise [queryOf]

theorem weights_apply (q : FVec Ideal S256x128 .bf16) (j : Fin 256) : weights q k (ix2 r j)
    = Ideal.exp2 ((∑ e : Fin 128, q (ix2 r e) * k (ix4 0 0 j e))
      - Finset.univ.fold max ⊥ fun j : Fin 256 => ∑ e : Fin 128, q (ix2 r e) * k (ix4 0 0 j e)) := by
  pointwise [weights]
  rw [show Ideal.ofBits FTy.f32 4286578688#32 = ⊥ by simp [Ideal.ofBits, Ideal.ieee]]
  rfl

theorem readout_apply (hh : Fin 4) (q : FVec Ideal S256x128 .bf16) (d : Fin 128) : readout gate hh q k v (ix2 r d)
    = (∑ j : Fin 256, weights q k (ix2 r j) * v (ix4 0 0 j d)) * Ideal.div 1 (∑ j : Fin 256, weights q k (ix2 r j))
      * gate (ix2 r (memCol hh d)) := by
  unfold readout
  generalize weights q k = z
  unfold memCol
  pointwise

theorem lanes_apply (cb : Fin 8) (j : Fin 128) : lanes q cb (ix2 r j) = q (ix2 r (laneCol cb j)) := by
  unfold laneCol
  pointwise [lanes]

theorem mask_apply (j : Fin 128) : k0_pay2 (ix2 r j) = BitVec.ofBool (decide (j.val % 64 < 32)) := by
  have e : k0_pay2 (ix2 r j) = BitVec.ofBool (decide ((BitVec.ofNat 32 j.val &&& 32#32) = 0#32)) := by
    pointwise [k0_pay2]
    rfl
  have h : ∀ j : Fin 128, BitVec.ofBool (decide ((BitVec.ofNat 32 j.val &&& 32#32) = 0#32)) = BitVec.ofBool (decide (j.val % 64 < 32)) := by
    decide
  rw [e, h]

theorem swapped_apply (y : FVec Ideal S256x128 .f32) (j : Fin 128) : swapped y (ix2 r j) = y (ix2 r (mate j)) := by
  have e : swapped y (ix2 r j) = if k0_pay2 (ix2 r j) = 1#1 then dynamicRotate 1 96#32 none y rotates_S256x128_d1 (ix2 r j)
      else dynamicRotate 1 32#32 none y rotates_S256x128_d1 (ix2 r j) := rfl
  rw [e, mask_apply]
  unfold mate
  by_cases hj : j.val % 64 < 32
  · rw [if_pos (by simp [hj]), if_pos hj]
    pointwise
    exact congrArg (fun u : Fin 128 => y (ix2 r u)) (Fin.ext (by show (j.val + 128 - 96) % 128 = (j.val + 32) % 128; omega))
  · rw [if_neg (by simp [hj]), if_neg hj]
    pointwise
    exact congrArg (fun u : Fin 128 => y (ix2 r u)) (Fin.ext (by show (j.val + 128 - 32) % 128 = (j.val + 96) % 128; omega))

/-- A rotated query, as the kernel computes it. -/
def ropeK (x y c s : EReal) : EReal := (x * c + y * s) * Named.named (F := Ideal) (φ := .f32) κ "swa_scale" 0x3E38AA3B#32

theorem rotated_apply (cb : Fin 8) (j : Fin 128) : rotated q c s cb (ix2 j r)
    = ropeK (q (ix2 r (laneCol cb j))) (q (ix2 r (laneCol cb (mate j)))) (c (ix2 r j)) (s (ix2 r j)) := by
  rw [← lanes_apply q r cb j, ← lanes_apply q r cb (mate j), ← swapped_apply r (lanes q cb) j]
  unfold rotated ropeK
  generalize swapped (lanes q cb) = y
  generalize lanes q cb = x
  pointwise

theorem turned_apply (cb : Fin 8) (j : Fin 128) : turned G cb (ix2 j r) = G (ix2 r (laneCol cb j)) := by
  rw [← lanes_apply G r cb j]
  unfold turned
  generalize lanes G cb = x
  pointwise

end

end Cert.BKernelIdeal.Trunk

end
-- ==== Proof.Trunk.BBlock.lean ====
/- What the sliding-window layer's input projection stores, at a row of its block. -/
module

public import proofs.«01_k».proof.Proof.Trunk.BRow
public import proofs.«01_k».proof.Proof.Trunk.BBody

@[expose] public section

noncomputable section

namespace Cert.BKernelIdeal.Trunk

open Cert.BKernelIdeal Cert.BKernelIdeal.Gen Cert.Trunk Idealize.ShloMosaic Idealize.ShloMosaic.TcCoe Idealize.SL.Sem
open Cert.InKernelIdeal.Trunk (siluK memCol headOf headOf_memCol memoryK lowRow highRow)

section

variable {e : EltTy}

theorem canon_rows (p1 p0 : Vec Ideal S256x1024 e) (f : Fin 512 → Fin 1024 → Elt Ideal e)
    (h0 : ∀ r d, p0 (ix2 r d) = f (lowRow r) d) (h1 : ∀ r d, p1 (ix2 r d) = f (highRow r) d) (R : Fin 512) (d : Fin 1024) :
    View.canon [⟨r0_5, p1⟩, ⟨r0_0, p0⟩] (ix2 R d) = f R d := by
  refine View.canon_eq_of_allAt _ _ _ (View.cover_of_tiled [⟨r0_5, p1⟩, ⟨r0_0, p0⟩] S256x1024.size (by rfl) _) ?_
  intro pc hpc
  simp only [List.mem_cons, List.not_mem_nil, or_false] at hpc
  rcases hpc with rfl | rfl
  · intro x hx
    obtain ⟨r, c, rfl⟩ : ∃ (r : Fin 256) (c : Fin 1024), x = ix2 r c := ⟨x 0, x 1, funext fun a => by fin_cases a <;> rfl⟩
    have a0 : 256 + r.val = R.val := by simpa using congrArg (fun i : S512x1024.Idx => (i 0).val) hx
    have a1 : c.val = d.val := by simpa using congrArg (fun i : S512x1024.Idx => (i 1).val) hx
    obtain rfl : highRow r = R := Fin.ext a0
    obtain rfl : c = d := Fin.ext a1
    exact h1 r c
  · intro x hx
    obtain ⟨r, c, rfl⟩ : ∃ (r : Fin 256) (c : Fin 1024), x = ix2 r c := ⟨x 0, x 1, funext fun a => by fin_cases a <;> rfl⟩
    have a0 : r.val = R.val := by simpa using congrArg (fun i : S512x1024.Idx => (i 0).val) hx
    have a1 : c.val = d.val := by simpa using congrArg (fun i : S512x1024.Idx => (i 1).val) hx
    obtain rfl : lowRow r = R := Fin.ext a0
    obtain rfl : c = d := Fin.ext a1
    exact h0 r c

theorem canon_heads (p13 p12 p11 p10 p03 p02 p01 p00 : Vec Ideal S256x128 e) (f : Fin 512 → Fin 512 → Elt Ideal e)
    (h00 : ∀ r d, p00 (ix2 r d) = f (lowRow r) (memCol 0 d)) (h01 : ∀ r d, p01 (ix2 r d) = f (lowRow r) (memCol 1 d))
    (h02 : ∀ r d, p02 (ix2 r d) = f (lowRow r) (memCol 2 d)) (h03 : ∀ r d, p03 (ix2 r d) = f (lowRow r) (memCol 3 d))
    (h10 : ∀ r d, p10 (ix2 r d) = f (highRow r) (memCol 0 d)) (h11 : ∀ r d, p11 (ix2 r d) = f (highRow r) (memCol 1 d))
    (h12 : ∀ r d, p12 (ix2 r d) = f (highRow r) (memCol 2 d)) (h13 : ∀ r d, p13 (ix2 r d) = f (highRow r) (memCol 3 d))
    (R : Fin 512) (d : Fin 512) :
    View.canon [⟨r0_40, p13⟩, ⟨r0_39, p12⟩, ⟨r0_38, p11⟩, ⟨r0_37, p10⟩, ⟨r0_27, p03⟩, ⟨r0_26, p02⟩, ⟨r0_25, p01⟩, ⟨r0_24, p00⟩]
      (ix2 R d) = f R d := by
  refine View.canon_eq_of_allAt _ _ _ (View.cover_of_tiled [⟨r0_40, p13⟩, ⟨r0_39, p12⟩, ⟨r0_38, p11⟩, ⟨r0_37, p10⟩, ⟨r0_27, p03⟩,
    ⟨r0_26, p02⟩, ⟨r0_25, p01⟩, ⟨r0_24, p00⟩] S256x128.size (by rfl) _) ?_
  have key : ∀ (o0 o1 : Nat) (inb : ∀ a : Fin 2, (![o0, o1] : Fin 2 → Nat) a + S256x128.size a ≤ S512x512.size a) (p : Vec Ideal S256x128 e)
      (rowOf : Fin 256 → Fin 512) (hh : Fin 4) (_ : ∀ r, (rowOf r).val = o0 + r.val) (_ : o1 = 128 * hh.val)
      (_ : ∀ r d, p (ix2 r d) = f (rowOf r) (memCol hh d)) (x : S256x128.Idx)
      (_ : (Rect.unit (s := S512x512) ![o0, o1] S256x128.size inb).emb x = ix2 R d), p x = f R d := by
    intro o0 o1 inb p rowOf hh hr ho hp x hx
    obtain ⟨r, c, rfl⟩ : ∃ (r : Fin 256) (c : Fin 128), x = ix2 r c := ⟨x 0, x 1, funext fun a => by fin_cases a <;> rfl⟩
    have a0 : o0 + r.val = R.val := by simpa using congrArg (fun i : S512x512.Idx => (i 0).val) hx
    have a1 : o1 + c.val = d.val := by simpa using congrArg (fun i : S512x512.Idx => (i 1).val) hx
    obtain rfl : rowOf r = R := Fin.ext ((hr r).trans a0)
    obtain rfl : memCol hh c = d := Fin.ext (by simp only [memCol]; omega)
    exact hp r c
  intro pc hpc
  simp only [List.mem_cons, List.not_mem_nil, or_false] at hpc
  rcases hpc with rfl | rfl | rfl | rfl | rfl | rfl | rfl | rfl
  · exact key _ _ inb_S512x512_S256x128_256_384 _ highRow 3 (fun _ => rfl) rfl h13
  · exact key _ _ inb_S512x512_S256x128_256_256 _ highRow 2 (fun _ => rfl) rfl h12
  · exact key _ _ inb_S512x512_S256x128_256_128 _ highRow 1 (fun _ => rfl) rfl h11
  · exact key _ _ inb_S512x512_S256x128_256_0 _ highRow 0 (fun _ => rfl) rfl h10
  · exact key _ _ inb_S512x512_S256x128_0_384 _ lowRow 3 (fun _ => (Nat.zero_add _).symm) rfl h03
  · exact key _ _ inb_S512x512_S256x128_0_256 _ lowRow 2 (fun _ => (Nat.zero_add _).symm) rfl h02
  · exact key _ _ inb_S512x512_S256x128_0_128 _ lowRow 1 (fun _ => (Nat.zero_add _).symm) rfl h01
  · exact key _ _ inb_S512x512_S256x128_0_0 _ lowRow 0 (fun _ => (Nat.zero_add _).symm) rfl h00

theorem canon_cols (p17 p16 p15 p14 p13 p12 p11 p10 p07 p06 p05 p04 p03 p02 p01 p00 : Vec Ideal S128x256 e) (f : Fin 1024 → Fin 512 → Elt Ideal e)
    (h00 : ∀ r j, p00 (ix2 j r) = f (laneCol 0 j) (lowRow r)) (h01 : ∀ r j, p01 (ix2 j r) = f (laneCol 1 j) (lowRow r))
    (h02 : ∀ r j, p02 (ix2 j r) = f (laneCol 2 j) (lowRow r)) (h03 : ∀ r j, p03 (ix2 j r) = f (laneCol 3 j) (lowRow r))
    (h04 : ∀ r j, p04 (ix2 j r) = f (laneCol 4 j) (lowRow r)) (h05 : ∀ r j, p05 (ix2 j r) = f (laneCol 5 j) (lowRow r))
    (h06 : ∀ r j, p06 (ix2 j r) = f (laneCol 6 j) (lowRow r)) (h07 : ∀ r j, p07 (ix2 j r) = f (laneCol 7 j) (lowRow r))
    (h10 : ∀ r j, p10 (ix2 j r) = f (laneCol 0 j) (highRow r)) (h11 : ∀ r j, p11 (ix2 j r) = f (laneCol 1 j) (highRow r))
    (h12 : ∀ r j, p12 (ix2 j r) = f (laneCol 2 j) (highRow r)) (h13 : ∀ r j, p13 (ix2 j r) = f (laneCol 3 j) (highRow r))
    (h14 : ∀ r j, p14 (ix2 j r) = f (laneCol 4 j) (highRow r)) (h15 : ∀ r j, p15 (ix2 j r) = f (laneCol 5 j) (highRow r))
    (h16 : ∀ r j, p16 (ix2 j r) = f (laneCol 6 j) (highRow r)) (h17 : ∀ r j, p17 (ix2 j r) = f (laneCol 7 j) (highRow r))
    (C : Fin 1024) (R : Fin 512) :
    View.canon [⟨r0_36, p17⟩, ⟨r0_35, p16⟩, ⟨r0_34, p15⟩, ⟨r0_33, p14⟩, ⟨r0_32, p13⟩, ⟨r0_31, p12⟩, ⟨r0_30, p11⟩, ⟨r0_29, p10⟩, ⟨r0_22, p07⟩, ⟨r0_21, p06⟩, ⟨r0_20, p05⟩, ⟨r0_19, p04⟩, ⟨r0_18, p03⟩, ⟨r0_17, p02⟩, ⟨r0_16, p01⟩, ⟨r0_15, p00⟩] (ix2 C R) = f C R := by
  refine View.canon_eq_of_allAt _ _ _ (View.cover_of_tiled [⟨r0_36, p17⟩, ⟨r0_35, p16⟩, ⟨r0_34, p15⟩, ⟨r0_33, p14⟩, ⟨r0_32, p13⟩, ⟨r0_31, p12⟩, ⟨r0_30, p11⟩, ⟨r0_29, p10⟩, ⟨r0_22, p07⟩, ⟨r0_21, p06⟩, ⟨r0_20, p05⟩, ⟨r0_19, p04⟩, ⟨r0_18, p03⟩, ⟨r0_17, p02⟩, ⟨r0_16, p01⟩, ⟨r0_15, p00⟩] S128x256.size (by rfl) _) ?_
  have key : ∀ (o0 o1 : Nat) (inb : ∀ a : Fin 2, (![o0, o1] : Fin 2 → Nat) a + S128x256.size a ≤ S1024x512.size a) (p : Vec Ideal S128x256 e)
      (rowOf : Fin 256 → Fin 512) (cb : Fin 8) (_ : ∀ r, (rowOf r).val = o1 + r.val) (_ : o0 = 128 * cb.val)
      (_ : ∀ r j, p (ix2 j r) = f (laneCol cb j) (rowOf r)) (x : S128x256.Idx)
      (_ : (Rect.unit (s := S1024x512) ![o0, o1] S128x256.size inb).emb x = ix2 C R), p x = f C R := by
    intro o0 o1 inb p rowOf cb hr ho hp x hx
    obtain ⟨j, r, rfl⟩ : ∃ (j : Fin 128) (r : Fin 256), x = ix2 j r := ⟨x 0, x 1, funext fun a => by fin_cases a <;> rfl⟩
    have a0 : o0 + j.val = C.val := by simpa using congrArg (fun i : S1024x512.Idx => (i 0).val) hx
    have a1 : o1 + r.val = R.val := by simpa using congrArg (fun i : S1024x512.Idx => (i 1).val) hx
    obtain rfl : rowOf r = R := Fin.ext ((hr r).trans a1)
    obtain rfl : laneCol cb j = C := Fin.ext (by simp only [laneCol]; omega)
    exact hp r j
  intro pc hpc
  simp only [List.mem_cons, List.not_mem_nil, or_false] at hpc
  rcases hpc with rfl | rfl | rfl | rfl | rfl | rfl | rfl | rfl | rfl | rfl | rfl | rfl | rfl | rfl | rfl | rfl
  · exact key _ _ inb_S1024x512_S128x256_896_256 _ highRow 7 (fun _ => rfl) rfl h17
  · exact key _ _ inb_S1024x512_S128x256_768_256 _ highRow 6 (fun _ => rfl) rfl h16
  · exact key _ _ inb_S1024x512_S128x256_640_256 _ highRow 5 (fun _ => rfl) rfl h15
  · exact key _ _ inb_S1024x512_S128x256_512_256 _ highRow 4 (fun _ => rfl) rfl h14
  · exact key _ _ inb_S1024x512_S128x256_384_256 _ highRow 3 (fun _ => rfl) rfl h13
  · exact key _ _ inb_S1024x512_S128x256_256_256 _ highRow 2 (fun _ => rfl) rfl h12
  · exact key _ _ inb_S1024x512_S128x256_128_256 _ highRow 1 (fun _ => rfl) rfl h11
  · exact key _ _ inb_S1024x512_S128x256_0_256 _ highRow 0 (fun _ => rfl) rfl h10
  · exact key _ _ inb_S1024x512_S128x256_896_0 _ lowRow 7 (fun _ => (Nat.zero_add _).symm) rfl h07
  · exact key _ _ inb_S1024x512_S128x256_768_0 _ lowRow 6 (fun _ => (Nat.zero_add _).symm) rfl h06
  · exact key _ _ inb_S1024x512_S128x256_640_0 _ lowRow 5 (fun _ => (Nat.zero_add _).symm) rfl h05
  · exact key _ _ inb_S1024x512_S128x256_512_0 _ lowRow 4 (fun _ => (Nat.zero_add _).symm) rfl h04
  · exact key _ _ inb_S1024x512_S128x256_384_0 _ lowRow 3 (fun _ => (Nat.zero_add _).symm) rfl h03
  · exact key _ _ inb_S1024x512_S128x256_256_0 _ lowRow 2 (fun _ => (Nat.zero_add _).symm) rfl h02
  · exact key _ _ inb_S1024x512_S128x256_128_0 _ lowRow 1 (fun _ => (Nat.zero_add _).symm) rfl h01
  · exact key _ _ inb_S1024x512_S128x256_0_0 _ lowRow 0 (fun _ => (Nat.zero_add _).symm) rfl h00

end

section

variable (x0 : Vec Ideal S512x1024 .f32) (x1 : Vec Ideal S512x1024 .bf16) (x2 : Vec Ideal S512x512 .bf16)
  (x3 : Vec Ideal S1x1536x1024 .bf16) (x4 : Vec Ideal S1x1024 .f32) (x5 : Vec Ideal S1x1024 .f32) (x6 : Vec Ideal S1x1024x3072 .bf16)
  (x7 x8 : Vec Ideal S512x128 .f32) (x9 : Vec Ideal S1x1x256x512 .bf16) (x10 : Vec Ideal S1x1x256x512 .bf16)

/-- The residual stream of row `R` after the layer before. -/
def blkStream (R : Fin 512) (d : Fin 1024) : EReal :=
  x0 (ix2 R d) + normed (fun d => mixed (fun e => x1 (ix2 R e)) (fun e => x2 (ix2 R e)) (fun e => x3 (ix3 0 e d)))
    (fun e => x4 (ix2 0 e)) d

/-- The layer's normalised input of row `R`. -/
def blkInput (R : Fin 512) : Fin 1024 → EReal := normed (blkStream x0 x1 x2 x3 x4 R) (fun e => x5 (ix2 0 e))

/-- The projection of row `R`, column `c`. -/
def blkProj (R : Fin 512) (c : Fin 3072) : EReal := ∑ e : Fin 1024, blkInput x0 x1 x2 x3 x4 x5 R e * x6 (ix3 0 e c)

section

variable (r : Fin 256) (d : Fin 1024)

theorem ld_low (e : EltTy) (x : Vec Ideal S512x1024 e) : View.ld x r0_0 (ix2 r d) = x (ix2 (lowRow r) d) := by
  unfold lowRow
  exact View.ld_unit_apply_of x _ _ _ _ _ fun a => by fin_cases a <;> simp <;> rfl

theorem ld_high (e : EltTy) (x : Vec Ideal S512x1024 e) : View.ld x r0_5 (ix2 r d) = x (ix2 (highRow r) d) := by
  unfold highRow
  exact View.ld_unit_apply_of x _ _ _ _ _ fun a => by fin_cases a <;> simp <;> rfl

theorem ld_lowMem (c : Fin 512) : View.ld x2 r0_2 (ix2 r c) = x2 (ix2 (lowRow r) c) := by
  unfold lowRow
  exact View.ld_unit_apply_of x2 _ _ _ _ _ fun a => by fin_cases a <;> simp <;> rfl

theorem ld_highMem (c : Fin 512) : View.ld x2 r0_6 (ix2 r c) = x2 (ix2 (highRow r) c) := by
  unfold highRow
  exact View.ld_unit_apply_of x2 _ _ _ _ _ fun a => by fin_cases a <;> simp <;> rfl

theorem ld_main (e : Fin 1024) : View.ld x3 r0_1 (ix3 0 e d) = x3 (ix3 0 ⟨e, by omega⟩ d) :=
  View.ld_unit_apply_of x3 _ _ _ _ _ fun a => by fin_cases a <;> simp <;> rfl

theorem ld_mem (e : Fin 512) : View.ld x3 r0_3 (ix3 0 e d) = x3 (ix3 0 ⟨1024 + e, by omega⟩ d) :=
  View.ld_unit_apply_of x3 _ _ _ _ _ fun a => by fin_cases a <;> simp <;> rfl

theorem ld_gain (x : Vec Ideal S1x1024 .f32) : View.ld x r0_4 = x := View.ld_unit_zero (by decide) _ _

theorem ld_query (e : Fin 1024) : View.ld x6 r0_9 (ix3 0 e d) = x6 (ix3 0 e (bQuery d)) :=
  View.ld_unit_apply_of x6 _ _ _ _ _ fun a => by fin_cases a <;> simp <;> rfl

theorem ld_gate (e : Fin 1024) : View.ld x6 r0_23 (ix3 0 e d) = x6 (ix3 0 e (bGate d)) :=
  View.ld_unit_apply_of x6 _ _ _ _ _ fun a => by fin_cases a <;> simp <;> rfl

theorem ld_memQuery (e : Fin 1024) (c : Fin 512) : View.ld x6 r0_7 (ix3 0 e c) = x6 (ix3 0 e (bMemQuery c)) :=
  View.ld_unit_apply_of x6 _ _ _ _ _ fun a => by fin_cases a <;> simp <;> rfl

theorem ld_memGate (e : Fin 1024) (c : Fin 512) : View.ld x6 r0_8 (ix3 0 e c) = x6 (ix3 0 e (bMemGate c)) :=
  View.ld_unit_apply_of x6 _ _ _ _ _ fun a => by fin_cases a <;> simp <;> rfl

theorem ld_head0 (x : Vec Ideal S1x1x256x512 .bf16) (j : Fin 256) (c : Fin 128) :
    View.ld x r0_10 (ix4 0 0 j c) = x (ix4 0 0 j (memCol 0 c)) := by
  unfold memCol
  exact View.ld_unit_apply_of x _ _ _ _ _ fun a => by fin_cases a <;> simp <;> rfl

theorem ld_head1 (x : Vec Ideal S1x1x256x512 .bf16) (j : Fin 256) (c : Fin 128) :
    View.ld x r0_11 (ix4 0 0 j c) = x (ix4 0 0 j (memCol 1 c)) := by
  unfold memCol
  exact View.ld_unit_apply_of x _ _ _ _ _ fun a => by fin_cases a <;> simp <;> rfl

theorem ld_head2 (x : Vec Ideal S1x1x256x512 .bf16) (j : Fin 256) (c : Fin 128) :
    View.ld x r0_12 (ix4 0 0 j c) = x (ix4 0 0 j (memCol 2 c)) := by
  unfold memCol
  exact View.ld_unit_apply_of x _ _ _ _ _ fun a => by fin_cases a <;> simp <;> rfl

theorem ld_head3 (x : Vec Ideal S1x1x256x512 .bf16) (j : Fin 256) (c : Fin 128) :
    View.ld x r0_13 (ix4 0 0 j c) = x (ix4 0 0 j (memCol 3 c)) := by
  unfold memCol
  exact View.ld_unit_apply_of x _ _ _ _ _ fun a => by fin_cases a <;> simp <;> rfl

theorem ld_lowTable (x : Vec Ideal S512x128 .f32) (j : Fin 128) : View.ld x r0_14 (ix2 r j) = x (ix2 (lowRow r) j) := by
  unfold lowRow
  exact View.ld_unit_apply_of x _ _ _ _ _ fun a => by fin_cases a <;> simp <;> rfl

theorem ld_highTable (x : Vec Ideal S512x128 .f32) (j : Fin 128) : View.ld x r0_28 (ix2 r j) = x (ix2 (highRow r) j) := by
  unfold highRow
  exact View.ld_unit_apply_of x _ _ _ _ _ fun a => by fin_cases a <;> simp <;> rfl

end

/-! ## The stream and the layer's input -/

theorem stream_of (w : Vec Ideal S1x1024x1024 .bf16) (u : Vec Ideal S1x512x1024 .bf16) (a : Vec Ideal S256x1024 .bf16) (b : Vec Ideal S256x512 .bf16) (x : Vec Ideal S256x1024 .f32)
    (r : Fin 256) (R : Fin 512) (ha : ∀ e, a (ix2 r e) = x1 (ix2 R e)) (hb : ∀ e, b (ix2 r e) = x2 (ix2 R e))
    (hx : ∀ d, x (ix2 r d) = x0 (ix2 R d)) (hw : ∀ (d e : Fin 1024), w (ix3 0 e d) = x3 (ix3 0 ⟨e, by omega⟩ d))
    (hu : ∀ (d : Fin 1024) (e : Fin 512), u (ix3 0 e d) = x3 (ix3 0 ⟨1024 + e, by omega⟩ d)) (d : Fin 1024) :
    k0_pay3 a w b u x (View.ld x4 r0_4) (ix2 r d) = blkStream x0 x1 x2 x3 x4 R d := by
  rw [ld_gain, stream_apply]
  simp only [product_apply, ha, hb, hx, hw, hu]
  rfl

theorem stream_low (r : Fin 256) (d : Fin 1024) :
    k0_pay3 (View.ld x1 r0_0) (View.ld x3 r0_1) (View.ld x2 r0_2) (View.ld x3 r0_3) (View.ld x0 r0_0) (View.ld x4 r0_4) (ix2 r d)
      = blkStream x0 x1 x2 x3 x4 (lowRow r) d :=
  stream_of x0 x1 x2 x3 x4 _ _ _ _ _ r _ (fun e => ld_low r e _ x1) (fun e => ld_lowMem x2 r e) (fun e => ld_low r e _ x0) (ld_main x3) (ld_mem x3) d

theorem stream_high (r : Fin 256) (d : Fin 1024) :
    k0_pay3 (View.ld x1 r0_5) (View.ld x3 r0_1) (View.ld x2 r0_6) (View.ld x3 r0_3) (View.ld x0 r0_5) (View.ld x4 r0_4) (ix2 r d)
      = blkStream x0 x1 x2 x3 x4 (highRow r) d :=
  stream_of x0 x1 x2 x3 x4 _ _ _ _ _ r _ (fun e => ld_high r e _ x1) (fun e => ld_highMem x2 r e) (fun e => ld_high r e _ x0) (ld_main x3) (ld_mem x3) d

theorem input_low (r : Fin 256) (d : Fin 1024) : k0_pay104 x0 x1 x2 x3 x4 x5 x6 x7 x8 x9 x10 (ix2 r d) = blkInput x0 x1 x2 x3 x4 x5 (lowRow r) d := by
  unfold k0_pay104
  rw [xn_apply]
  simp only [stream_low]
  rw [ld_gain]
  rfl

theorem input_high (r : Fin 256) (d : Fin 1024) : k0_pay109 x0 x1 x2 x3 x4 x5 x6 x7 x8 x9 x10 (ix2 r d) = blkInput x0 x1 x2 x3 x4 x5 (highRow r) d := by
  unfold k0_pay109 k0_pay105 k0_pay106 k0_pay107 k0_pay108
  rw [normed_second, xn_apply]
  simp only [stream_high]
  rw [ld_gain]
  rfl

/-! ## The output blocks -/

theorem proj_of (xn : FVec Ideal S256x1024 .bf16) (w : Vec Ideal S1x1024x1024 .bf16) (r : Fin 256) (d : Fin 1024) (R : Fin 512)
    (c : Fin 3072) (hxn : ∀ e, xn (ix2 r e) = blkInput x0 x1 x2 x3 x4 x5 R e) (hw : ∀ e : Fin 1024, w (ix3 0 e d) = x6 (ix3 0 e c)) :
    (∑ e : Fin 1024, xn (ix2 r e) * w (ix3 0 e d)) = blkProj x0 x1 x2 x3 x4 x5 x6 R c := by
  simp only [hxn, hw]
  rfl

theorem out_stream (R : Fin 512) (d : Fin 1024) : out0_11 x0 x1 x2 x3 x4 x5 x6 x7 x8 x9 x10 (ix2 R d) = blkStream x0 x1 x2 x3 x4 R d := by
  unfold out0_11 k0_pay105 k0_pay106 k0_pay107 k0_pay108
  rw [stream_second]
  exact canon_rows (e := .f32) _ _ (fun R d => blkStream x0 x1 x2 x3 x4 R d) (stream_low x0 x1 x2 x3 x4) (stream_high x0 x1 x2 x3 x4) R d

/-- The lane of column `C` in its block of 128. -/
def laneOf (C : Fin 1024) : Fin 128 := ⟨C % 128, by omega⟩

theorem laneOf_laneCol (cb : Fin 8) (j : Fin 128) : laneOf (laneCol cb j) = j := Fin.ext (by simp only [laneOf, laneCol]; omega)

theorem laneCol_mate (cb : Fin 8) (j : Fin 128) : laneCol cb (mate j) = pairCol (laneCol cb j) := by
  unfold mate pairCol laneCol
  by_cases h : j.val % 64 < 32
  · rw [if_pos h, if_pos (by show (128 * cb.val + j.val) % 64 < 32; omega)]
    exact Fin.ext (by show 128 * cb.val + (j.val + 32) % 128 = (128 * cb.val + j.val) / 64 * 64 + ((128 * cb.val + j.val) % 64 + 32) % 64; omega)
  · rw [if_neg h, if_neg (by show ¬ (128 * cb.val + j.val) % 64 < 32; omega)]
    exact Fin.ext (by show 128 * cb.val + (j.val + 96) % 128 = (128 * cb.val + j.val) - 32; omega)

/-- The rotated query of row `R`, column `C`. -/
def blkRope (R : Fin 512) (C : Fin 1024) : EReal :=
  ropeK (blkProj x0 x1 x2 x3 x4 x5 x6 R (bQuery C)) (blkProj x0 x1 x2 x3 x4 x5 x6 R (bQuery (pairCol C))) (x7 (ix2 R (laneOf C)))
    (x8 (ix2 R (laneOf C)))

theorem rope_of (xn : FVec Ideal S256x1024 .bf16) (w : Vec Ideal S1x1024x1024 .bf16) (c s : FVec Ideal S256x128 .f32) (cb : Fin 8)
    (j : Fin 128) (r : Fin 256) (R : Fin 512) (hxn : ∀ e, xn (ix2 r e) = blkInput x0 x1 x2 x3 x4 x5 R e)
    (hw : ∀ (d e : Fin 1024), w (ix3 0 e d) = x6 (ix3 0 e (bQuery d))) (hc : ∀ j, c (ix2 r j) = x7 (ix2 R j))
    (hs : ∀ j, s (ix2 r j) = x8 (ix2 R j)) :
    rotated (k0_pay12 xn w) c s cb (ix2 j r) = blkRope x0 x1 x2 x3 x4 x5 x6 x7 x8 R (laneCol cb j) := by
  unfold blkRope
  rw [laneOf_laneCol, ← laneCol_mate, rotated_apply, query_apply, query_apply, hc, hs,
    proj_of x0 x1 x2 x3 x4 x5 x6 xn w r _ R _ hxn (hw _), proj_of x0 x1 x2 x3 x4 x5 x6 xn w r _ R _ hxn (hw _)]

theorem gate_of (xn : FVec Ideal S256x1024 .bf16) (w : Vec Ideal S1x1024x1024 .bf16) (cb : Fin 8)
    (j : Fin 128) (r : Fin 256) (R : Fin 512) (hxn : ∀ e, xn (ix2 r e) = blkInput x0 x1 x2 x3 x4 x5 R e)
    (hw : ∀ (d e : Fin 1024), w (ix3 0 e d) = x6 (ix3 0 e (bGate d))) :
    turned (k0_pay42 xn w) cb (ix2 j r) = siluK (blkProj x0 x1 x2 x3 x4 x5 x6 R (bGate (laneCol cb j))) := by
  rw [turned_apply, gate_apply, proj_of x0 x1 x2 x3 x4 x5 x6 xn w r _ R _ hxn (hw _)]

theorem out_query (C : Fin 1024) (R : Fin 512) : out0_12 x0 x1 x2 x3 x4 x5 x6 x7 x8 x9 x10 (ix2 C R) = blkRope x0 x1 x2 x3 x4 x5 x6 x7 x8 R C := by
  unfold out0_12 k0_pay103 k0_pay124 k0_pay125 k0_pay115 k0_pay116 k0_pay119 k0_pay111
  have low : ∀ cb r j, rotated (k0_pay12 (k0_pay104 x0 x1 x2 x3 x4 x5 x6 x7 x8 x9 x10) (View.ld x6 r0_9)) (k0_pay27 (View.ld x7 r0_14)) (k0_pay28 (View.ld x8 r0_14)) cb (ix2 j r)
      = blkRope x0 x1 x2 x3 x4 x5 x6 x7 x8 (lowRow r) (laneCol cb j) := fun cb r j =>
    rope_of x0 x1 x2 x3 x4 x5 x6 x7 x8 _ _ _ _ cb j r _ (input_low x0 x1 x2 x3 x4 x5 x6 x7 x8 x9 x10 r) (ld_query x6)
      (fun j => by rw [table_cos]; exact ld_lowTable r x7 j) (fun j => by rw [table_sin]; exact ld_lowTable r x8 j)
  have high : ∀ cb r j, rotated (k0_pay12 (k0_pay109 x0 x1 x2 x3 x4 x5 x6 x7 x8 x9 x10) (View.ld x6 r0_9)) (k0_pay27 (View.ld x7 r0_28)) (k0_pay28 (View.ld x8 r0_28)) cb (ix2 j r)
      = blkRope x0 x1 x2 x3 x4 x5 x6 x7 x8 (highRow r) (laneCol cb j) := fun cb r j =>
    rope_of x0 x1 x2 x3 x4 x5 x6 x7 x8 _ _ _ _ cb j r _ (input_high x0 x1 x2 x3 x4 x5 x6 x7 x8 x9 x10 r) (ld_query x6)
      (fun j => by rw [table_cos]; exact ld_highTable r x7 j) (fun j => by rw [table_sin]; exact ld_highTable r x8 j)
  rw [query_second, rotated_first_0, rotated_first_1, rotated_first_2, rotated_first_3, rotated_first_4, rotated_first_5, rotated_first_6, rotated_first_7, rotated_second_0, rotated_second_1, rotated_second_2, rotated_second_3, rotated_second_4, rotated_second_5, rotated_second_6, rotated_second_7]
  exact canon_cols (e := .bf16) _ _ _ _ _ _ _ _ _ _ _ _ _ _ _ _ (fun C R => blkRope x0 x1 x2 x3 x4 x5 x6 x7 x8 R C)
    (low 0) (low 1) (low 2) (low 3) (low 4) (low 5) (low 6) (low 7)
    (high 0) (high 1) (high 2) (high 3) (high 4) (high 5) (high 6) (high 7) C R

theorem out_gate (C : Fin 1024) (R : Fin 512) : out0_13 x0 x1 x2 x3 x4 x5 x6 x7 x8 x9 x10 (ix2 C R) = siluK (blkProj x0 x1 x2 x3 x4 x5 x6 R (bGate C)) := by
  unfold out0_13 k0_pay126 k0_pay117
  have low : ∀ cb r j, turned (k0_pay42 (k0_pay104 x0 x1 x2 x3 x4 x5 x6 x7 x8 x9 x10) (View.ld x6 r0_23)) cb (ix2 j r)
      = siluK (blkProj x0 x1 x2 x3 x4 x5 x6 (lowRow r) (bGate (laneCol cb j))) := fun cb r j =>
    gate_of x0 x1 x2 x3 x4 x5 x6 _ _ cb j r _ (input_low x0 x1 x2 x3 x4 x5 x6 x7 x8 x9 x10 r) (ld_gate x6)
  have high : ∀ cb r j, turned (k0_pay42 (k0_pay109 x0 x1 x2 x3 x4 x5 x6 x7 x8 x9 x10) (View.ld x6 r0_23)) cb (ix2 j r)
      = siluK (blkProj x0 x1 x2 x3 x4 x5 x6 (highRow r) (bGate (laneCol cb j))) := fun cb r j =>
    gate_of x0 x1 x2 x3 x4 x5 x6 _ _ cb j r _ (input_high x0 x1 x2 x3 x4 x5 x6 x7 x8 x9 x10 r) (ld_gate x6)
  rw [gate_second, turned_first_0, turned_first_1, turned_first_2, turned_first_3, turned_first_4, turned_first_5, turned_first_6, turned_first_7, turned_second_0, turned_second_1, turned_second_2, turned_second_3, turned_second_4, turned_second_5, turned_second_6, turned_second_7]
  exact canon_cols (e := .bf16) _ _ _ _ _ _ _ _ _ _ _ _ _ _ _ _ (fun C R => siluK (blkProj x0 x1 x2 x3 x4 x5 x6 R (bGate C)))
    (low 0) (low 1) (low 2) (low 3) (low 4) (low 5) (low 6) (low 7)
    (high 0) (high 1) (high 2) (high 3) (high 4) (high 5) (high 6) (high 7) C R

/-- The score of memory token `j` for row `R` and head `hh`, in base two. -/
def blkScore (R : Fin 512) (hh : Fin 4) (j : Fin 256) : EReal :=
  ∑ e : Fin 128, blkProj x0 x1 x2 x3 x4 x5 x6 R (bMemQuery (memCol hh e))
      * Named.named (F := Ideal) (φ := .f32) κ "mem_scale" 0x3E0293EE#32 * x9 (ix4 0 0 j (memCol hh e))

theorem memory_of (xn : FVec Ideal S256x1024 .bf16) (wq wg : Vec Ideal S1x1024x512 .bf16) (k v : Vec Ideal S1x1x256x128 .bf16) (hh : Fin 4) (r : Fin 256) (R : Fin 512)
    (hwq : ∀ e (c : Fin 512), wq (ix3 0 e c) = x6 (ix3 0 e (bMemQuery c)))
    (hwg : ∀ e (c : Fin 512), wg (ix3 0 e c) = x6 (ix3 0 e (bMemGate c)))
    (hxn : ∀ e, xn (ix2 r e) = blkInput x0 x1 x2 x3 x4 x5 R e) (hk : ∀ j c, k (ix4 0 0 j c) = x9 (ix4 0 0 j (memCol hh c)))
    (hv : ∀ j c, v (ix4 0 0 j c) = x10 (ix4 0 0 j (memCol hh c))) (d : Fin 128) :
    readout (k0_pay11 xn wg) hh (queryOf (k0_pay14 (k0_pay13 xn wq)) hh) k v (ix2 r d)
      = memoryK (blkScore x0 x1 x2 x3 x4 x5 x6 x9 R hh) (fun j => x10 (ix4 0 0 j (memCol hh d)))
          (blkProj x0 x1 x2 x3 x4 x5 x6 R (bMemGate (memCol hh d))) := by
  rw [readout_apply]
  simp only [weights_apply, queryOf_apply, memQuery_apply, memGate_apply, hxn, hk, hv, hwq, hwg]
  rfl

theorem out_memory (R : Fin 512) (d : Fin 512) : out0_14 x0 x1 x2 x3 x4 x5 x6 x7 x8 x9 x10 (ix2 R d)
    = memoryK (blkScore x0 x1 x2 x3 x4 x5 x6 x9 R (headOf d)) (fun j => x10 (ix4 0 0 j d))
        (blkProj x0 x1 x2 x3 x4 x5 x6 R (bMemGate d)) := by
  unfold out0_14 k0_pay123 k0_pay122 k0_pay121 k0_pay120 k0_pay118 k0_pay114 k0_pay113 k0_pay112 k0_pay110
  refine canon_heads (e := .bf16) _ _ _ _ _ _ _ _ (fun R d => memoryK (blkScore x0 x1 x2 x3 x4 x5 x6 x9 R (headOf d))
      (fun j => x10 (ix4 0 0 j d)) (blkProj x0 x1 x2 x3 x4 x5 x6 R (bMemGate d)))
    (fun r d => ?_) (fun r d => ?_) (fun r d => ?_) (fun r d => ?_) (fun r d => ?_) (fun r d => ?_) (fun r d => ?_) (fun r d => ?_) R d <;>
    rw [headOf_memCol]
  · rw [readout_first_0]
    exact memory_of x0 x1 x2 x3 x4 x5 x6 x9 x10 _ _ _ _ _ 0 r _ (ld_memQuery x6) (ld_memGate x6) (input_low x0 x1 x2 x3 x4 x5 x6 x7 x8 x9 x10 r) (ld_head0 x9) (ld_head0 x10) d
  · rw [readout_first_1]
    exact memory_of x0 x1 x2 x3 x4 x5 x6 x9 x10 _ _ _ _ _ 1 r _ (ld_memQuery x6) (ld_memGate x6) (input_low x0 x1 x2 x3 x4 x5 x6 x7 x8 x9 x10 r) (ld_head1 x9) (ld_head1 x10) d
  · rw [readout_first_2]
    exact memory_of x0 x1 x2 x3 x4 x5 x6 x9 x10 _ _ _ _ _ 2 r _ (ld_memQuery x6) (ld_memGate x6) (input_low x0 x1 x2 x3 x4 x5 x6 x7 x8 x9 x10 r) (ld_head2 x9) (ld_head2 x10) d
  · rw [readout_first_3]
    exact memory_of x0 x1 x2 x3 x4 x5 x6 x9 x10 _ _ _ _ _ 3 r _ (ld_memQuery x6) (ld_memGate x6) (input_low x0 x1 x2 x3 x4 x5 x6 x7 x8 x9 x10 r) (ld_head3 x9) (ld_head3 x10) d
  · rw [readout_second_0, memGate_second]
    exact memory_of x0 x1 x2 x3 x4 x5 x6 x9 x10 _ _ _ _ _ 0 r _ (ld_memQuery x6) (ld_memGate x6) (input_high x0 x1 x2 x3 x4 x5 x6 x7 x8 x9 x10 r) (ld_head0 x9) (ld_head0 x10) d
  · rw [readout_second_1, memGate_second]
    exact memory_of x0 x1 x2 x3 x4 x5 x6 x9 x10 _ _ _ _ _ 1 r _ (ld_memQuery x6) (ld_memGate x6) (input_high x0 x1 x2 x3 x4 x5 x6 x7 x8 x9 x10 r) (ld_head1 x9) (ld_head1 x10) d
  · rw [readout_second_2, memGate_second]
    exact memory_of x0 x1 x2 x3 x4 x5 x6 x9 x10 _ _ _ _ _ 2 r _ (ld_memQuery x6) (ld_memGate x6) (input_high x0 x1 x2 x3 x4 x5 x6 x7 x8 x9 x10 r) (ld_head2 x9) (ld_head2 x10) d
  · rw [readout_second_3, memGate_second]
    exact memory_of x0 x1 x2 x3 x4 x5 x6 x9 x10 _ _ _ _ _ 3 r _ (ld_memQuery x6) (ld_memGate x6) (input_high x0 x1 x2 x3 x4 x5 x6 x7 x8 x9 x10 r) (ld_head3 x9) (ld_head3 x10) d

end

end Cert.BKernelIdeal.Trunk

end
-- ==== Proof.Trunk.BArray.lean ====
/- The arrays that the sliding-window layer's input projection leaves. -/
module

public import proofs.«01_k».proof.Proof.Trunk.BBlock

@[expose] public section

noncomputable section

namespace Cert.BKernelIdeal.Trunk

open Cert.BKernelIdeal Cert.BKernelIdeal.Gen Cert.Trunk Idealize.ShloMosaic Idealize.ShloMosaic.TcCoe Idealize.SL.Sem
open Cert.InKernelIdeal.Trunk (siluK memCol headOf headOf_memCol memoryK)

/-- Row `r` of block `t`. -/
def rowAt (t : Fin grid0.N) (r : Fin 512) : Fin 16384 := ⟨512 * t + r, by have : t.val < 32 := t.isLt; omega⟩

/-- The sequence that block `t` lies in. -/
def seqAt (t : Fin grid0.N) : Fin 8 := ⟨t / 4, by have : t.val < 32 := t.isLt; omega⟩

theorem seqOf_rowAt (t : Fin grid0.N) (r : Fin 512) : seqOf (rowAt t r) = seqAt t :=
  Fin.ext (by simp only [seqOf, seqAt, rowAt]; omega)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![1, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![2, t.val / 4, 0, 0] := by decide +kernel
theorem idx10 : ∀ t : Fin grid0.N, win0_10.index t = ![2, t.val / 4, 0, 0] := by decide +kernel
theorem idx11 : ∀ t : Fin grid0.N, win0_11.index t = ![t.val, 0] := by decide +kernel
theorem idx12 : ∀ t : Fin grid0.N, win0_12.index t = ![0, t.val] := by decide +kernel
theorem idx13 : ∀ t : Fin grid0.N, win0_13.index t = ![0, t.val] := by decide +kernel
theorem idx14 : ∀ t : Fin grid0.N, win0_14.index t = ![t.val, 0] := by decide +kernel

variable (m : (ℓ : Loc nD τ sig) → Buf (Elt Ideal) ℓ) (c : Dev nD) (t : Fin cfg0.N)

theorem blk0 (r : Fin 512) (d : Fin 1024) : iblk m c 0 t (ix2 r d) = (V m c main_v13 : Vec Ideal S16384x1024 .f32) (ix2 (rowAt t r) d) := by
  blk_simp [iblk]
  refine congrArg (V m c main_v13 : Vec Ideal S16384x1024 .f32) ?_
  blk_ext [idx0, rowAt]

theorem blk1 (r : Fin 512) (d : Fin 1024) : iblk m c 1 t (ix2 r d) = (V m c main_v9 : Vec Ideal S16384x1024 .bf16) (ix2 (rowAt t r) d) := by
  blk_simp [iblk]
  refine congrArg (V m c main_v9 : Vec Ideal S16384x1024 .bf16) ?_
  blk_ext [idx1, rowAt]

theorem blk2 (r d : Fin 512) : iblk m c 2 t (ix2 r d) = (V m c main_v11 : Vec Ideal S16384x512 .bf16) (ix2 (rowAt t r) d) := by
  blk_simp [iblk]
  refine congrArg (V m c main_v11 : Vec Ideal S16384x512 .bf16) ?_
  blk_ext [idx2, rowAt]

theorem blk3 (e : Fin 1536) (d : Fin 1024) : iblk m c 3 t (ix3 0 e d) = (V m c main_v12 : Vec Ideal S2x1536x1024 .bf16) (ix3 1 e d) := by
  blk_simp [iblk]
  refine congrArg (V m c main_v12 : Vec Ideal S2x1536x1024 .bf16) ?_
  blk_ext [idx3]

theorem blk4 (d : Fin 1024) : iblk m c 4 t (ix2 0 d) = (V m c main_v2 : Vec Ideal S1x1024 .f32) (ix2 0 d) := by
  blk_simp [iblk]
  refine congrArg (V m c main_v2 : Vec Ideal S1x1024 .f32) ?_
  blk_ext [idx4]

theorem blk5 (d : Fin 1024) : iblk m c 5 t (ix2 0 d) = (V m c main_v5 : Vec Ideal S1x1024 .f32) (ix2 0 d) := by
  blk_simp [iblk]
  refine congrArg (V m c main_v5 : Vec Ideal S1x1024 .f32) ?_
  blk_ext [idx5]

theorem blk6 (e : Fin 1024) (d : Fin 3072) : iblk m c 6 t (ix3 0 e d) = (V m c main_v14 : Vec Ideal S2x1024x3072 .bf16) (ix3 0 e d) := by
  blk_simp [iblk]
  refine congrArg (V m c main_v14 : Vec Ideal S2x1024x3072 .bf16) ?_
  blk_ext [idx6]

theorem blk7 (r : Fin 512) (d : Fin 128) : iblk m c 7 t (ix2 r d) = (V m c main_v15 : Vec Ideal S16384x128 .f32) (ix2 (rowAt t r) d) := by
  blk_simp [iblk]
  refine congrArg (V m c main_v15 : Vec Ideal S16384x128 .f32) ?_
  blk_ext [idx7, rowAt]

theorem blk8 (r : Fin 512) (d : Fin 128) : iblk m c 8 t (ix2 r d) = (V m c main_v18 : Vec Ideal S16384x128 .f32) (ix2 (rowAt t r) d) := by
  blk_simp [iblk]
  refine congrArg (V m c main_v18 : Vec Ideal S16384x128 .f32) ?_
  blk_ext [idx8, rowAt]

theorem blk9 (j : Fin 256) (d : Fin 512) : iblk m c 9 t (ix4 0 0 j d) = (V m c main_v19 : Vec Ideal S4x8x256x512 .bf16) (ix4 2 (seqAt t) j d) := by
  blk_simp [iblk]
  refine congrArg (V m c main_v19 : Vec Ideal S4x8x256x512 .bf16) ?_
  blk_ext [idx9, seqAt]

theorem blk10 (j : Fin 256) (d : Fin 512) : iblk m c 10 t (ix4 0 0 j d) = (V m c main_v20 : Vec Ideal S4x8x256x512 .bf16) (ix4 2 (seqAt t) j d) := by
  blk_simp [iblk]
  refine congrArg (V m c main_v20 : Vec Ideal S4x8x256x512 .bf16) ?_
  blk_ext [idx10, seqAt]

theorem emb11 (r : Fin 512) (d : Fin 1024) : ((win0_11.blk t).view.emb (ix2 r d) : S16384x1024.Idx) = ix2 (rowAt t r) d := by
  blk_ext [idx11, rowAt]

theorem emb12 (C : Fin 1024) (r : Fin 512) : ((win0_12.blk t).view.emb (ix2 C r) : S1024x16384.Idx) = ix2 C (rowAt t r) := by
  blk_ext [idx12, rowAt]

theorem emb13 (C : Fin 1024) (r : Fin 512) : ((win0_13.blk t).view.emb (ix2 C r) : S1024x16384.Idx) = ix2 C (rowAt t r) := by
  blk_ext [idx13, rowAt]

theorem emb14 (r : Fin 512) (d : Fin 512) : ((win0_14.blk t).view.emb (ix2 r d) : S16384x512.Idx) = ix2 (rowAt t r) d := by
  blk_ext [idx14, rowAt]

theorem residual_apply (x : FVec Ideal S8x2048x1024 .f32) (T : Fin 16384) (d : Fin 1024) :
    (shapeCast S16384x1024 x shapeCasts_S8x2048x1024_S16384x1024
      : FVec Ideal S16384x1024 .f32) (ix2 T d) = x (ix3 (seqOf T) (posOf T) d) := by
  pointwise
  rfl

theorem main_apply (x : FVec Ideal S8x2048x1024 .f32) (T : Fin 16384) (d : Fin 1024) :
    (truncf .bf16 (shapeCast S16384x1024 x shapeCasts_S8x2048x1024_S16384x1024) bitsLt_bf16_f32
      : FVec Ideal S16384x1024 .bf16) (ix2 T d) = x (ix3 (seqOf T) (posOf T) d) := by
  pointwise
  rfl

theorem mem_apply (x : FVec Ideal S8x2048x512 .f32) (T : Fin 16384) (e : Fin 512) :
    (truncf .bf16 (shapeCast S16384x512 x
      shapeCasts_S8x2048x512_S16384x512) bitsLt_bf16_f32 : FVec Ideal S16384x512 .bf16) (ix2 T e) = x (ix3 (seqOf T) (posOf T) e) := by
  pointwise
  rfl

theorem post_apply (x : FVec Ideal S4x1024 .f32) (d : Fin 1024) :
    (shapeCast S1x1024 (shapeCast S1024 (extractStridedSlice S1x1024 ![1, 0]
      x slices_S4x1024_S1x1024_1_0) shapeCasts_S1x1024_S1024) shapeCasts_S1024_S1x1024
      : FVec Ideal S1x1024 .f32) (ix2 0 d) = x (ix2 1 d) := by
  pointwise

theorem pre_apply (x : FVec Ideal S4x1024 .f32) (d : Fin 1024) :
    (shapeCast S1x1024 (shapeCast S1024 (extractStridedSlice S1x1024 ![2, 0]
      x slices_S4x1024_S1x1024_2_0) shapeCasts_S1x1024_S1024) shapeCasts_S1024_S1x1024
      : FVec Ideal S1x1024 .f32) (ix2 0 d) = x (ix2 2 d) := by
  pointwise

theorem angles_apply (x : FVec Ideal S8x2048x32 .f32) (T : Fin 16384) (i : Fin 32) :
    (shapeCast S16384x32 x shapeCasts_S8x2048x32_S16384x32 : FVec Ideal S16384x32 .f32) (ix2 T i) = x (ix3 (seqOf T) (posOf T) i) := by
  pointwise
  rfl

theorem four_apply (u v w z : FVec Ideal S16384x32 .f32) (T : Fin 16384) (l : Fin 128) :
    (concatenate S16384x128 1 [⟨S16384x32, u⟩, ⟨S16384x32, v⟩, ⟨S16384x32, w⟩, ⟨S16384x32, z⟩]
      concatenates_S16384x32_S16384x32_S16384x32_S16384x32_S16384x128_d1 : FVec Ideal S16384x128 .f32) (ix2 T l)
      = if l.val < 32 then u (ix2 T ⟨l % 32, by omega⟩) else if l.val < 64 then v (ix2 T ⟨l % 32, by omega⟩)
        else if l.val < 96 then w (ix2 T ⟨l % 32, by omega⟩) else z (ix2 T ⟨l % 32, by omega⟩) := by
  pointwise
  have hl : l.val < 128 := l.isLt
  split_ifs
  all_goals try (exfalso; omega)
  all_goals try first
    | rw [if_pos (show l.val < 64 by omega)]
    | rw [if_neg (show ¬ l.val < 64 by omega), if_pos (show l.val < 96 by omega)]
    | rw [if_neg (show ¬ l.val < 64 by omega), if_neg (show ¬ l.val < 96 by omega)]
  all_goals first
    | exact congrArg u (congrArg (ix2 T) (Fin.ext (show l.val = l.val % 32 by omega)))
    | exact congrArg v (congrArg (ix2 T) (Fin.ext (show l.val - 32 = l.val % 32 by omega)))
    | exact congrArg w (congrArg (ix2 T) (Fin.ext (show l.val - 32 - 32 = l.val % 32 by omega)))
    | exact congrArg z (congrArg (ix2 T) (Fin.ext (show l.val - 32 - 32 - 32 = l.val % 32 by omega)))

theorem cosines_apply (x : FVec Ideal S8x2048x32 .f32) (T : Fin 16384) (l : Fin 128) :
    (concatenate S16384x128 1 [⟨S16384x32, shapeCast S16384x32 x shapeCasts_S8x2048x32_S16384x32⟩,
      ⟨S16384x32, shapeCast S16384x32 x shapeCasts_S8x2048x32_S16384x32⟩, ⟨S16384x32, shapeCast S16384x32 x shapeCasts_S8x2048x32_S16384x32⟩,
      ⟨S16384x32, shapeCast S16384x32 x shapeCasts_S8x2048x32_S16384x32⟩]
      concatenates_S16384x32_S16384x32_S16384x32_S16384x32_S16384x128_d1 : FVec Ideal S16384x128 .f32) (ix2 T l)
      = x (ix3 (seqOf T) (posOf T) ⟨l % 32, by omega⟩) := by
  rw [four_apply, ite_self, ite_self, ite_self, angles_apply]

theorem sines_apply (x : FVec Ideal S8x2048x32 .f32) (T : Fin 16384) (l : Fin 128) :
    (concatenate S16384x128 1 [⟨S16384x32, Host.negf (F := Ideal) (shapeCast S16384x32 x shapeCasts_S8x2048x32_S16384x32 : FVec Ideal S16384x32 .f32)⟩,
      ⟨S16384x32, shapeCast S16384x32 x shapeCasts_S8x2048x32_S16384x32⟩, ⟨S16384x32, Host.negf (F := Ideal) (shapeCast S16384x32 x shapeCasts_S8x2048x32_S16384x32 : FVec Ideal S16384x32 .f32)⟩,
      ⟨S16384x32, shapeCast S16384x32 x shapeCasts_S8x2048x32_S16384x32⟩]
      concatenates_S16384x32_S16384x32_S16384x32_S16384x32_S16384x128_d1 : FVec Ideal S16384x128 .f32) (ix2 T l)
      = if l.val % 64 < 32 then -(x (ix3 (seqOf T) (posOf T) ⟨l % 32, by omega⟩)) else x (ix3 (seqOf T) (posOf T) ⟨l % 32, by omega⟩) := by
  have hn : ∀ i, Host.negf (F := Ideal) (shapeCast S16384x32 x shapeCasts_S8x2048x32_S16384x32 : FVec Ideal S16384x32 .f32) (ix2 T i)
      = -(x (ix3 (seqOf T) (posOf T) i)) := fun i => congrArg (fun u : EReal => -u) (angles_apply x T i)
  rw [four_apply, hn, angles_apply]
  split_ifs <;> first | rfl | (exfalso; omega)

theorem operand_residual (T : Fin 16384) (d : Fin 1024) : (V m c main_v13 : Vec Ideal S16384x1024 .f32) (ix2 T d) = m ((c.tc : Thread nD τ).loc main_arg0) (ix3 (seqOf T) (posOf T) d) := by
  rw [show V m c main_v13 = (shapeCast S16384x1024 (m ((c.tc : Thread nD τ).loc main_arg0)) shapeCasts_S8x2048x1024_S16384x1024 : FVec Ideal S16384x1024 .f32)
    by with_unfolding_all rfl]
  exact residual_apply _ T d

theorem operand_main (T : Fin 16384) (d : Fin 1024) : (V m c main_v9 : Vec Ideal S16384x1024 .bf16) (ix2 T d) = m ((c.tc : Thread nD τ).loc main_arg1) (ix3 (seqOf T) (posOf T) d) := by
  rw [show V m c main_v9 = (truncf .bf16 (shapeCast S16384x1024 (m ((c.tc : Thread nD τ).loc main_arg1)) shapeCasts_S8x2048x1024_S16384x1024) bitsLt_bf16_f32 : FVec Ideal S16384x1024 .bf16)
    by with_unfolding_all rfl]
  exact main_apply _ T d

theorem operand_mem (T : Fin 16384) (d : Fin 512) : (V m c main_v11 : Vec Ideal S16384x512 .bf16) (ix2 T d) = m ((c.tc : Thread nD τ).loc main_arg2) (ix3 (seqOf T) (posOf T) d) := by
  rw [show V m c main_v11 = (truncf .bf16 (shapeCast S16384x512 (m ((c.tc : Thread nD τ).loc main_arg2)) shapeCasts_S8x2048x512_S16384x512) bitsLt_bf16_f32 : FVec Ideal S16384x512 .bf16)
    by with_unfolding_all rfl]
  exact mem_apply _ T d

theorem operand_mixing (e : Fin 1536) (d : Fin 1024) : (V m c main_v12 : Vec Ideal S2x1536x1024 .bf16) (ix3 1 e d) = m ((c.tc : Thread nD τ).loc main_arg3) (ix3 1 e d) := by
  rw [show V m c main_v12 = (truncf .bf16 (m ((c.tc : Thread nD τ).loc main_arg3)) bitsLt_bf16_f32 : FVec Ideal S2x1536x1024 .bf16)
    by with_unfolding_all rfl]
  rfl

theorem operand_post (d : Fin 1024) : (V m c main_v2 : Vec Ideal S1x1024 .f32) (ix2 0 d) = m ((c.tc : Thread nD τ).loc main_arg4) (ix2 1 d) := by
  rw [show V m c main_v2 = (shapeCast S1x1024 (shapeCast S1024 (extractStridedSlice S1x1024 ![1, 0] (m ((c.tc : Thread nD τ).loc main_arg4)) slices_S4x1024_S1x1024_1_0) shapeCasts_S1x1024_S1024) shapeCasts_S1024_S1x1024 : FVec Ideal S1x1024 .f32)
    by with_unfolding_all rfl]
  exact post_apply _ d

theorem operand_pre (d : Fin 1024) : (V m c main_v5 : Vec Ideal S1x1024 .f32) (ix2 0 d) = m ((c.tc : Thread nD τ).loc main_arg5) (ix2 2 d) := by
  rw [show V m c main_v5 = (shapeCast S1x1024 (shapeCast S1024 (extractStridedSlice S1x1024 ![2, 0] (m ((c.tc : Thread nD τ).loc main_arg5)) slices_S4x1024_S1x1024_2_0) shapeCasts_S1x1024_S1024) shapeCasts_S1024_S1x1024 : FVec Ideal S1x1024 .f32)
    by with_unfolding_all rfl]
  exact pre_apply _ d

theorem operand_weights (e : Fin 1024) (d : Fin 3072) : (V m c main_v14 : Vec Ideal S2x1024x3072 .bf16) (ix3 0 e d) = m ((c.tc : Thread nD τ).loc main_arg6) (ix3 0 e d) := by
  rw [show V m c main_v14 = (truncf .bf16 (m ((c.tc : Thread nD τ).loc main_arg6)) bitsLt_bf16_f32 : FVec Ideal S2x1024x3072 .bf16)
    by with_unfolding_all rfl]
  rfl

theorem operand_keys (b : Fin 8) (j : Fin 256) (d : Fin 512) : (V m c main_v19 : Vec Ideal S4x8x256x512 .bf16) (ix4 2 b j d) = m ((c.tc : Thread nD τ).loc main_arg9) (ix4 2 b j d) := by
  rw [show V m c main_v19 = (truncf .bf16 (m ((c.tc : Thread nD τ).loc main_arg9)) bitsLt_bf16_f32 : FVec Ideal S4x8x256x512 .bf16)
    by with_unfolding_all rfl]
  rfl

theorem operand_values (b : Fin 8) (j : Fin 256) (d : Fin 512) : (V m c main_v20 : Vec Ideal S4x8x256x512 .bf16) (ix4 2 b j d) = m ((c.tc : Thread nD τ).loc main_arg10) (ix4 2 b j d) := by
  rw [show V m c main_v20 = (truncf .bf16 (m ((c.tc : Thread nD τ).loc main_arg10)) bitsLt_bf16_f32 : FVec Ideal S4x8x256x512 .bf16)
    by with_unfolding_all rfl]
  rfl

theorem operand_cosines (T : Fin 16384) (l : Fin 128) : (V m c main_v15 : Vec Ideal S16384x128 .f32) (ix2 T l) = m ((c.tc : Thread nD τ).loc main_arg7) (ix3 (seqOf T) (posOf T) ⟨l % 32, by omega⟩) := by
  rw [show V m c main_v15 = (concatenate S16384x128 1 [⟨S16384x32, shapeCast S16384x32 (m ((c.tc : Thread nD τ).loc main_arg7)) shapeCasts_S8x2048x32_S16384x32⟩, ⟨S16384x32, shapeCast S16384x32 (m ((c.tc : Thread nD τ).loc main_arg7)) shapeCasts_S8x2048x32_S16384x32⟩, ⟨S16384x32, shapeCast S16384x32 (m ((c.tc : Thread nD τ).loc main_arg7)) shapeCasts_S8x2048x32_S16384x32⟩, ⟨S16384x32, shapeCast S16384x32 (m ((c.tc : Thread nD τ).loc main_arg7)) shapeCasts_S8x2048x32_S16384x32⟩] concatenates_S16384x32_S16384x32_S16384x32_S16384x32_S16384x128_d1 : FVec Ideal S16384x128 .f32)
    by with_unfolding_all rfl]
  exact cosines_apply _ T l

theorem operand_sines (T : Fin 16384) (l : Fin 128) : (V m c main_v18 : Vec Ideal S16384x128 .f32) (ix2 T l)
    = (if l.val % 64 < 32 then Neg.neg (α := EReal) ((m ((c.tc : Thread nD τ).loc main_arg8)) (ix3 (seqOf T) (posOf T) ⟨l % 32, by omega⟩) : EReal) else (m ((c.tc : Thread nD τ).loc main_arg8)) (ix3 (seqOf T) (posOf T) ⟨l % 32, by omega⟩) : EReal) := by
  rw [show V m c main_v18 = (concatenate S16384x128 1 [⟨S16384x32, Host.negf (F := Ideal) (shapeCast S16384x32 (m ((c.tc : Thread nD τ).loc main_arg8)) shapeCasts_S8x2048x32_S16384x32 : FVec Ideal S16384x32 .f32)⟩, ⟨S16384x32, shapeCast S16384x32 (m ((c.tc : Thread nD τ).loc main_arg8)) shapeCasts_S8x2048x32_S16384x32⟩, ⟨S16384x32, Host.negf (F := Ideal) (shapeCast S16384x32 (m ((c.tc : Thread nD τ).loc main_arg8)) shapeCasts_S8x2048x32_S16384x32 : FVec Ideal S16384x32 .f32)⟩, ⟨S16384x32, shapeCast S16384x32 (m ((c.tc : Thread nD τ).loc main_arg8)) shapeCasts_S8x2048x32_S16384x32⟩] concatenates_S16384x32_S16384x32_S16384x32_S16384x32_S16384x128_d1 : FVec Ideal S16384x128 .f32)
    by with_unfolding_all rfl]
  exact sines_apply _ T l

theorem stream_blk (r : Fin 512) : blkStream (iblk m c 0 t) (iblk m c 1 t) (iblk m c 2 t) (iblk m c 3 t) (iblk m c 4 t) r
    = bStream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (seqOf (rowAt t r)) (posOf (rowAt t r)) := by
  funext d
  unfold blkStream bStream
  simp only [blk0, blk1, blk2, blk3, blk4]
  exact congrArg₂ (· + ·) (operand_residual m c (rowAt t r) d) (congrArg₂ (fun y g => normed y g d)
    (funext fun d => congr (congrArg₂ mixed (funext fun e => operand_main m c (rowAt t r) e) (funext fun e => operand_mem m c (rowAt t r) e))
      (funext fun e => operand_mixing m c e d)) (funext fun e => operand_post m c e))

theorem input_blk (r : Fin 512) : blkInput (iblk m c 0 t) (iblk m c 1 t) (iblk m c 2 t) (iblk m c 3 t) (iblk m c 4 t) (iblk m c 5 t) r
    = bInput (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (seqOf (rowAt t r)) (posOf (rowAt t r)) := by
  unfold blkInput bInput
  rw [stream_blk]
  simp only [blk5]
  exact congrArg (normed _) (funext fun e => operand_pre m c e)

theorem proj_blk (r : Fin 512) (k : Fin 3072) : blkProj (iblk m c 0 t) (iblk m c 1 t) (iblk m c 2 t) (iblk m c 3 t) (iblk m c 4 t) (iblk m c 5 t) (iblk m c 6 t) r k
    = bProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (rowAt t r)) (posOf (rowAt t r)) k := by
  unfold blkProj bProj
  rw [input_blk]
  simp only [blk6]
  exact Finset.sum_congr rfl fun e _ => congrArg (HMul.hMul (α := EReal) _) (operand_weights m c e k)

theorem values_blk (j : Fin 256) (d : Fin 512) (r : Fin 512) : (iblk m c 10 t : Vec Ideal S1x1x256x512 .bf16) (ix4 0 0 j d)
    = (m ((c.tc : Thread nD τ).loc main_arg10)) (ix4 2 (seqOf (rowAt t r)) j d) := by
  rw [seqOf_rowAt]
  exact (blk10 m c t j d).trans (operand_values m c _ j d)

/-- The score of memory token `j` for a token's row of projections and memory head `hh`, in base two. -/
def rowScore (p : Fin 3072 → EReal) (x9 : FVec Ideal S4x8x256x512 .f32) (b : Fin 8) (hh : Fin 4) (j : Fin 256) : EReal :=
  ∑ e : Fin 128, p (bMemQuery (memCol hh e))
      * Named.named (F := Ideal) (φ := .f32) κ "mem_scale" 0x3E0293EE#32 * x9 (ix4 2 b j (memCol hh e))

theorem score_blk (r : Fin 512) (hh : Fin 4) : blkScore (iblk m c 0 t) (iblk m c 1 t) (iblk m c 2 t) (iblk m c 3 t) (iblk m c 4 t) (iblk m c 5 t) (iblk m c 6 t) (iblk m c 9 t) r hh
    = rowScore (bProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (rowAt t r)) (posOf (rowAt t r))) (m ((c.tc : Thread nD τ).loc main_arg9)) (seqOf (rowAt t r)) hh := by
  funext j
  unfold blkScore rowScore
  refine Finset.sum_congr rfl fun e _ => ?_
  rw [proj_blk, seqOf_rowAt]
  exact congrArg (HMul.hMul (α := EReal) _) ((blk9 m c t j (memCol hh e)).trans (operand_keys m c _ j _))

/-- The rotated query of a token's row of projections, column `C`, with the token's cosines and sines. -/
def rowRope (p : Fin 3072 → EReal) (C : Fin 1024) (cos sin : Fin 32 → EReal) : EReal :=
  ropeK (p (bQuery C)) (p (bQuery (pairCol C))) (cos (angle C)) (if C.val % 64 < 32 then -(sin (angle C)) else sin (angle C))

theorem angle_eq (C : Fin 1024) : (⟨(laneOf C).val % 32, by omega⟩ : Fin 32) = angle C := Fin.ext (by simp only [laneOf, angle]; omega)

theorem half_eq (C : Fin 1024) : (laneOf C).val % 64 = C.val % 64 := by simp only [laneOf]; omega

theorem rope_blk (r : Fin 512) (C : Fin 1024) : blkRope (iblk m c 0 t) (iblk m c 1 t) (iblk m c 2 t) (iblk m c 3 t) (iblk m c 4 t) (iblk m c 5 t) (iblk m c 6 t) (iblk m c 7 t) (iblk m c 8 t) r C
    = rowRope (bProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (rowAt t r)) (posOf (rowAt t r))) C (fun i => (m ((c.tc : Thread nD τ).loc main_arg7)) (ix3 (seqOf (rowAt t r)) (posOf (rowAt t r)) i))
        (fun i => (m ((c.tc : Thread nD τ).loc main_arg8)) (ix3 (seqOf (rowAt t r)) (posOf (rowAt t r)) i)) := by
  unfold blkRope rowRope
  have hc := (blk7 m c t r (laneOf C)).trans (operand_cosines m c (rowAt t r) (laneOf C))
  have hs := (blk8 m c t r (laneOf C)).trans (operand_sines m c (rowAt t r) (laneOf C))
  rw [angle_eq] at hc
  rw [angle_eq, half_eq] at hs
  rw [proj_blk, proj_blk]
  exact congrArg₂ (ropeK _ _) hc hs

theorem stream_array : (Gen.dats m 0 c).arrAt 11 cfg0.N = (fun y : S16384x1024.Idx =>
    bStream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (seqOf (y 0)) (posOf (y 0)) (y 1) : FVec Ideal S16384x1024 .f32) := by
  refine (dats m 0 c).arrAt_eq_of_covers 11 _ (by decide +kernel) fun t hf y => ?_
  blk_simp
  rw [after0_11]
  obtain ⟨r, d, rfl⟩ : ∃ (r : Fin 512) (d : Fin 1024), y = ix2 r d := ⟨y 0, y 1, funext fun a => by fin_cases a <;> rfl⟩
  rw [emb11, out_stream]
  exact congrFun (stream_blk m c t r) d

theorem query_array : (Gen.dats m 0 c).arrAt 12 cfg0.N = (fun y : S1024x16384.Idx =>
    rowRope (bProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 1)) (posOf (y 1))) (y 0) (fun i => (m ((c.tc : Thread nD τ).loc main_arg7)) (ix3 (seqOf (y 1)) (posOf (y 1)) i)) (fun i => (m ((c.tc : Thread nD τ).loc main_arg8)) (ix3 (seqOf (y 1)) (posOf (y 1)) i)) : FVec Ideal S1024x16384 .bf16) := by
  refine (dats m 0 c).arrAt_eq_of_covers 12 _ (by decide +kernel) fun t hf y => ?_
  blk_simp
  rw [after0_12]
  obtain ⟨C, r, rfl⟩ : ∃ (C : Fin 1024) (r : Fin 512), y = ix2 C r := ⟨y 0, y 1, funext fun a => by fin_cases a <;> rfl⟩
  rw [emb12, out_query]
  rw [rope_blk]
  rfl

theorem gate_array : (Gen.dats m 0 c).arrAt 13 cfg0.N = (fun y : S1024x16384.Idx =>
    siluK (bProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 1)) (posOf (y 1)) (bGate (y 0))) : FVec Ideal S1024x16384 .bf16) := by
  refine (dats m 0 c).arrAt_eq_of_covers 13 _ (by decide +kernel) fun t hf y => ?_
  blk_simp
  rw [after0_13]
  obtain ⟨C, r, rfl⟩ : ∃ (C : Fin 1024) (r : Fin 512), y = ix2 C r := ⟨y 0, y 1, funext fun a => by fin_cases a <;> rfl⟩
  rw [emb13, out_gate]
  rw [proj_blk]
  rfl

theorem memory_array : (Gen.dats m 0 c).arrAt 14 cfg0.N = (fun y : S16384x512.Idx =>
    memoryK (rowScore (bProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 0)) (posOf (y 0))) (m ((c.tc : Thread nD τ).loc main_arg9)) (seqOf (y 0)) (headOf (y 1))) (fun j => (m ((c.tc : Thread nD τ).loc main_arg10)) (ix4 2 (seqOf (y 0)) j (y 1))) (bProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (seqOf (y 0)) (posOf (y 0)) (bMemGate (y 1))) : FVec Ideal S16384x512 .bf16) := by
  refine (dats m 0 c).arrAt_eq_of_covers 14 _ (by decide +kernel) fun t hf y => ?_
  blk_simp
  rw [after0_14]
  obtain ⟨r, d, rfl⟩ : ∃ (r : Fin 512) (d : Fin 512), y = ix2 r d := ⟨y 0, y 1, funext fun a => by fin_cases a <;> rfl⟩
  rw [emb14, out_memory]
  rw [proj_blk, score_blk, funext fun j => values_blk m c t j d r]
  rfl

end Cert.BKernelIdeal.Trunk

end
-- ==== Proof.Trunk.BRef.lean ====
/- What the reference of the sliding-window layer's input projection computes, at an index. -/
module

public import proofs.«01_k».proof.Proof.Trunk.BRow
public import proofs.«01_k».proof.Proof.Trunk.InRef
public import proofs.«01_k».proof.Proof.Gen.BReferenceIdeal.Read

@[expose] public section

noncomputable section

namespace Cert.BReferenceIdeal.Trunk

open Cert.BReferenceIdeal Cert.BReferenceIdeal.Read Cert.Trunk Idealize.ShloMosaic
open Cert.InReferenceIdeal.Trunk (siluR weightR meanR)

variable (x0 x1 : FVec Ideal S8x2048x1024 .f32) (x2 : FVec Ideal S8x2048x512 .f32) (x3 : FVec Ideal S2x1536x1024 .f32)
  (x4 x5 : FVec Ideal S4x1024 .f32) (x6 : FVec Ideal S2x1024x3072 .f32) (x7 x8 : FVec Ideal S8x2048x32 .f32)
  (x9 x10 : FVec Ideal S4x8x256x512 .f32)

theorem joined_at (b : Fin 8) (s : Fin 2048) (e : Fin 1536) :
    val_main_v0 (F := Ideal) x1 x2 (ix3 b s e) = joined (fun e => x1 (ix3 b s e)) (fun e => x2 (ix3 b s e)) e := by
  unfold joined
  pointwise [val_main_v0]

theorem product_at (b : Fin 8) (s : Fin 2048) (d : Fin 1024) :
    val_main_v3 (F := Ideal) x1 x2 x3 (ix3 b s d)
      = mixed (fun e => x1 (ix3 b s e)) (fun e => x2 (ix3 b s e)) (fun e => x3 (ix3 1 e d)) := by
  rw [← mixed_eq]
  have h : ∀ e, joined (fun e => x1 (ix3 b s e)) (fun e => x2 (ix3 b s e)) e = val_main_v0 (F := Ideal) x1 x2 (ix3 b s e) := fun e =>
    (joined_at x1 x2 b s e).symm
  simp only [h]
  unfold val_main_v3
  generalize val_main_v0 (F := Ideal) x1 x2 = y
  pointwise [val_main_v2, val_main_v1]

theorem post_at (y : FVec Ideal S8x2048x1024 .f32) (b : Fin 8) (s : Fin 2048) (d : Fin 1024) (h : y = val_main_v3 (F := Ideal) x1 x2 x3) :
    val_main_v18 (F := Ideal) x1 x2 x3 x4 (ix3 b s d) = normed (fun e => y (ix3 b s e)) (fun e => x4 (ix2 1 e)) d := by
  unfold val_main_v18 val_main_v15 val_main_v14 val_main_v13 val_main_v12 val_main_v10 val_main_v8 val_main_v7 val_main_v6
  rw [← h]
  pointwise [val_main_v17, val_main_v16, val_main_v5, val_main_v4, val_main_v9, val_main_v11, val_main_cst, val_main_cst_0, val_main_cst_1]
  rfl

theorem stream_at (b : Fin 8) (s : Fin 2048) (d : Fin 1024) :
    val_main_v19 (F := Ideal) x0 x1 x2 x3 x4 (ix3 b s d) = bStream x0 x1 x2 x3 x4 b s d := by
  unfold bStream
  simp only [← product_at]
  rw [← post_at x1 x2 x3 x4 _ b s d rfl]
  unfold val_main_v19
  generalize val_main_v18 (F := Ideal) x1 x2 x3 x4 = y
  pointwise

theorem input_of (y : FVec Ideal S8x2048x1024 .f32) (b : Fin 8) (s : Fin 2048) (d : Fin 1024)
    (h : y = val_main_v19 (F := Ideal) x0 x1 x2 x3 x4) :
    val_main_v34 (F := Ideal) x0 x1 x2 x3 x4 x5 (ix3 b s d) = normed (fun e => y (ix3 b s e)) (fun e => x5 (ix2 2 e)) d := by
  unfold val_main_v34 val_main_v31 val_main_v30 val_main_v29 val_main_v28 val_main_v26 val_main_v24 val_main_v23 val_main_v22
  rw [← h]
  pointwise [val_main_v33, val_main_v32, val_main_v21, val_main_v20, val_main_v25, val_main_v27, val_main_cst_2, val_main_cst_3, val_main_cst_4]
  rfl

theorem input_at (b : Fin 8) (s : Fin 2048) (d : Fin 1024) :
    val_main_v34 (F := Ideal) x0 x1 x2 x3 x4 x5 (ix3 b s d) = bInput x0 x1 x2 x3 x4 x5 b s d := by
  rw [input_of x0 x1 x2 x3 x4 x5 _ b s d rfl]
  exact congrArg (fun y => normed y _ d) (funext fun e => stream_at x0 x1 x2 x3 x4 b s e)

theorem proj_of (y : FVec Ideal S8x2048x1024 .f32) (b : Fin 8) (s : Fin 2048) (k : Fin 3072)
    (h : y = val_main_v34 (F := Ideal) x0 x1 x2 x3 x4 x5) :
    val_main_v37 (F := Ideal) x0 x1 x2 x3 x4 x5 x6 (ix3 b s k) = ∑ e : Fin 1024, y (ix3 b s e) * x6 (ix3 0 e k) := by
  unfold val_main_v37
  rw [← h]
  pointwise [val_main_v36, val_main_v35]

theorem proj_at (b : Fin 8) (s : Fin 2048) (k : Fin 3072) :
    val_main_v37 (F := Ideal) x0 x1 x2 x3 x4 x5 x6 (ix3 b s k) = bProj x0 x1 x2 x3 x4 x5 x6 b s k := by
  rw [proj_of x0 x1 x2 x3 x4 x5 x6 _ b s k rfl]
  exact Finset.sum_congr rfl fun e _ => congrArg (fun u : EReal => u * x6 (ix3 0 e k)) (input_at x0 x1 x2 x3 x4 x5 b s e)

theorem stream_out (T : Fin 16384) (d : Fin 1024) : val_main_v86 (F := Ideal) x0 x1 x2 x3 x4 (ix2 T d)
    = bStream x0 x1 x2 x3 x4 (seqOf T) (posOf T) d := by
  rw [← stream_at]
  unfold val_main_v86
  generalize val_main_v19 (F := Ideal) x0 x1 x2 x3 x4 = y
  pointwise
  rfl

theorem gate_out (T : Fin 16384) (d : Fin 1024) : val_main_v96 (F := Ideal) x0 x1 x2 x3 x4 x5 x6 (ix2 d T)
    = siluR (bProj x0 x1 x2 x3 x4 x5 x6 (seqOf T) (posOf T) (bGate d)) := by
  rw [← proj_at]
  unfold val_main_v96 val_main_v95 val_main_v94 val_main_v93 val_main_call1_v5 val_main_call1_v3 val_main_call1_v1 val_main_call1_v0 val_main_v39
  generalize val_main_v37 (F := Ideal) x0 x1 x2 x3 x4 x5 x6 = y
  unfold siluR
  pointwise [val_main_call1_v4, val_main_call1_v2, val_main_call1_cst, val_main_call1_cst_0]
  rfl

/-- The rotation's pair, as the reference writes it: the first half of a head less, the second half plus. -/
def turnR (d : Fin 1024) (x y c s : EReal) : EReal := if d.val % 64 < 32 then x * c - y * s else x * c + y * s

theorem rotated_at (b : Fin 8) (s : Fin 2048) (h : Fin 16) (i : Fin 64) :
    val_main_v57 (F := Ideal) x0 x1 x2 x3 x4 x5 x6 x7 x8 (ix4 b s h i)
      = turnR ⟨64 * h + i, by omega⟩ (bProj x0 x1 x2 x3 x4 x5 x6 b s (bQuery ⟨64 * h + i, by omega⟩))
          (bProj x0 x1 x2 x3 x4 x5 x6 b s (bQuery (pairCol ⟨64 * h + i, by omega⟩)))
          (x7 (ix3 b s (angle ⟨64 * h + i, by omega⟩))) (x8 (ix3 b s (angle ⟨64 * h + i, by omega⟩))) := by
  simp only [← proj_at]
  unfold val_main_v57 val_main_v51 val_main_v56 val_main_v48 val_main_v50 val_main_v53 val_main_v55 val_main_v43 val_main_v44 val_main_v42 val_main_v38
  generalize val_main_v37 (F := Ideal) x0 x1 x2 x3 x4 x5 x6 = y
  unfold turnR pairCol
  by_cases hi : i.val < 32
  · have h1 : (64 * h.val + i.val) % 64 < 32 := by omega
    simp only [h1, if_true]
    pointwise [val_main_v45, val_main_v46, val_main_v47, val_main_v49, val_main_v52, val_main_v54]
    rw [dif_pos hi]
    refine congrArg₂ (fun u v : EReal => u - v) (congrArg₂ (fun u v : EReal => u * v) (congrArg (fun u => y (ix3 b s u)) (Fin.ext ?_)) (congrArg (fun u => x7 (ix3 b s u)) (Fin.ext ?_)))
      (congrArg₂ (fun u v : EReal => u * v) (congrArg (fun u => y (ix3 b s u)) (Fin.ext ?_)) (congrArg (fun u => x8 (ix3 b s u)) (Fin.ext ?_))) <;> simp only [bQuery, angle] <;> omega
  · have h1 : ¬ (64 * h.val + i.val) % 64 < 32 := by omega
    simp only [h1, if_false]
    pointwise [val_main_v45, val_main_v46, val_main_v47, val_main_v49, val_main_v52, val_main_v54]
    rw [dif_neg hi]
    refine congrArg₂ (fun u v : EReal => u + v) (congrArg₂ (fun u v : EReal => u * v) (congrArg (fun u => y (ix3 b s u)) (Fin.ext ?_)) (congrArg (fun u => x7 (ix3 b s u)) (Fin.ext ?_)))
      (congrArg₂ (fun u v : EReal => u * v) (congrArg (fun u => y (ix3 b s u)) (Fin.ext ?_)) (congrArg (fun u => x8 (ix3 b s u)) (Fin.ext ?_))) <;> simp only [bQuery, angle] <;> omega

/-- The rotated and scaled query, to base two, as the reference computes it. -/
def ropeR (d : Fin 1024) (x y c s : EReal) : EReal :=
  Ideal.div (turnR d x y c s * Ideal.ofBits .f32 0x3E000000#32) (Ideal.log (Ideal.ofBits .f32 0x40000000#32))

theorem query_out (T : Fin 16384) (d : Fin 1024) : val_main_v92 (F := Ideal) x0 x1 x2 x3 x4 x5 x6 x7 x8 (ix2 d T)
    = ropeR d (bProj x0 x1 x2 x3 x4 x5 x6 (seqOf T) (posOf T) (bQuery d))
        (bProj x0 x1 x2 x3 x4 x5 x6 (seqOf T) (posOf T) (bQuery (pairCol d)))
        (x7 (ix3 (seqOf T) (posOf T) (angle d))) (x8 (ix3 (seqOf T) (posOf T) (angle d))) := by
  have h := rotated_at x0 x1 x2 x3 x4 x5 x6 x7 x8 (seqOf T) (posOf T) ⟨d / 64, by omega⟩ ⟨d % 64, by omega⟩
  have e : (⟨64 * (d.val / 64) + d.val % 64, by omega⟩ : Fin 1024) = d := Fin.ext (by show 64 * (d.val / 64) + d.val % 64 = d.val; omega)
  simp only [e] at h
  unfold ropeR
  rw [← h]
  unfold val_main_v92 val_main_v91 val_main_v90 val_main_v89 val_main_v59
  generalize val_main_v57 (F := Ideal) x0 x1 x2 x3 x4 x5 x6 x7 x8 = y
  pointwise [val_main_v58, val_main_cst_5, val_main_v88, val_main_v87, val_main_cst_10]
  rfl

/-- The reference's score of memory token `j`. -/
def scoreR (p : Fin 3072 → EReal) (b : Fin 8) (hh : Fin 4) (j : Fin 256) : EReal :=
  (∑ e : Fin 128, p (bMemQuery (headCol hh e)) * x9 (ix4 2 b j (headCol hh e))) * Ideal.ofBits .f32 0x3DB504F3#32

theorem score_at (b : Fin 8) (s : Fin 2048) (hh : Fin 4) (j : Fin 256) :
    val_main_v69 (F := Ideal) x0 x1 x2 x3 x4 x5 x6 x9 (ix4 b hh s j) = scoreR x9 (bProj x0 x1 x2 x3 x4 x5 x6 b s) b hh j := by
  unfold scoreR
  simp only [← proj_at]
  unfold val_main_v69 val_main_v67 val_main_v60 val_main_v40
  generalize val_main_v37 (F := Ideal) x0 x1 x2 x3 x4 x5 x6 = y
  pointwise [val_main_v63, val_main_v62, val_main_v61, val_main_v68, val_main_cst_6]
  rfl

theorem largest_of (y : FVec Ideal S8x4x2048x256 .f32) (h : y = val_main_v69 (F := Ideal) x0 x1 x2 x3 x4 x5 x6 x9) (b : Fin 8) (s : Fin 2048) (hh : Fin 4) :
    val_main_v70 (F := Ideal) x0 x1 x2 x3 x4 x5 x6 x9 (ix3 b hh s) = Finset.univ.fold max ⊥ fun j => y (ix4 b hh s j) := by
  unfold val_main_v70 val_main_cst_7
  rw [← h, Host.reduce_eq_fold_single _ _ _ _ (by decide), ← lowest]
  show Finset.fold max (Ideal.ofBits .f32 0xFF800000#32) _ _ = _
  refine congrArg (fun f => Finset.fold max (Ideal.ofBits .f32 0xFF800000#32) f Finset.univ) (funext fun k => ?_)
  exact congrArg y (funext fun a => Fin.ext (by
    match a with | ⟨0, _⟩ => rfl | ⟨1, _⟩ => rfl | ⟨2, _⟩ => rfl | ⟨3, _⟩ => rfl))

theorem shift_at (b : Fin 8) (s : Fin 2048) (hh : Fin 4) (j : Fin 256) :
    val_main_v74 (F := Ideal) x0 x1 x2 x3 x4 x5 x6 x9 (ix4 b hh s j)
      = (max ⊥ (val_main_v70 (F := Ideal) x0 x1 x2 x3 x4 x5 x6 x9 (ix3 b hh s)) : EReal) := by
  rw [val_main_v74_apply, val_main_v73_apply, val_main_v72_apply, val_main_v71_apply, val_main_cst_8_apply, ← lowest]
  generalize val_main_v70 (F := Ideal) x0 x1 x2 x3 x4 x5 x6 x9 = z
  exact congrArg (fun u : EReal => max (Ideal.ofBits .f32 0xFF800000#32) u) (congrArg z (funext fun a => Fin.ext (by
    match a with | ⟨0, _⟩ => rfl | ⟨1, _⟩ => rfl | ⟨2, _⟩ => rfl)))

theorem weight_at (y : FVec Ideal S8x4x2048x256 .f32) (h : y = val_main_v69 (F := Ideal) x0 x1 x2 x3 x4 x5 x6 x9) (b : Fin 8) (s : Fin 2048) (hh : Fin 4) (j : Fin 256) :
    val_main_v76 (F := Ideal) x0 x1 x2 x3 x4 x5 x6 x9 (ix4 b hh s j) = weightR (fun j => y (ix4 b hh s j)) j := by
  unfold weightR
  rw [← largest_of x0 x1 x2 x3 x4 x5 x6 x9 y h b s hh, ← shift_at x0 x1 x2 x3 x4 x5 x6 x9 b s hh j, val_main_v76_apply,
    val_main_v75_apply, ← h]
  rfl

theorem mean_of (w : FVec Ideal S8x4x2048x256 .f32) (h : w = val_main_v76 (F := Ideal) x0 x1 x2 x3 x4 x5 x6 x9) (b : Fin 8) (s : Fin 2048) (hh : Fin 4) (e : Fin 128) :
    val_main_v81 (F := Ideal) x0 x1 x2 x3 x4 x5 x6 x9 x10 (ix4 b hh e s)
      = ∑ j, x10 (ix4 2 b j (headCol hh e)) * Ideal.div (w (ix4 b hh s j)) (∑ k, w (ix4 b hh s k)) := by
  unfold val_main_v81 val_main_v80 val_main_v79 val_main_v78 val_main_v77
  rw [← h]
  pointwise [val_main_v66, val_main_v65, val_main_v64, val_main_cst_9]
  rfl

theorem mean_at (b : Fin 8) (s : Fin 2048) (hh : Fin 4) (e : Fin 128) :
    val_main_v81 (F := Ideal) x0 x1 x2 x3 x4 x5 x6 x9 x10 (ix4 b hh e s)
      = meanR (scoreR x9 (bProj x0 x1 x2 x3 x4 x5 x6 b s) b hh) (fun j => x10 (ix4 2 b j (headCol hh e))) := by
  rw [mean_of x0 x1 x2 x3 x4 x5 x6 x9 x10 _ rfl]
  unfold meanR
  simp only [weight_at x0 x1 x2 x3 x4 x5 x6 x9 _ rfl, score_at]

theorem mean_row (b : Fin 8) (s : Fin 2048) (d : Fin 512) :
    val_main_v83 (F := Ideal) x0 x1 x2 x3 x4 x5 x6 x9 x10 (ix3 b s d)
      = meanR (scoreR x9 (bProj x0 x1 x2 x3 x4 x5 x6 b s) b (colHead d)) (fun j => x10 (ix4 2 b j d)) := by
  have h := mean_at x0 x1 x2 x3 x4 x5 x6 x9 x10 b s (colHead d) (colIn d)
  rw [headCol_colIn] at h
  rw [← h]
  unfold val_main_v83 val_main_v82
  generalize val_main_v81 (F := Ideal) x0 x1 x2 x3 x4 x5 x6 x9 x10 = y
  pointwise
  rfl

theorem memory_out (T : Fin 16384) (d : Fin 512) : val_main_v98 (F := Ideal) x0 x1 x2 x3 x4 x5 x6 x9 x10 (ix2 T d)
    = meanR (scoreR x9 (bProj x0 x1 x2 x3 x4 x5 x6 (seqOf T) (posOf T)) (seqOf T) (colHead d)) (fun j => x10 (ix4 2 (seqOf T) j d))
        * siluR (bProj x0 x1 x2 x3 x4 x5 x6 (seqOf T) (posOf T) (bMemGate d)) := by
  rw [← proj_at, ← mean_row]
  unfold val_main_v98 val_main_v97 val_main_v85 val_main_v84 val_main_call0_v5 val_main_call0_v3 val_main_call0_v1 val_main_call0_v0 val_main_v41
  generalize val_main_v83 (F := Ideal) x0 x1 x2 x3 x4 x5 x6 x9 x10 = z
  generalize val_main_v37 (F := Ideal) x0 x1 x2 x3 x4 x5 x6 = y
  unfold siluR
  pointwise [val_main_call0_v4, val_main_call0_v2, val_main_call0_cst, val_main_call0_cst_0]
  rfl

end Cert.BReferenceIdeal.Trunk

end
-- ==== Proof.Trunk.BScalar.lean ====
/- The sliding-window layer's input projection: the kernel's rotated queries and memory read-outs agree with the reference's. -/
module

public import proofs.«01_k».proof.Proof.Trunk.BArray
public import proofs.«01_k».proof.Proof.Trunk.BRef
public import proofs.«01_k».proof.Proof.Trunk.InScalar

@[expose] public section

noncomputable section

namespace Cert.Trunk.B

open Cert.Trunk Idealize.ShloMosaic
open Cert.Swa (log2e)
open Cert.InKernelIdeal.Trunk (memoryK memCol headOf)
open Cert.InReferenceIdeal.Trunk (siluR weightR meanR)
open Cert.BKernelIdeal.Trunk (rowScore rowRope ropeK)
open Cert.BReferenceIdeal.Trunk (scoreR ropeR turnR)

theorem named_scale : Named.named (F := Ideal) (φ := .f32) Cert.BKernelIdeal.κ "mem_scale" 0x3E0293EE#32
    = ((11863283 / 134217728 * log2e : ℝ) : EReal) :=
  IdealRules.named_const.ideal_named_scalar _ _ _ _ rfl

theorem named_eighth : Named.named (F := Ideal) (φ := .f32) Cert.BKernelIdeal.κ "swa_scale" 0x3E38AA3B#32
    = ((1 / 8 * log2e : ℝ) : EReal) :=
  IdealRules.named_const.ideal_named_scalar _ _ _ _ rfl

theorem eighth : Ideal.ofBits .f32 0x3E000000#32 = ((1 / 8 : ℝ) : EReal) := by
  simp [Ideal.ofBits, Ideal.ieee, -EReal.coe_mul]; norm_num

/-- An eighth, then a division by the logarithm of two, is one factor. -/
theorem scaled (z : EReal) : Ideal.div (z * Ideal.ofBits .f32 0x3E000000#32) (Ideal.log (Ideal.ofBits .f32 0x40000000#32))
    = z * ((1 / 8 * log2e : ℝ) : EReal) := by
  rw [eighth, two, log_pos_coe (by norm_num : (0:ℝ) < 2), Ideal.div_coe (Real.log_pos (by norm_num)).ne', mul_assoc, ← EReal.coe_mul]
  congr 2
  rw [one_div (Real.log 2)]
  rfl

/-- THE ROTATION'S IDEA: the mate's product with a negated sine is what the reference subtracts. -/
theorem rope_eq (p : Fin 3072 → EReal) (C : Fin 1024) (cos sin : Fin 32 → EReal) :
    rowRope p C cos sin = ropeR C (p (bQuery C)) (p (bQuery (pairCol C))) (cos (angle C)) (sin (angle C)) := by
  unfold rowRope ropeK ropeR turnR
  rw [scaled, named_eighth]
  split_ifs
  · rw [mul_neg, sub_eq_add_neg]
  · rfl

section

variable (p : Fin 3072 → EReal) (x9 : FVec Ideal ⟨4, ![4, 8, 256, 512]⟩ .f32) (hp : ∀ c, IsReal (p c)) (h9 : ∀ i, IsReal (x9 i)) (b : Fin 8) (hh : Fin 4)
include hp h9

/-- The scores of a token and a head are real, and the kernel's are the reference's in base two. -/
theorem scores_real : ∃ g : Fin 256 → ℝ, (∀ j, scoreR x9 p b hh j = (g j : EReal)) ∧ ∀ j, rowScore p x9 b hh j = (g j : EReal) * (log2e : EReal) := by
  choose q hq using fun e : Fin 128 => hp (bMemQuery (headCol hh e))
  choose k hk using fun j : Fin 256 => fun e : Fin 128 => h9 (ix4 2 b j (headCol hh e))
  have hcol : ∀ e : Fin 128, memCol hh e = headCol hh e := fun e => Fin.ext (by simp only [memCol, headCol]; omega)
  refine ⟨fun j => (∑ e, q e * k j e) * (11863283 / 134217728), fun j => ?_, fun j => ?_⟩
  · unfold scoreR
    rw [scale, EReal.coe_mul, ← Cert.Swa.coe_sum]
    exact congrArg (· * _) (Finset.sum_congr rfl fun e _ => by rw [hq, hk, EReal.coe_mul])
  · have h : ∀ e : Fin 128, p (bMemQuery (memCol hh e)) * Named.named (F := Ideal) (φ := .f32) Cert.BKernelIdeal.κ "mem_scale" 0x3E0293EE#32
        * x9 (ix4 2 b j (memCol hh e)) = ((q e * (11863283 / 134217728 * log2e) * k j e : ℝ) : EReal) := fun e => by
      rw [named_scale, hcol, hq, hk, ← EReal.coe_mul, ← EReal.coe_mul]
    unfold rowScore
    rw [Finset.sum_congr rfl fun e _ => h e, Cert.Swa.coe_sum, ← EReal.coe_mul]
    congr 1
    show _ = (∑ e, q e * k j e) * (11863283 / 134217728) * log2e
    rw [Finset.sum_mul, Finset.sum_mul]
    exact Finset.sum_congr rfl fun e _ => by ring

theorem memory_coe (v : Fin 256 → EReal) (x : ℝ) :
    memoryK (rowScore p x9 b hh) v (x : EReal) = meanR (scoreR x9 p b hh) v * siluR (x : EReal) := by
  obtain ⟨g, h1, h2⟩ := scores_real p x9 hp h9 b hh
  rw [funext h2, funext h1]
  unfold memoryK meanR weightR
  rw [silu_coe]
  exact congrArg (· * _) (mean_eq (by decide) g v)

end

end Cert.Trunk.B

end
-- ==== Proof.Trunk.BFinite.lean ====
/- What the sliding-window layer's input projection's precondition says: the layer's gain and weights and the memory's keys
are real numbers. -/
module

public import proofs.«01_k».proof.Pre_b_finite
public import proofs.«01_k».proof.Proof.Swa.Finite
public import proofs.«01_k».proof.Proof.Trunk.InReal
public import proofs.«01_k».proof.Proof.Trunk.InFinite
public import proofs.«01_k».proof.Proof.Trunk.BRow

@[expose] public section

noncomputable section

namespace Cert.Trunk

open Cert.Pre_b_finite Idealize.ShloMosaic

instance bArrayFacts : Cert.Pre_b_finite.Facts where
  bcast_S_S4x1024 := by decide
  bcast_S_S2x1024x3072 := by decide
  bcast_S_S4x8x256x512 := by decide

variable {x0 x1 : FVec Ideal S8x2048x1024 .f32} {x2 : FVec Ideal S8x2048x512 .f32} {x3 : FVec Ideal S2x1536x1024 .f32} {x4 x5 : FVec Ideal S4x1024 .f32}
  {x6 : FVec Ideal S2x1024x3072 .f32} {x7 x8 : FVec Ideal S8x2048x32 .f32} {x9 x10 : FVec Ideal S4x8x256x512 .f32}

/-- The gain, the weights and the memory's keys are real numbers. -/
structure BReals (x5 : FVec Ideal S4x1024 .f32) (x6 : FVec Ideal S2x1024x3072 .f32) (x9 : FVec Ideal S4x8x256x512 .f32) : Prop where
  r5 : ∀ i, IsReal (x5 i)
  r6 : ∀ i, IsReal (x6 i)
  r9 : ∀ i, IsReal (x9 i)

theorem bReals_of {u : IVec S4x1024 1 × IVec S2x1024x3072 1 × IVec S4x8x256x512 1}
    (hu : fn (F := Ideal) x0 x1 x2 x3 x4 x5 x6 x7 x8 x9 x10 = u)
    (h : u.1 = (fun _ => 1#1) ∧ u.2.1 = (fun _ => 1#1) ∧ u.2.2 = (fun _ => 1#1)) : BReals x5 x6 x9 := by
  subst hu
  obtain ⟨h5, h6, h9⟩ := h
  exact ⟨real_of x5 _ h5, real_of x6 _ h6, real_of x9 _ h9⟩

theorem BReals.proj (h : BReals x5 x6 x9) (b : Fin 8) (s : Fin 2048) (c : Fin 3072) : IsReal (bProj x0 x1 x2 x3 x4 x5 x6 b s c) :=
  IsReal.sum fun e => (normed_real _ (fun _ => h.r5 _) e).mul (h.r6 _)

end Cert.Trunk

end
-- ==== Proof.Trunk.BEqual.lean ====
/- The sliding-window layer's input projection's call and its reference give the same four arrays. -/
module

public import proofs.«01_k».proof.Proof.Trunk.BScalar
public import proofs.«01_k».proof.Proof.Trunk.BFinite

@[expose] public section

noncomputable section

namespace Cert.Trunk.B

open Cert.Trunk Cert.BKernelIdeal Idealize.ShloMosaic Idealize.ShloMosaic.TcCoe Idealize.SL.Sem
open Cert.InKernelIdeal.Trunk (siluK)
open Cert.InReferenceIdeal.Trunk (siluR)
open Cert.BReferenceIdeal.Read (val_main_v86 val_main_v92 val_main_v96 val_main_v98)

variable (m : (ℓ : Loc nD τ sig) → Buf (Elt Ideal) ℓ) (c : Dev nD)
variable (h : BReals (m ((c.tc : Thread nD τ).loc main_arg5)) (m ((c.tc : Thread nD τ).loc main_arg6)) (m ((c.tc : Thread nD τ).loc main_arg9)))

theorem stream_eq_ref : (Gen.dats m 0 c).arrAt 11 cfg0.N = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Trunk.stream_array]
  funext y
  obtain ⟨T, d, rfl⟩ : ∃ (T : Fin 16384) (d : Fin 1024), y = ix2 T d := ⟨y 0, y 1, funext fun a => by fin_cases a <;> rfl⟩
  exact (Cert.BReferenceIdeal.Trunk.stream_out _ _ _ _ _ T d).symm

theorem query_eq_ref : (Gen.dats m 0 c).arrAt 12 cfg0.N = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Trunk.query_array]
  funext y
  obtain ⟨d, T, rfl⟩ : ∃ (d : Fin 1024) (T : Fin 16384), y = ix2 d T := ⟨y 0, y 1, funext fun a => by fin_cases a <;> rfl⟩
  refine Eq.trans ?_ (Cert.BReferenceIdeal.Trunk.query_out _ _ _ _ _ _ _ _ _ T d).symm
  exact rope_eq _ d _ _

include h

theorem gate_eq_ref : (Gen.dats m 0 c).arrAt 13 cfg0.N = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Trunk.gate_array]
  funext y
  obtain ⟨d, T, rfl⟩ : ∃ (d : Fin 1024) (T : Fin 16384), y = ix2 d T := ⟨y 0, y 1, funext fun a => by fin_cases a <;> rfl⟩
  obtain ⟨x, hx⟩ := h.proj (seqOf T) (posOf T) (bGate d)
  refine Eq.trans ?_ (Cert.BReferenceIdeal.Trunk.gate_out _ _ _ _ _ _ _ T d).symm
  exact (congrArg siluK hx).trans ((silu_coe x).trans (congrArg siluR hx.symm))

theorem memory_eq_ref : (Gen.dats m 0 c).arrAt 14 cfg0.N = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) := by
  rw [Trunk.memory_array]
  funext y
  obtain ⟨T, d, rfl⟩ : ∃ (T : Fin 16384) (d : Fin 512), y = ix2 T d := ⟨y 0, y 1, funext fun a => by fin_cases a <;> rfl⟩
  obtain ⟨x, hx⟩ := h.proj (seqOf T) (posOf T) (bMemGate d)
  refine Eq.trans ?_ (Cert.BReferenceIdeal.Trunk.memory_out _ _ _ _ _ _ _ _ _ T d).symm
  have e := memory_coe _ _ (fun k => h.proj (x0 := m ((c.tc : Thread nD τ).loc main_arg0)) (x1 := m ((c.tc : Thread nD τ).loc main_arg1)) (x2 := m ((c.tc : Thread nD τ).loc main_arg2)) (x3 := m ((c.tc : Thread nD τ).loc main_arg3)) (x4 := m ((c.tc : Thread nD τ).loc main_arg4)) (seqOf T) (posOf T) k) h.r9 (seqOf T) (colHead d)
    (fun j => (m ((c.tc : Thread nD τ).loc main_arg10) : FVec Ideal S4x8x256x512 .f32) (ix4 2 (seqOf T) j d)) x
  rw [← hx] at e
  exact e

end Cert.Trunk.B

end
-- ==== Proof.lean ====
/- The proof of the certificate's claim. -/
module

public import proofs.«01_k».proof.Proof.Swa.Equal
public import proofs.«01_k».proof.Proof.Trunk.OutEqual
public import proofs.«01_k».proof.Proof.Trunk.InEqual
public import proofs.«01_k».proof.Proof.Trunk.BEqual
public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.OutKernelIdeal.Value
public import proofs.«01_k».proof.Proof.Gen.OutReferenceIdeal.Run
public import proofs.«01_k».proof.Proof.Gen.OutReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.InKernelIdeal.Value
public import proofs.«01_k».proof.Proof.Gen.InReferenceIdeal
public import proofs.«01_k».proof.Proof.Gen.BKernelIdeal.Value
public import proofs.«01_k».proof.Proof.Gen.BReferenceIdeal.Run
public import proofs.«01_k».proof.Proof.Gen.BReferenceIdeal.Read
public import proofs.«01_k».proof.Proof.Gen.BKernel
public import proofs.«01_k».proof.Proof.Gen.BKernel.Skeleton
public import proofs.«01_k».proof.Proof.Gen.BKernel.Launch
public import proofs.«01_k».proof.Proof.Gen.BKernel.Points
public import proofs.«01_k».proof.Proof.Gen.BKernel.Frame
public import proofs.«01_k».proof.Proof.Gen.BKernelIdeal
public import proofs.«01_k».proof.Proof.Gen.BKernelIdeal.Skeleton
public import proofs.«01_k».proof.Proof.Gen.BKernelIdeal.Launch
public import proofs.«01_k».proof.Proof.Gen.BKernelIdeal.Points
public import proofs.«01_k».proof.Proof.Gen.BKernelIdeal.Frame
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.BReferenceIdeal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, keeps its arguments, and declares no semaphore. -/
theorem reference_frame : quiescent_ReferenceIdeal := by
  intro m g _
  refine (θ_run _ _ _).mono (fun r h => ⟨fun c => (h c).2, ?_⟩) (Cert.ReferenceIdeal.Value.run m g)
  exact sem_eq_zero_of_no_sems rfl r.2

theorem preserves : preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- The kernel and the reference end with the same array. -/
theorem algebraic : algebraic_KernelIdeal_ReferenceIdeal_pre_finite := by
  intro m g m' g' hfinite hargs
  refine ⟨fun c => (Cert.KernelIdeal.Gen.dats m 0 c).arrAt 7 Cert.KernelIdeal.cfg0.N, Cert.KernelIdeal.Value.run_blocks m g, ?_⟩
  refine (θ_run _ _ _).mono (fun r h c => ?_) (Cert.ReferenceIdeal.Value.run m' g')
  obtain ⟨hout, hkept⟩ := h c
  refine ⟨hout.trans ?_, hkept⟩
  obtain ⟨h0, h1, h2, h3, h4⟩ := hargs c
  rw [Cert.ReferenceIdeal.Read.val_main_v72_eq, h0, h1, h2, h3, h4]
  exact (Cert.Swa.array_eq_ref m c _ _ _ (Cert.Swa.reals_of_finite _ _ _ _ _ (hfinite c))).symm

/-- The last projection's reference runs, keeps its arguments, and declares no semaphore. -/
theorem out_reference_frame : quiescent_OutReferenceIdeal := by
  intro m g _
  refine (θ_run _ _ _).mono (fun r h => ⟨fun c => (h c).2, ?_⟩) (Cert.OutReferenceIdeal.Value.run m g)
  exact sem_eq_zero_of_no_sems rfl r.2

/-- The last projection and its reference end with the same array. -/
theorem out_algebraic : algebraic_OutKernelIdeal_OutReferenceIdeal := by
  intro m g m' g' _ hargs
  refine ⟨fun c => (Cert.OutKernelIdeal.Gen.dats m 0 c).arrAt 5 Cert.OutKernelIdeal.cfg0.N, Cert.OutKernelIdeal.Value.run_blocks m g, ?_⟩
  refine (θ_run _ _ _).mono (fun r h c => ?_) (Cert.OutReferenceIdeal.Value.run m' g')
  obtain ⟨hout, hkept⟩ := h c
  refine ⟨hout.trans ?_, hkept⟩
  obtain ⟨h0, h1, h2, h3, h4⟩ := hargs c
  rw [Cert.OutReferenceIdeal.Read.val_main_v20_eq, h0, h1, h2, h3, h4]
  exact (Cert.Trunk.array_eq_ref m c).symm

/-- The input projection's reference runs, keeps its arguments, and declares no semaphore. -/
theorem in_reference_frame : quiescent_InReferenceIdeal := by
  intro m g _
  refine (θ_run _ _ _).mono (fun r h => ⟨fun c => (h c).2.2.2.2.2.2.2, ?_⟩) (Cert.InReferenceIdeal.Value.run m g)
  exact sem_eq_zero_of_no_sems rfl r.2

theorem in_preserves : preserves_InKernel_InKernelIdeal :=
  ⟨IdealRules.named_const.statement Cert.InKernelIdeal.κ "mem_scale" .f32 0x3E0293EE#32
      (((11863283 / 134217728) * (Real.log 2)⁻¹ : ℝ) : EReal) rfl,
    IdealRules.named_const.statement Cert.InKernelIdeal.κ "log2e" .f32 0x3FB8AA3B#32 (((Real.log 2)⁻¹ : ℝ) : EReal) rfl⟩

section

variable (m : (ℓ : Loc Cert.InKernelIdeal.nD Cert.InKernelIdeal.τ Cert.InKernelIdeal.sig) → Buf (Elt Ideal) ℓ) (c : Dev Cert.InKernelIdeal.nD)
  (V : Valuation Cert.InReferenceIdeal.τ Cert.InReferenceIdeal.sig (Elt Ideal))
  (h0 : (V (Proc.devRef .tc Cert.InReferenceIdeal.main_arg0)) = m ((c.tc : Thread Cert.InKernelIdeal.nD Cert.InKernelIdeal.τ).loc Cert.InKernelIdeal.main_arg0))
  (h1 : (V (Proc.devRef .tc Cert.InReferenceIdeal.main_arg1)) = m ((c.tc : Thread Cert.InKernelIdeal.nD Cert.InKernelIdeal.τ).loc Cert.InKernelIdeal.main_arg1))
  (h2 : (V (Proc.devRef .tc Cert.InReferenceIdeal.main_arg2)) = m ((c.tc : Thread Cert.InKernelIdeal.nD Cert.InKernelIdeal.τ).loc Cert.InKernelIdeal.main_arg2))
  (h3 : (V (Proc.devRef .tc Cert.InReferenceIdeal.main_arg3)) = m ((c.tc : Thread Cert.InKernelIdeal.nD Cert.InKernelIdeal.τ).loc Cert.InKernelIdeal.main_arg3))
  (h4 : (V (Proc.devRef .tc Cert.InReferenceIdeal.main_arg4)) = m ((c.tc : Thread Cert.InKernelIdeal.nD Cert.InKernelIdeal.τ).loc Cert.InKernelIdeal.main_arg4))
  (h5 : (V (Proc.devRef .tc Cert.InReferenceIdeal.main_arg5)) = m ((c.tc : Thread Cert.InKernelIdeal.nD Cert.InKernelIdeal.τ).loc Cert.InKernelIdeal.main_arg5))
  (h6 : (V (Proc.devRef .tc Cert.InReferenceIdeal.main_arg6)) = m ((c.tc : Thread Cert.InKernelIdeal.nD Cert.InKernelIdeal.τ).loc Cert.InKernelIdeal.main_arg6))
  (h7 : (V (Proc.devRef .tc Cert.InReferenceIdeal.main_arg7)) = m ((c.tc : Thread Cert.InKernelIdeal.nD Cert.InKernelIdeal.τ).loc Cert.InKernelIdeal.main_arg7))
  (h8 : (V (Proc.devRef .tc Cert.InReferenceIdeal.main_arg8)) = m ((c.tc : Thread Cert.InKernelIdeal.nD Cert.InKernelIdeal.τ).loc Cert.InKernelIdeal.main_arg8))
  (h9 : (V (Proc.devRef .tc Cert.InReferenceIdeal.main_arg9)) = m ((c.tc : Thread Cert.InKernelIdeal.nD Cert.InKernelIdeal.τ).loc Cert.InKernelIdeal.main_arg9))
  (hr : Cert.Trunk.InReals (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)))

include h0 h1 h2 h3 h4 in
theorem in_stream : Cert.InReferenceIdeal.Read.val_main_v118 (F := Ideal) (V (Proc.devRef .tc Cert.InReferenceIdeal.main_arg0)) (V (Proc.devRef .tc Cert.InReferenceIdeal.main_arg1)) (V (Proc.devRef .tc Cert.InReferenceIdeal.main_arg2)) (V (Proc.devRef .tc Cert.InReferenceIdeal.main_arg3)) (V (Proc.devRef .tc Cert.InReferenceIdeal.main_arg4))
    = (Cert.InKernelIdeal.Gen.dats m 0 c).arrAt 10 Cert.InKernelIdeal.cfg0.N := by
  rw [h0, h1, h2, h3, h4]
  exact (Cert.Trunk.stream_eq_ref m c).symm

include h0 h1 h2 h3 h4 h5 h6 hr in
theorem in_query : Cert.InReferenceIdeal.Read.val_main_v120 (F := Ideal) (V (Proc.devRef .tc Cert.InReferenceIdeal.main_arg0)) (V (Proc.devRef .tc Cert.InReferenceIdeal.main_arg1)) (V (Proc.devRef .tc Cert.InReferenceIdeal.main_arg2)) (V (Proc.devRef .tc Cert.InReferenceIdeal.main_arg3)) (V (Proc.devRef .tc Cert.InReferenceIdeal.main_arg4)) (V (Proc.devRef .tc Cert.InReferenceIdeal.main_arg5)) (V (Proc.devRef .tc Cert.InReferenceIdeal.main_arg6))
    = (Cert.InKernelIdeal.Gen.dats m 0 c).arrAt 11 Cert.InKernelIdeal.cfg0.N := by
  rw [h0, h1, h2, h3, h4, h5, h6]
  exact (Cert.Trunk.query_eq_ref m c hr).symm

include h0 h1 h2 h3 h4 h5 h6 h7 hr in
theorem in_forget : Cert.InReferenceIdeal.Read.val_main_v124 (F := Ideal) (V (Proc.devRef .tc Cert.InReferenceIdeal.main_arg0)) (V (Proc.devRef .tc Cert.InReferenceIdeal.main_arg1)) (V (Proc.devRef .tc Cert.InReferenceIdeal.main_arg2)) (V (Proc.devRef .tc Cert.InReferenceIdeal.main_arg3)) (V (Proc.devRef .tc Cert.InReferenceIdeal.main_arg4)) (V (Proc.devRef .tc Cert.InReferenceIdeal.main_arg5)) (V (Proc.devRef .tc Cert.InReferenceIdeal.main_arg6)) (V (Proc.devRef .tc Cert.InReferenceIdeal.main_arg7))
    = (Cert.InKernelIdeal.Gen.dats m 0 c).arrAt 12 Cert.InKernelIdeal.cfg0.N := by
  rw [h0, h1, h2, h3, h4, h5, h6, h7]
  exact (Cert.Trunk.forget_eq_ref m c hr).symm

include h0 h1 h2 h3 h4 h5 h6 h7 hr in
theorem in_key : Cert.InReferenceIdeal.Read.val_main_v126 (F := Ideal) (V (Proc.devRef .tc Cert.InReferenceIdeal.main_arg0)) (V (Proc.devRef .tc Cert.InReferenceIdeal.main_arg1)) (V (Proc.devRef .tc Cert.InReferenceIdeal.main_arg2)) (V (Proc.devRef .tc Cert.InReferenceIdeal.main_arg3)) (V (Proc.devRef .tc Cert.InReferenceIdeal.main_arg4)) (V (Proc.devRef .tc Cert.InReferenceIdeal.main_arg5)) (V (Proc.devRef .tc Cert.InReferenceIdeal.main_arg6)) (V (Proc.devRef .tc Cert.InReferenceIdeal.main_arg7))
    = (Cert.InKernelIdeal.Gen.dats m 0 c).arrAt 13 Cert.InKernelIdeal.cfg0.N := by
  rw [h0, h1, h2, h3, h4, h5, h6, h7]
  exact (Cert.Trunk.key_eq_ref m c hr).symm

include h0 h1 h2 h3 h4 h5 h6 in
theorem in_value : Cert.InReferenceIdeal.Read.val_main_v128 (F := Ideal) (V (Proc.devRef .tc Cert.InReferenceIdeal.main_arg0)) (V (Proc.devRef .tc Cert.InReferenceIdeal.main_arg1)) (V (Proc.devRef .tc Cert.InReferenceIdeal.main_arg2)) (V (Proc.devRef .tc Cert.InReferenceIdeal.main_arg3)) (V (Proc.devRef .tc Cert.InReferenceIdeal.main_arg4)) (V (Proc.devRef .tc Cert.InReferenceIdeal.main_arg5)) (V (Proc.devRef .tc Cert.InReferenceIdeal.main_arg6))
    = (Cert.InKernelIdeal.Gen.dats m 0 c).arrAt 14 Cert.InKernelIdeal.cfg0.N := by
  rw [h0, h1, h2, h3, h4, h5, h6]
  exact (Cert.Trunk.value_eq_ref m c).symm

include h0 h1 h2 h3 h4 h5 h6 hr in
theorem in_gate : Cert.InReferenceIdeal.Read.val_main_v131 (F := Ideal) (V (Proc.devRef .tc Cert.InReferenceIdeal.main_arg0)) (V (Proc.devRef .tc Cert.InReferenceIdeal.main_arg1)) (V (Proc.devRef .tc Cert.InReferenceIdeal.main_arg2)) (V (Proc.devRef .tc Cert.InReferenceIdeal.main_arg3)) (V (Proc.devRef .tc Cert.InReferenceIdeal.main_arg4)) (V (Proc.devRef .tc Cert.InReferenceIdeal.main_arg5)) (V (Proc.devRef .tc Cert.InReferenceIdeal.main_arg6))
    = (Cert.InKernelIdeal.Gen.dats m 0 c).arrAt 15 Cert.InKernelIdeal.cfg0.N := by
  rw [h0, h1, h2, h3, h4, h5, h6]
  exact (Cert.Trunk.gate_eq_ref m c hr).symm

include h0 h1 h2 h3 h4 h5 h6 h8 h9 hr in
theorem in_memory : Cert.InReferenceIdeal.Read.val_main_v133 (F := Ideal) (V (Proc.devRef .tc Cert.InReferenceIdeal.main_arg0)) (V (Proc.devRef .tc Cert.InReferenceIdeal.main_arg1)) (V (Proc.devRef .tc Cert.InReferenceIdeal.main_arg2)) (V (Proc.devRef .tc Cert.InReferenceIdeal.main_arg3)) (V (Proc.devRef .tc Cert.InReferenceIdeal.main_arg4)) (V (Proc.devRef .tc Cert.InReferenceIdeal.main_arg5)) (V (Proc.devRef .tc Cert.InReferenceIdeal.main_arg6)) (V (Proc.devRef .tc Cert.InReferenceIdeal.main_arg8)) (V (Proc.devRef .tc Cert.InReferenceIdeal.main_arg9))
    = (Cert.InKernelIdeal.Gen.dats m 0 c).arrAt 16 Cert.InKernelIdeal.cfg0.N := by
  rw [h0, h1, h2, h3, h4, h5, h6, h8, h9]
  exact (Cert.Trunk.memory_eq_ref m c hr).symm

end

/-- The input projection and its reference end with the same seven arrays. -/
theorem in_algebraic : algebraic_InKernelIdeal_InReferenceIdeal_pre_a_finite := by
  intro m g m' g' hfinite hargs
  refine ⟨fun c => (Cert.InKernelIdeal.Gen.dats m 0 c).arrAt 10 Cert.InKernelIdeal.cfg0.N,
    fun c => (Cert.InKernelIdeal.Gen.dats m 0 c).arrAt 11 Cert.InKernelIdeal.cfg0.N,
    fun c => (Cert.InKernelIdeal.Gen.dats m 0 c).arrAt 12 Cert.InKernelIdeal.cfg0.N,
    fun c => (Cert.InKernelIdeal.Gen.dats m 0 c).arrAt 13 Cert.InKernelIdeal.cfg0.N,
    fun c => (Cert.InKernelIdeal.Gen.dats m 0 c).arrAt 14 Cert.InKernelIdeal.cfg0.N,
    fun c => (Cert.InKernelIdeal.Gen.dats m 0 c).arrAt 15 Cert.InKernelIdeal.cfg0.N,
    fun c => (Cert.InKernelIdeal.Gen.dats m 0 c).arrAt 16 Cert.InKernelIdeal.cfg0.N, Cert.InKernelIdeal.Value.run_blocks m g, ?_⟩
  refine (θ_run _ _ _).mono (fun r h c => ?_) (Cert.InReferenceIdeal.Value.run m' g')
  obtain ⟨o0, o1, o2, o3, o4, o5, o6, hkept⟩ := h c
  obtain ⟨h0, h1, h2, h3, h4, h5, h6, h7, h8, h9⟩ := hargs c
  have hr := Cert.Trunk.inReals_of rfl (hfinite c)
  refine ⟨o0.trans ?_, o1.trans ?_, o2.trans ?_, o3.trans ?_, o4.trans ?_, o5.trans ?_, o6.trans ?_, hkept⟩
  · rw [Cert.InReferenceIdeal.Read.val_main_v118_eq]
    exact in_stream m c _ h0 h1 h2 h3 h4
  · rw [Cert.InReferenceIdeal.Read.val_main_v120_eq]
    exact in_query m c _ h0 h1 h2 h3 h4 h5 h6 hr
  · rw [Cert.InReferenceIdeal.Read.val_main_v124_eq]
    exact in_forget m c _ h0 h1 h2 h3 h4 h5 h6 h7 hr
  · rw [Cert.InReferenceIdeal.Read.val_main_v126_eq]
    exact in_key m c _ h0 h1 h2 h3 h4 h5 h6 h7 hr
  · rw [Cert.InReferenceIdeal.Read.val_main_v128_eq]
    exact in_value m c _ h0 h1 h2 h3 h4 h5 h6
  · rw [Cert.InReferenceIdeal.Read.val_main_v131_eq]
    exact in_gate m c _ h0 h1 h2 h3 h4 h5 h6 hr
  · rw [Cert.InReferenceIdeal.Read.val_main_v133_eq]
    exact in_memory m c _ h0 h1 h2 h3 h4 h5 h6 h8 h9 hr

/-- The sliding-window layer's input projection's reference runs, keeps its arguments, and declares no semaphore. -/
theorem b_reference_frame : quiescent_BReferenceIdeal := by
  intro m g _
  refine (θ_run _ _ _).mono (fun r h => ⟨fun c => (h c).2.2.2.2, ?_⟩) (Cert.BReferenceIdeal.Value.run m g)
  exact sem_eq_zero_of_no_sems rfl r.2

theorem b_preserves : preserves_BKernel_BKernelIdeal :=
  ⟨IdealRules.named_const.statement Cert.BKernelIdeal.κ "mem_scale" .f32 0x3E0293EE#32
      (((11863283 / 134217728) * (Real.log 2)⁻¹ : ℝ) : EReal) rfl,
    IdealRules.named_const.statement Cert.BKernelIdeal.κ "swa_scale" .f32 0x3E38AA3B#32 (((1 / 8) * (Real.log 2)⁻¹ : ℝ) : EReal) rfl⟩

section

variable (m : (ℓ : Loc Cert.BKernelIdeal.nD Cert.BKernelIdeal.τ Cert.BKernelIdeal.sig) → Buf (Elt Ideal) ℓ) (c : Dev Cert.BKernelIdeal.nD)
  (m' : (ℓ : Loc Cert.BReferenceIdeal.nD Cert.BReferenceIdeal.τ Cert.BReferenceIdeal.sig) → Buf (Elt Ideal) ℓ)
  (h0 : (m' ((c.tc : Thread Cert.BReferenceIdeal.nD Cert.BReferenceIdeal.τ).loc Cert.BReferenceIdeal.main_arg0)) = m ((c.tc : Thread Cert.BKernelIdeal.nD Cert.BKernelIdeal.τ).loc Cert.BKernelIdeal.main_arg0))
  (h1 : (m' ((c.tc : Thread Cert.BReferenceIdeal.nD Cert.BReferenceIdeal.τ).loc Cert.BReferenceIdeal.main_arg1)) = m ((c.tc : Thread Cert.BKernelIdeal.nD Cert.BKernelIdeal.τ).loc Cert.BKernelIdeal.main_arg1))
  (h2 : (m' ((c.tc : Thread Cert.BReferenceIdeal.nD Cert.BReferenceIdeal.τ).loc Cert.BReferenceIdeal.main_arg2)) = m ((c.tc : Thread Cert.BKernelIdeal.nD Cert.BKernelIdeal.τ).loc Cert.BKernelIdeal.main_arg2))
  (h3 : (m' ((c.tc : Thread Cert.BReferenceIdeal.nD Cert.BReferenceIdeal.τ).loc Cert.BReferenceIdeal.main_arg3)) = m ((c.tc : Thread Cert.BKernelIdeal.nD Cert.BKernelIdeal.τ).loc Cert.BKernelIdeal.main_arg3))
  (h4 : (m' ((c.tc : Thread Cert.BReferenceIdeal.nD Cert.BReferenceIdeal.τ).loc Cert.BReferenceIdeal.main_arg4)) = m ((c.tc : Thread Cert.BKernelIdeal.nD Cert.BKernelIdeal.τ).loc Cert.BKernelIdeal.main_arg4))
  (h5 : (m' ((c.tc : Thread Cert.BReferenceIdeal.nD Cert.BReferenceIdeal.τ).loc Cert.BReferenceIdeal.main_arg5)) = m ((c.tc : Thread Cert.BKernelIdeal.nD Cert.BKernelIdeal.τ).loc Cert.BKernelIdeal.main_arg5))
  (h6 : (m' ((c.tc : Thread Cert.BReferenceIdeal.nD Cert.BReferenceIdeal.τ).loc Cert.BReferenceIdeal.main_arg6)) = m ((c.tc : Thread Cert.BKernelIdeal.nD Cert.BKernelIdeal.τ).loc Cert.BKernelIdeal.main_arg6))
  (h7 : (m' ((c.tc : Thread Cert.BReferenceIdeal.nD Cert.BReferenceIdeal.τ).loc Cert.BReferenceIdeal.main_arg7)) = m ((c.tc : Thread Cert.BKernelIdeal.nD Cert.BKernelIdeal.τ).loc Cert.BKernelIdeal.main_arg7))
  (h8 : (m' ((c.tc : Thread Cert.BReferenceIdeal.nD Cert.BReferenceIdeal.τ).loc Cert.BReferenceIdeal.main_arg8)) = m ((c.tc : Thread Cert.BKernelIdeal.nD Cert.BKernelIdeal.τ).loc Cert.BKernelIdeal.main_arg8))
  (h9 : (m' ((c.tc : Thread Cert.BReferenceIdeal.nD Cert.BReferenceIdeal.τ).loc Cert.BReferenceIdeal.main_arg9)) = m ((c.tc : Thread Cert.BKernelIdeal.nD Cert.BKernelIdeal.τ).loc Cert.BKernelIdeal.main_arg9))
  (h10 : (m' ((c.tc : Thread Cert.BReferenceIdeal.nD Cert.BReferenceIdeal.τ).loc Cert.BReferenceIdeal.main_arg10)) = m ((c.tc : Thread Cert.BKernelIdeal.nD Cert.BKernelIdeal.τ).loc Cert.BKernelIdeal.main_arg10))
  (hr : Cert.Trunk.BReals (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6)) (m ((c.tc : Thread Cert.BKernelIdeal.nD Cert.BKernelIdeal.τ).loc Cert.BKernelIdeal.main_arg9)))

include h0 h1 h2 h3 h4 in
theorem b_stream : Cert.BReferenceIdeal.Read.val_main_v86 (F := Ideal) (m' ((c.tc : Thread Cert.BReferenceIdeal.nD Cert.BReferenceIdeal.τ).loc Cert.BReferenceIdeal.main_arg0)) (m' ((c.tc : Thread Cert.BReferenceIdeal.nD Cert.BReferenceIdeal.τ).loc Cert.BReferenceIdeal.main_arg1)) (m' ((c.tc : Thread Cert.BReferenceIdeal.nD Cert.BReferenceIdeal.τ).loc Cert.BReferenceIdeal.main_arg2)) (m' ((c.tc : Thread Cert.BReferenceIdeal.nD Cert.BReferenceIdeal.τ).loc Cert.BReferenceIdeal.main_arg3)) (m' ((c.tc : Thread Cert.BReferenceIdeal.nD Cert.BReferenceIdeal.τ).loc Cert.BReferenceIdeal.main_arg4))
    = (Cert.BKernelIdeal.Gen.dats m 0 c).arrAt 11 Cert.BKernelIdeal.cfg0.N := by
  rw [h0, h1, h2, h3, h4]
  exact (Cert.Trunk.B.stream_eq_ref m c).symm

include h0 h1 h2 h3 h4 h5 h6 h7 h8 in
theorem b_query : Cert.BReferenceIdeal.Read.val_main_v92 (F := Ideal) (m' ((c.tc : Thread Cert.BReferenceIdeal.nD Cert.BReferenceIdeal.τ).loc Cert.BReferenceIdeal.main_arg0)) (m' ((c.tc : Thread Cert.BReferenceIdeal.nD Cert.BReferenceIdeal.τ).loc Cert.BReferenceIdeal.main_arg1)) (m' ((c.tc : Thread Cert.BReferenceIdeal.nD Cert.BReferenceIdeal.τ).loc Cert.BReferenceIdeal.main_arg2)) (m' ((c.tc : Thread Cert.BReferenceIdeal.nD Cert.BReferenceIdeal.τ).loc Cert.BReferenceIdeal.main_arg3)) (m' ((c.tc : Thread Cert.BReferenceIdeal.nD Cert.BReferenceIdeal.τ).loc Cert.BReferenceIdeal.main_arg4)) (m' ((c.tc : Thread Cert.BReferenceIdeal.nD Cert.BReferenceIdeal.τ).loc Cert.BReferenceIdeal.main_arg5)) (m' ((c.tc : Thread Cert.BReferenceIdeal.nD Cert.BReferenceIdeal.τ).loc Cert.BReferenceIdeal.main_arg6)) (m' ((c.tc : Thread Cert.BReferenceIdeal.nD Cert.BReferenceIdeal.τ).loc Cert.BReferenceIdeal.main_arg7)) (m' ((c.tc : Thread Cert.BReferenceIdeal.nD Cert.BReferenceIdeal.τ).loc Cert.BReferenceIdeal.main_arg8))
    = (Cert.BKernelIdeal.Gen.dats m 0 c).arrAt 12 Cert.BKernelIdeal.cfg0.N := by
  rw [h0, h1, h2, h3, h4, h5, h6, h7, h8]
  exact (Cert.Trunk.B.query_eq_ref m c).symm

include h0 h1 h2 h3 h4 h5 h6 hr in
theorem b_gate : Cert.BReferenceIdeal.Read.val_main_v96 (F := Ideal) (m' ((c.tc : Thread Cert.BReferenceIdeal.nD Cert.BReferenceIdeal.τ).loc Cert.BReferenceIdeal.main_arg0)) (m' ((c.tc : Thread Cert.BReferenceIdeal.nD Cert.BReferenceIdeal.τ).loc Cert.BReferenceIdeal.main_arg1)) (m' ((c.tc : Thread Cert.BReferenceIdeal.nD Cert.BReferenceIdeal.τ).loc Cert.BReferenceIdeal.main_arg2)) (m' ((c.tc : Thread Cert.BReferenceIdeal.nD Cert.BReferenceIdeal.τ).loc Cert.BReferenceIdeal.main_arg3)) (m' ((c.tc : Thread Cert.BReferenceIdeal.nD Cert.BReferenceIdeal.τ).loc Cert.BReferenceIdeal.main_arg4)) (m' ((c.tc : Thread Cert.BReferenceIdeal.nD Cert.BReferenceIdeal.τ).loc Cert.BReferenceIdeal.main_arg5)) (m' ((c.tc : Thread Cert.BReferenceIdeal.nD Cert.BReferenceIdeal.τ).loc Cert.BReferenceIdeal.main_arg6))
    = (Cert.BKernelIdeal.Gen.dats m 0 c).arrAt 13 Cert.BKernelIdeal.cfg0.N := by
  rw [h0, h1, h2, h3, h4, h5, h6]
  exact (Cert.Trunk.B.gate_eq_ref m c hr).symm

include h0 h1 h2 h3 h4 h5 h6 h9 h10 hr in
theorem b_memory : Cert.BReferenceIdeal.Read.val_main_v98 (F := Ideal) (m' ((c.tc : Thread Cert.BReferenceIdeal.nD Cert.BReferenceIdeal.τ).loc Cert.BReferenceIdeal.main_arg0)) (m' ((c.tc : Thread Cert.BReferenceIdeal.nD Cert.BReferenceIdeal.τ).loc Cert.BReferenceIdeal.main_arg1)) (m' ((c.tc : Thread Cert.BReferenceIdeal.nD Cert.BReferenceIdeal.τ).loc Cert.BReferenceIdeal.main_arg2)) (m' ((c.tc : Thread Cert.BReferenceIdeal.nD Cert.BReferenceIdeal.τ).loc Cert.BReferenceIdeal.main_arg3)) (m' ((c.tc : Thread Cert.BReferenceIdeal.nD Cert.BReferenceIdeal.τ).loc Cert.BReferenceIdeal.main_arg4)) (m' ((c.tc : Thread Cert.BReferenceIdeal.nD Cert.BReferenceIdeal.τ).loc Cert.BReferenceIdeal.main_arg5)) (m' ((c.tc : Thread Cert.BReferenceIdeal.nD Cert.BReferenceIdeal.τ).loc Cert.BReferenceIdeal.main_arg6)) (m' ((c.tc : Thread Cert.BReferenceIdeal.nD Cert.BReferenceIdeal.τ).loc Cert.BReferenceIdeal.main_arg9)) (m' ((c.tc : Thread Cert.BReferenceIdeal.nD Cert.BReferenceIdeal.τ).loc Cert.BReferenceIdeal.main_arg10))
    = (Cert.BKernelIdeal.Gen.dats m 0 c).arrAt 14 Cert.BKernelIdeal.cfg0.N := by
  rw [h0, h1, h2, h3, h4, h5, h6, h9, h10]
  exact (Cert.Trunk.B.memory_eq_ref m c hr).symm

end

/-- The sliding-window layer's input projection and its reference end with the same four arrays. -/
theorem b_algebraic : algebraic_BKernelIdeal_BReferenceIdeal_pre_b_finite := by
  intro m g m' g' hfinite hargs
  refine ⟨fun c => (Cert.BKernelIdeal.Gen.dats m 0 c).arrAt 11 Cert.BKernelIdeal.cfg0.N,
    fun c => (Cert.BKernelIdeal.Gen.dats m 0 c).arrAt 12 Cert.BKernelIdeal.cfg0.N,
    fun c => (Cert.BKernelIdeal.Gen.dats m 0 c).arrAt 13 Cert.BKernelIdeal.cfg0.N,
    fun c => (Cert.BKernelIdeal.Gen.dats m 0 c).arrAt 14 Cert.BKernelIdeal.cfg0.N, Cert.BKernelIdeal.Value.run_blocks m g, ?_⟩
  refine (θ_run _ _ _).mono (fun r h c => ?_) (Cert.BReferenceIdeal.Value.run m' g')
  obtain ⟨o0, o1, o2, o3, hkept⟩ := h c
  obtain ⟨h0, h1, h2, h3, h4, h5, h6, h7, h8, h9, h10⟩ := hargs c
  have hr := Cert.Trunk.bReals_of rfl (hfinite c)
  refine ⟨o0.trans ?_, o1.trans ?_, o2.trans ?_, o3.trans ?_, hkept⟩
  · rw [Cert.BReferenceIdeal.Read.val_main_v86_eq]
    exact b_stream m c m' h0 h1 h2 h3 h4
  · rw [Cert.BReferenceIdeal.Read.val_main_v92_eq]
    exact b_query m c m' h0 h1 h2 h3 h4 h5 h6 h7 h8
  · rw [Cert.BReferenceIdeal.Read.val_main_v96_eq]
    exact b_gate m c m' h0 h1 h2 h3 h4 h5 h6 hr
  · rw [Cert.BReferenceIdeal.Read.val_main_v98_eq]
    exact b_memory m c m' h0 h1 h2 h3 h4 h5 h6 h9 h10 hr

theorem claim : Cert.Claim := ⟨Cert.Kernel.Gen.facts, Cert.KernelIdeal.Gen.facts, Cert.ReferenceIdeal.Gen.facts,
  Cert.OutKernel.Gen.facts, Cert.OutKernelIdeal.Gen.facts, Cert.OutReferenceIdeal.Gen.facts,
  Cert.InKernel.Gen.facts, Cert.InKernelIdeal.Gen.facts, Cert.InReferenceIdeal.Gen.facts,
  Cert.BKernel.Gen.facts, Cert.BKernelIdeal.Gen.facts, Cert.BReferenceIdeal.Gen.facts, Cert.Swa.finiteFacts, Cert.Trunk.arrayFacts,
  Cert.Trunk.bArrayFacts,
  fun m g _ => Cert.Kernel.Gen.frame m g, fun m g _ => Cert.KernelIdeal.Gen.frame m g, fun m g _ => Cert.KernelIdeal.Gen.frame m g,
  fun m g _ => reference_frame m g trivial, fun m g _ => reference_frame m g trivial,
  fun m g _ => Cert.OutKernel.Gen.frame m g, fun m g _ => Cert.OutKernelIdeal.Gen.frame m g,
  fun m g _ => out_reference_frame m g trivial,
  fun m g _ => Cert.InKernel.Gen.frame m g, fun m g _ => Cert.InKernelIdeal.Gen.frame m g, fun m g _ => Cert.InKernelIdeal.Gen.frame m g,
  fun m g _ => in_reference_frame m g trivial, fun m g _ => in_reference_frame m g trivial,
  fun m g _ => Cert.BKernel.Gen.frame m g, fun m g _ => Cert.BKernelIdeal.Gen.frame m g, fun m g _ => Cert.BKernelIdeal.Gen.frame m g,
  fun m g _ => b_reference_frame m g trivial, fun m g _ => b_reference_frame m g trivial,
  preserves, algebraic, trivial, out_algebraic, in_preserves, in_algebraic, b_preserves, b_algebraic⟩

end Cert.Proof

end
